-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x128
  ∧ IdealRules.bf16_pair.Statement Cert.KernelIdeal.S1x16x128 Cert.KernelIdeal.S1x8x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S1x2048 : Shape := ⟨2, ![1, 2048]⟩
abbrev S32512x8192 : Shape := ⟨2, ![32512, 8192]⟩
abbrev S32512 : Shape := ⟨1, ![32512]⟩
abbrev S8192 : Shape := ⟨1, ![8192]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : IVec S1x2048 32) (main_arg1 : IVec S32512x8192 8) (main_arg2 : FVec F S32512 .f32) (main_arg3 : FVec F S8192 .bf16) : IVec S1x2048 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 32512#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  main_v4
-- ==== Kernel.lean ====
abbrev S1x2048 : Shape := ⟨2, ![1, 2048]⟩
abbrev S32512x8192 : Shape := ⟨2, ![32512, 8192]⟩
abbrev S32512 : Shape := ⟨1, ![32512]⟩
abbrev S8192 : Shape := ⟨1, ![8192]⟩
abbrev S8128x4x8192 : Shape := ⟨3, ![8128, 4, 8192]⟩
abbrev S8128x8192x4 : Shape := ⟨3, ![8128, 8192, 4]⟩
abbrev S8128x8192 : Shape := ⟨2, ![8128, 8192]⟩
abbrev S1x8192 : Shape := ⟨2, ![1, 8192]⟩
abbrev S2048x8192 : Shape := ⟨2, ![2048, 8192]⟩
abbrev S8x8192 : Shape := ⟨2, ![8, 8192]⟩
abbrev S24x2x8x8192 : Shape := ⟨4, ![24, 2, 8, 8192]⟩
abbrev S8x16x8192 : Shape := ⟨3, ![8, 16, 8192]⟩
abbrev S2x8x128 : Shape := ⟨3, ![2, 8, 128]⟩
abbrev S3 : Shape := ⟨1, ![3]⟩
abbrev S24 : Shape := ⟨1, ![24]⟩
abbrev S8 : Shape := ⟨1, ![8]⟩
abbrev S1 : Shape := ⟨1, ![1]⟩
abbrev S_ : Shape := ⟨0, ![]⟩
abbrev S1x1 : Shape := ⟨2, ![1, 1]⟩
abbrev S1x1x1x8192 : Shape := ⟨4, ![1, 1, 1, 8192]⟩
abbrev S1x128 : Shape := ⟨2, ![1, 128]⟩
abbrev S1x1x128 : Shape := ⟨3, ![1, 1, 128]⟩
abbrev S1x1x8x8192 : Shape := ⟨4, ![1, 1, 8, 8192]⟩
abbrev S16x8192 : Shape := ⟨2, ![16, 8192]⟩
abbrev S1x16x8192 : Shape := ⟨3, ![1, 16, 8192]⟩
abbrev S1x8x128 : Shape := ⟨3, ![1, 8, 128]⟩
abbrev S8x128 : Shape := ⟨2, ![8, 128]⟩
abbrev S1x1x8x128 : Shape := ⟨4, ![1, 1, 8, 128]⟩
abbrev S8x8x8192 : Shape := ⟨3, ![8, 8, 8192]⟩
abbrev S1x16x128 : Shape := ⟨3, ![1, 16, 128]⟩
abbrev S8x1 : Shape := ⟨2, ![8, 1]⟩
abbrev S1x2048x8192 : Shape := ⟨3, ![1, 2048, 8192]⟩

abbrev nBuf : Space → Nat
  | .hbm => 12
  | .vmem => 7
  | .smem => 2
  | _ => 0

abbrev bufTy : (tb : Table) → Fin (tcTables nBuf tb) → BufTy
  | .hbm, ⟨0, _⟩ => ⟨S1x2048, .i32⟩
  | .hbm, ⟨1, _⟩ => ⟨S32512x8192, .i8⟩
  | .hbm, ⟨2, _⟩ => ⟨S32512, .f32⟩
  | .hbm, ⟨3, _⟩ => ⟨S8192, .bf16⟩
  | .hbm, ⟨4, _⟩ => ⟨S8128x4x8192, .i8⟩
  | .hbm, ⟨5, _⟩ => ⟨S8128x8192x4, .i8⟩
  | .hbm, ⟨6, _⟩ => ⟨S8128x8192, .i32⟩
  | .hbm, ⟨7, _⟩ => ⟨S1x8192, .bf16⟩
  | .hbm, ⟨8, _⟩ => ⟨S2048x8192, .bf16⟩
  | .hbm, ⟨9, _⟩ => ⟨S2048x8192, .bf16⟩
  | .hbm, ⟨10, _⟩ => ⟨S1x2048x8192, .bf16⟩
  | .hbm, ⟨11, _⟩ => ⟨S1x2048x8192, .bf16⟩
  | .local _ .vmem, ⟨0, _⟩ => ⟨S1x8192, .bf16⟩
  | .local _ .vmem, ⟨1, _⟩ => ⟨S8x8192, .f32⟩
  | .local _ .vmem, ⟨2, _⟩ => ⟨S24x2x8x8192, .i32⟩
  | .local _ .vmem, ⟨3, _⟩ => ⟨S8x16x8192, .bf16⟩
  | .local _ .vmem, ⟨4, _⟩ => ⟨S8x16x8192, .bf16⟩
  | .local _ .vmem, ⟨5, _⟩ => ⟨S2x8x128, .i32⟩
  | .local _ .vmem, ⟨6, _⟩ => ⟨S2x8x128, .f32⟩
  | .local _ .smem, ⟨0, _⟩ => ⟨S1x2048, .i32⟩
  | .local _ .smem, ⟨1, _⟩ => ⟨S32512, .f32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [BitOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_222 : BitVec 32 := 0#32
  let c24_i32_223 : BitVec 32 := 24#32
  let v350 : BitVec 32 := Scalar.addi c0_i32_222 c24_i32_223
  let c1_i32_224 : BitVec 32 := 1#32
  ⟨c0_i32_222, v350, c1_i32_224⟩
def k0_off1 (k0_t1 : Fin k0_t1_loop.trips) : Fin 2 → Nat :=
  let c0_234 : Index := 0#32
  let c0_i32_222 : BitVec 32 := 0#32
  let c1_i32_224 : BitVec 32 := 1#32
  let arg20 : BitVec 32 := Scf.iv c0_i32_222 c1_i32_224 k0_t1
  let c16_i32_232 : BitVec 32 := 16#32
  let v362 : BitVec 32 := Scalar.muli arg20 c16_i32_232
  let c0_i32_233 : BitVec 32 := 0#32
  let v363 : BitVec 32 := Scalar.addi v362 c0_i32_233
  let v364 : Index := Scalar.indexCast v363
  ![0, v364.toNat]
def k0_off2 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off3 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_236 : BitVec 32 := 0#32
  let c0_i32_237 : BitVec 32 := 0#32
  let c0_i32_238 : BitVec 32 := 0#32
  ![arg20.toNat, 0, 0, 0]
def k0_off4 (v365 : BitVec 32) : Fin 2 → Nat :=
  let c2_i32_235 : BitVec 32 := 2#32
  let v366 : BitVec 32 := Scalar.shrui v365 c2_i32_235
  let c0_i32_239 : BitVec 32 := 0#32
  ![v366.toNat, 0]

def k0_chk1 (i : grid0.Coords) (v365 : BitVec 32) : Prop :=
  (∀ (k0_h1 : k0_cond1 i = 1#1), ∀ a, (k0_off4 v365) a + S1x8192.size a ≤ S8128x8192.size a)
theorem k0_off4_inb : ∀ (i : grid0.Coords) (v365 : BitVec 32) (k0_hw1 : k0_chk1 i v365), ∀ (k0_h1 : k0_cond1 i = 1#1), ∀ a, (k0_off4 v365) a + S1x8192.size a ≤ S8128x8192.size a := fun i v365 k0_hw1 k0_h1 => k0_hw1 k0_h1

def k0_off5 (k0_t1 : Fin k0_t1_loop.trips) : Fin 2 → Nat :=
  let c0_242 : Index := 0#32
  let c0_i32_222 : BitVec 32 := 0#32
  let c1_i32_224 : BitVec 32 := 1#32
  let arg20 : BitVec 32 := Scf.iv c0_i32_222 c1_i32_224 k0_t1
  let c16_i32_240 : BitVec 32 := 16#32
  let v372 : BitVec 32 := Scalar.muli arg20 c16_i32_240
  let c1_i32_241 : BitVec 32 := 1#32
  let v373 : BitVec 32 := Scalar.addi v372 c1_i32_241
  let v374 : Index := Scalar.indexCast v373
  ![0, v374.toNat]
def k0_off6 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off7 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_244 : BitVec 32 := 1#32
  let c0_i32_245 : BitVec 32 := 0#32
  let c0_i32_246 : BitVec 32 := 0#32
  ![arg20.toNat, 1, 0, 0]
def k0_off8 (v375 : BitVec 32) : Fin 2 → Nat :=
  let c2_i32_243 : BitVec 32 := 2#32
  let v376 : BitVec 32 := Scalar.shrui v375 c2_i32_243
  let c0_i32_247 : BitVec 32 := 0#32
  ![v376.toNat, 0]

def k0_chk2 (i : grid0.Coords) (v375 : BitVec 32) : Prop :=
  (∀ (k0_h1 : k0_cond1 i = 1#1), ∀ a, (k0_off8 v375) a + S1x8192.size a ≤ S8128x8192.size a)
theorem k0_off8_inb : ∀ (i : grid0.Coords) (v375 : BitVec 32) (k0_hw2 : k0_chk2 i v375), ∀ (k0_h1 : k0_cond1 i = 1#1), ∀ a, (k0_off8 v375) a + S1x8192.size a ≤ S8128x8192.size a := fun i v375 k0_hw2 k0_h1 => k0_hw2 k0_h1

def k0_off9 (k0_t1 : Fin k0_t1_loop.trips) : Fin 2 → Nat :=
  let c0_250 : Index := 0#32
  let c0_i32_222 : BitVec 32 := 0#32
  let c1_i32_224 : BitVec 32 := 1#32
  let arg20 : BitVec 32 := Scf.iv c0_i32_222 c1_i32_224 k0_t1
  let c16_i32_248 : BitVec 32 := 16#32
  let v382 : BitVec 32 := Scalar.muli arg20 c16_i32_248
  let c2_i32_249 : BitVec 32 := 2#32
  let v383 : BitVec 32 := Scalar.addi v382 c2_i32_249
  let v384 : Index := Scalar.indexCast v383
  ![0, v384.toNat]
def k0_off10 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off11 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_252 : BitVec 32 := 0#32
  let c1_i32_253 : BitVec 32 := 1#32
  let c0_i32_254 : BitVec 32 := 0#32
  ![arg20.toNat, 0, 1, 0]
def k0_off12 (v385 : BitVec 32) : Fin 2 → Nat :=
  let c2_i32_251 : BitVec 32 := 2#32
  let v386 : BitVec 32 := Scalar.shrui v385 c2_i32_251
  let c0_i32_255 : BitVec 32 := 0#32
  ![v386.toNat, 0]

def k0_chk3 (i : grid0.Coords) (v385 : BitVec 32) : Prop :=
  (∀ (k0_h1 : k0_cond1 i = 1#1), ∀ a, (k0_off12 v385) a + S1x8192.size a ≤ S8128x8192.size a)
theorem k0_off12_inb : ∀ (i : grid0.Coords) (v385 : BitVec 32) (k0_hw3 : k0_chk3 i v385), ∀ (k0_h1 : k0_cond1 i = 1#1), ∀ a, (k0_off12 v385) a + S1x8192.size a ≤ S8128x8192.size a := fun i v385 k0_hw3 k0_h1 => k0_hw3 k0_h1

def k0_off13 (k0_t1 : Fin k0_t1_loop.trips) : Fin 2 → Nat :=
  let c0_258 : Index := 0#32
  let c0_i32_222 : BitVec 32 := 0#32
  let c1_i32_224 : BitVec 32 := 1#32
  let arg20 : BitVec 32 := Scf.iv c0_i32_222 c1_i32_224 k0_t1
  let c16_i32_256 : BitVec 32 := 16#32
  let v392 : BitVec 32 := Scalar.muli arg20 c16_i32_256
  let c3_i32_257 : BitVec 32 := 3#32
  let v393 : BitVec 32 := Scalar.addi v392 c3_i32_257
  let v394 : Index := Scalar.indexCast v393
  ![0, v394.toNat]
def k0_off14 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off15 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_260 : BitVec 32 := 1#32
  let c1_i32_261 : BitVec 32 := 1#32
  let c0_i32_262 : BitVec 32 := 0#32
  ![arg20.toNat, 1, 1, 0]
def k0_off16 (v395 : BitVec 32) : Fin 2 → Nat :=
  let c2_i32_259 : BitVec 32 := 2#32
  let v396 : BitVec 32 := Scalar.shrui v395 c2_i32_259
  let c0_i32_263 : BitVec 32 := 0#32
  ![v396.toNat, 0]

def k0_chk4 (i : grid0.Coords) (v395 : BitVec 32) : Prop :=
  (∀ (k0_h1 : k0_cond1 i = 1#1), ∀ a, (k0_off16 v395) a + S1x8192.size a ≤ S8128x8192.size a)
theorem k0_off16_inb : ∀ (i : grid0.Coords) (v395 : BitVec 32) (k0_hw4 : k0_chk4 i v395), ∀ (k0_h1 : k0_cond1 i = 1#1), ∀ a, (k0_off16 v395) a + S1x8192.size a ≤ S8128x8192.size a := fun i v395 k0_hw4 k0_h1 => k0_hw4 k0_h1

def k0_off17 (k0_t1 : Fin k0_t1_loop.trips) : Fin 2 → Nat :=
  let c0_266 : Index := 0#32
  let c0_i32_222 : BitVec 32 := 0#32
  let c1_i32_224 : BitVec 32 := 1#32
  let arg20 : BitVec 32 := Scf.iv c0_i32_222 c1_i32_224 k0_t1
  let c16_i32_264 : BitVec 32 := 16#32
  let v402 : BitVec 32 := Scalar.muli arg20 c16_i32_264
  let c4_i32_265 : BitVec 32 := 4#32
  let v403 : BitVec 32 := Scalar.addi v402 c4_i32_265
  let v404 : Index := Scalar.indexCast v403
  ![0, v404.toNat]
def k0_off18 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off19 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_268 : BitVec 32 := 0#32
  let c2_i32_269 : BitVec 32 := 2#32
  let c0_i32_270 : BitVec 32 := 0#32
  ![arg20.toNat, 0, 2, 0]
def k0_off20 (v405 : BitVec 32) : Fin 2 → Nat :=
  let c2_i32_267 : BitVec 32 := 2#32
  let v406 : BitVec 32 := Scalar.shrui v405 c2_i32_267
  let c0_i32_271 : BitVec 32 := 0#32
  ![v406.toNat, 0]

def k0_chk5 (i : grid0.Coords) (v405 : BitVec 32) : Prop :=
  (∀ (k0_h1 : k0_cond1 i = 1#1), ∀ a, (k0_off20 v405) a + S1x8192.size a ≤ S8128x8192.size a)
theorem k0_off20_inb : ∀ (i : grid0.Coords) (v405 : BitVec 32) (k0_hw5 : k0_chk5 i v405), ∀ (k0_h1 : k0_cond1 i = 1#1), ∀ a, (k0_off20 v405) a + S1x8192.size a ≤ S8128x8192.size a := fun i v405 k0_hw5 k0_h1 => k0_hw5 k0_h1

def k0_off21 (k0_t1 : Fin k0_t1_loop.trips) : Fin 2 → Nat :=
  let c0_274 : Index := 0#32
  let c0_i32_222 : BitVec 32 := 0#32
  let c1_i32_224 : BitVec 32 := 1#32
  let arg20 : BitVec 32 := Scf.iv c0_i32_222 c1_i32_224 k0_t1
  let c16_i32_272 : BitVec 32 := 16#32
  let v412 : BitVec 32 := Scalar.muli arg20 c16_i32_272
  let c5_i32_273 : BitVec 32 := 5#32
  let v413 : BitVec 32 := Scalar.addi v412 c5_i32_273
  let v414 : Index := Scalar.indexCast v413
  ![0, v414.toNat]
def k0_off22 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off23 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_276 : BitVec 32 := 1#32
  let c2_i32_277 : BitVec 32 := 2#32
  let c0_i32_278 : BitVec 32 := 0#32
  ![arg20.toNat, 1, 2, 0]
def k0_off24 (v415 : BitVec 32) : Fin 2 → Nat :=
  let c2_i32_275 : BitVec 32 := 2#32
  let v416 : BitVec 32 := Scalar.shrui v415 c2_i32_275
  let c0_i32_279 : BitVec 32 := 0#32
  ![v416.toNat, 0]

def k0_chk6 (i : grid0.Coords) (v415 : BitVec 32) : Prop :=
  (∀ (k0_h1 : k0_cond1 i = 1#1), ∀ a, (k0_off24 v415) a + S1x8192.size a ≤ S8128x8192.size a)
theorem k0_off24_inb : ∀ (i : grid0.Coords) (v415 : BitVec 32) (k0_hw6 : k0_chk6 i v415), ∀ (k0_h1 : k0_cond1 i = 1#1), ∀ a, (k0_off24 v415) a + S1x8192.size a ≤ S8128x8192.size a := fun i v415 k0_hw6 k0_h1 => k0_hw6 k0_h1

def k0_off25 (k0_t1 : Fin k0_t1_loop.trips) : Fin 2 → Nat :=
  let c0_282 : Index := 0#32
  let c0_i32_222 : BitVec 32 := 0#32
  let c1_i32_224 : BitVec 32 := 1#32
  let arg20 : BitVec 32 := Scf.iv c0_i32_222 c1_i32_224 k0_t1
  let c16_i32_280 : BitVec 32 := 16#32
  let v422 : BitVec 32 := Scalar.muli arg20 c16_i32_280
  let c6_i32_281 : BitVec 32 := 6#32
  let v423 : BitVec 32 := Scalar.addi v422 c6_i32_281
  let v424 : Index := Scalar.indexCast v423
  ![0, v424.toNat]
def k0_off26 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off27 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_284 : BitVec 32 := 0#32
  let c3_i32_285 : BitVec 32 := 3#32
  let c0_i32_286 : BitVec 32 := 0#32
  ![arg20.toNat, 0, 3, 0]
def k0_off28 (v425 : BitVec 32) : Fin 2 → Nat :=
  let c2_i32_283 : BitVec 32 := 2#32
  let v426 : BitVec 32 := Scalar.shrui v425 c2_i32_283
  let c0_i32_287 : BitVec 32 := 0#32
  ![v426.toNat, 0]

def k0_chk7 (i : grid0.Coords) (v425 : BitVec 32) : Prop :=
  (∀ (k0_h1 : k0_cond1 i = 1#1), ∀ a, (k0_off28 v425) a + S1x8192.size a ≤ S8128x8192.size a)
theorem k0_off28_inb : ∀ (i : grid0.Coords) (v425 : BitVec 32) (k0_hw7 : k0_chk7 i v425), ∀ (k0_h1 : k0_cond1 i = 1#1), ∀ a, (k0_off28 v425) a + S1x8192.size a ≤ S8128x8192.size a := fun i v425 k0_hw7 k0_h1 => k0_hw7 k0_h1

def k0_off29 (k0_t1 : Fin k0_t1_loop.trips) : Fin 2 → Nat :=
  let c0_290 : Index := 0#32
  let c0_i32_222 : BitVec 32 := 0#32
  let c1_i32_224 : BitVec 32 := 1#32
  let arg20 : BitVec 32 := Scf.iv c0_i32_222 c1_i32_224 k0_t1
  let c16_i32_288 : BitVec 32 := 16#32
  let v432 : BitVec 32 := Scalar.muli arg20 c16_i32_288
  let c7_i32_289 : BitVec 32 := 7#32
  let v433 : BitVec 32 := Scalar.addi v432 c7_i32_289
  let v434 : Index := Scalar.indexCast v433
  ![0, v434.toNat]
def k0_off30 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off31 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_292 : BitVec 32 := 1#32
  let c3_i32_293 : BitVec 32 := 3#32
  let c0_i32_294 : BitVec 32 := 0#32
  ![arg20.toNat, 1, 3, 0]
def k0_off32 (v435 : BitVec 32) : Fin 2 → Nat :=
  let c2_i32_291 : BitVec 32 := 2#32
  let v436 : BitVec 32 := Scalar.shrui v435 c2_i32_291
  let c0_i32_295 : BitVec 32 := 0#32
  ![v436.toNat, 0]

def k0_chk8 (i : grid0.Coords) (v435 : BitVec 32) : Prop :=
  (∀ (k0_h1 : k0_cond1 i = 1#1), ∀ a, (k0_off32 v435) a + S1x8192.size a ≤ S8128x8192.size a)
theorem k0_off32_inb : ∀ (i : grid0.Coords) (v435 : BitVec 32) (k0_hw8 : k0_chk8 i v435), ∀ (k0_h1 : k0_cond1 i = 1#1), ∀ a, (k0_off32 v435) a + S1x8192.size a ≤ S8128x8192.size a := fun i v435 k0_hw8 k0_h1 => k0_hw8 k0_h1

def k0_off33 (k0_t1 : Fin k0_t1_loop.trips) : Fin 2 → Nat :=
  let c0_298 : Index := 0#32
  let c0_i32_222 : BitVec 32 := 0#32
  let c1_i32_224 : BitVec 32 := 1#32
  let arg20 : BitVec 32 := Scf.iv c0_i32_222 c1_i32_224 k0_t1
  let c16_i32_296 : BitVec 32 := 16#32
  let v442 : BitVec 32 := Scalar.muli arg20 c16_i32_296
  let c8_i32_297 : BitVec 32 := 8#32
  let v443 : BitVec 32 := Scalar.addi v442 c8_i32_297
  let v444 : Index := Scalar.indexCast v443
  ![0, v444.toNat]
def k0_off34 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off35 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_300 : BitVec 32 := 0#32
  let c4_i32_301 : BitVec 32 := 4#32
  let c0_i32_302 : BitVec 32 := 0#32
  ![arg20.toNat, 0, 4, 0]
def k0_off36 (v445 : BitVec 32) : Fin 2 → Nat :=
  let c2_i32_299 : BitVec 32 := 2#32
  let v446 : BitVec 32 := Scalar.shrui v445 c2_i32_299
  let c0_i32_303 : BitVec 32 := 0#32
  ![v446.toNat, 0]

def k0_chk9 (i : grid0.Coords) (v445 : BitVec 32) : Prop :=
  (∀ (k0_h1 : k0_cond1 i = 1#1), ∀ a, (k0_off36 v445) a + S1x8192.size a ≤ S8128x8192.size a)
theorem k0_off36_inb : ∀ (i : grid0.Coords) (v445 : BitVec 32) (k0_hw9 : k0_chk9 i v445), ∀ (k0_h1 : k0_cond1 i = 1#1), ∀ a, (k0_off36 v445) a + S1x8192.size a ≤ S8128x8192.size a := fun i v445 k0_hw9 k0_h1 => k0_hw9 k0_h1

def k0_off37 (k0_t1 : Fin k0_t1_loop.trips) : Fin 2 → Nat :=
  let c0_306 : Index := 0#32
  let c0_i32_222 : BitVec 32 := 0#32
  let c1_i32_224 : BitVec 32 := 1#32
  let arg20 : BitVec 32 := Scf.iv c0_i32_222 c1_i32_224 k0_t1
  let c16_i32_304 : BitVec 32 := 16#32
  let v452 : BitVec 32 := Scalar.muli arg20 c16_i32_304
  let c9_i32_305 : BitVec 32 := 9#32
  let v453 : BitVec 32 := Scalar.addi v452 c9_i32_305
  let v454 : Index := Scalar.indexCast v453
  ![0, v454.toNat]
def k0_off38 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off39 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_308 : BitVec 32 := 1#32
  let c4_i32_309 : BitVec 32 := 4#32
  let c0_i32_310 : BitVec 32 := 0#32
  ![arg20.toNat, 1, 4, 0]
def k0_off40 (v455 : BitVec 32) : Fin 2 → Nat :=
  let c2_i32_307 : BitVec 32 := 2#32
  let v456 : BitVec 32 := Scalar.shrui v455 c2_i32_307
  let c0_i32_311 : BitVec 32 := 0#32
  ![v456.toNat, 0]

def k0_chk10 (i : grid0.Coords) (v455 : BitVec 32) : Prop :=
  (∀ (k0_h1 : k0_cond1 i = 1#1), ∀ a, (k0_off40 v455) a + S1x8192.size a ≤ S8128x8192.size a)
theorem k0_off40_inb : ∀ (i : grid0.Coords) (v455 : BitVec 32) (k0_hw10 : k0_chk10 i v455), ∀ (k0_h1 : k0_cond1 i = 1#1), ∀ a, (k0_off40 v455) a + S1x8192.size a ≤ S8128x8192.size a := fun i v455 k0_hw10 k0_h1 => k0_hw10 k0_h1

def k0_off41 (k0_t1 : Fin k0_t1_loop.trips) : Fin 2 → Nat :=
  let c0_314 : Index := 0#32
  let c0_i32_222 : BitVec 32 := 0#32
  let c1_i32_224 : BitVec 32 := 1#32
  let arg20 : BitVec 32 := Scf.iv c0_i32_222 c1_i32_224 k0_t1
  let c16_i32_312 : BitVec 32 := 16#32
  let v462 : BitVec 32 := Scalar.muli arg20 c16_i32_312
  let c10_i32_313 : BitVec 32 := 10#32
  let v463 : BitVec 32 := Scalar.addi v462 c10_i32_313
  let v464 : Index := Scalar.indexCast v463
  ![0, v464.toNat]
def k0_off42 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off43 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_316 : BitVec 32 := 0#32
  let c5_i32_317 : BitVec 32 := 5#32
  let c0_i32_318 : BitVec 32 := 0#32
  ![arg20.toNat, 0, 5, 0]
def k0_off44 (v465 : BitVec 32) : Fin 2 → Nat :=
  let c2_i32_315 : BitVec 32 := 2#32
  let v466 : BitVec 32 := Scalar.shrui v465 c2_i32_315
  let c0_i32_319 : BitVec 32 := 0#32
  ![v466.toNat, 0]

def k0_chk11 (i : grid0.Coords) (v465 : BitVec 32) : Prop :=
  (∀ (k0_h1 : k0_cond1 i = 1#1), ∀ a, (k0_off44 v465) a + S1x8192.size a ≤ S8128x8192.size a)
theorem k0_off44_inb : ∀ (i : grid0.Coords) (v465 : BitVec 32) (k0_hw11 : k0_chk11 i v465), ∀ (k0_h1 : k0_cond1 i = 1#1), ∀ a, (k0_off44 v465) a + S1x8192.size a ≤ S8128x8192.size a := fun i v465 k0_hw11 k0_h1 => k0_hw11 k0_h1

def k0_off45 (k0_t1 : Fin k0_t1_loop.trips) : Fin 2 → Nat :=
  let c0_322 : Index := 0#32
  let c0_i32_222 : BitVec 32 := 0#32
  let c1_i32_224 : BitVec 32 := 1#32
  let arg20 : BitVec 32 := Scf.iv c0_i32_222 c1_i32_224 k0_t1
  let c16_i32_320 : BitVec 32 := 16#32
  let v472 : BitVec 32 := Scalar.muli arg20 c16_i32_320
  let c11_i32_321 : BitVec 32 := 11#32
  let v473 : BitVec 32 := Scalar.addi v472 c11_i32_321
  let v474 : Index := Scalar.indexCast v473
  ![0, v474.toNat]
def k0_off46 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off47 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_324 : BitVec 32 := 1#32
  let c5_i32_325 : BitVec 32 := 5#32
  let c0_i32_326 : BitVec 32 := 0#32
  ![arg20.toNat, 1, 5, 0]
def k0_off48 (v475 : BitVec 32) : Fin 2 → Nat :=
  let c2_i32_323 : BitVec 32 := 2#32
  let v476 : BitVec 32 := Scalar.shrui v475 c2_i32_323
  let c0_i32_327 : BitVec 32 := 0#32
  ![v476.toNat, 0]

def k0_chk12 (i : grid0.Coords) (v475 : BitVec 32) : Prop :=
  (∀ (k0_h1 : k0_cond1 i = 1#1), ∀ a, (k0_off48 v475) a + S1x8192.size a ≤ S8128x8192.size a)
theorem k0_off48_inb : ∀ (i : grid0.Coords) (v475 : BitVec 32) (k0_hw12 : k0_chk12 i v475), ∀ (k0_h1 : k0_cond1 i = 1#1), ∀ a, (k0_off48 v475) a + S1x8192.size a ≤ S8128x8192.size a := fun i v475 k0_hw12 k0_h1 => k0_hw12 k0_h1

def k0_off49 (k0_t1 : Fin k0_t1_loop.trips) : Fin 2 → Nat :=
  let c0_330 : Index := 0#32
  let c0_i32_222 : BitVec 32 := 0#32
  let c1_i32_224 : BitVec 32 := 1#32
  let arg20 : BitVec 32 := Scf.iv c0_i32_222 c1_i32_224 k0_t1
  let c16_i32_328 : BitVec 32 := 16#32
  let v482 : BitVec 32 := Scalar.muli arg20 c16_i32_328
  let c12_i32_329 : BitVec 32 := 12#32
  let v483 : BitVec 32 := Scalar.addi v482 c12_i32_329
  let v484 : Index := Scalar.indexCast v483
  ![0, v484.toNat]
def k0_off50 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off51 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_332 : BitVec 32 := 0#32
  let c6_i32_333 : BitVec 32 := 6#32
  let c0_i32_334 : BitVec 32 := 0#32
  ![arg20.toNat, 0, 6, 0]
def k0_off52 (v485 : BitVec 32) : Fin 2 → Nat :=
  let c2_i32_331 : BitVec 32 := 2#32
  let v486 : BitVec 32 := Scalar.shrui v485 c2_i32_331
  let c0_i32_335 : BitVec 32 := 0#32
  ![v486.toNat, 0]

def k0_chk13 (i : grid0.Coords) (v485 : BitVec 32) : Prop :=
  (∀ (k0_h1 : k0_cond1 i = 1#1), ∀ a, (k0_off52 v485) a + S1x8192.size a ≤ S8128x8192.size a)
theorem k0_off52_inb : ∀ (i : grid0.Coords) (v485 : BitVec 32) (k0_hw13 : k0_chk13 i v485), ∀ (k0_h1 : k0_cond1 i = 1#1), ∀ a, (k0_off52 v485) a + S1x8192.size a ≤ S8128x8192.size a := fun i v485 k0_hw13 k0_h1 => k0_hw13 k0_h1

def k0_off53 (k0_t1 : Fin k0_t1_loop.trips) : Fin 2 → Nat :=
  let c0_338 : Index := 0#32
  let c0_i32_222 : BitVec 32 := 0#32
  let c1_i32_224 : BitVec 32 := 1#32
  let arg20 : BitVec 32 := Scf.iv c0_i32_222 c1_i32_224 k0_t1
  let c16_i32_336 : BitVec 32 := 16#32
  let v492 : BitVec 32 := Scalar.muli arg20 c16_i32_336
  let c13_i32_337 : BitVec 32 := 13#32
  let v493 : BitVec 32 := Scalar.addi v492 c13_i32_337
  let v494 : Index := Scalar.indexCast v493
  ![0, v494.toNat]
def k0_off54 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off55 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_340 : BitVec 32 := 1#32
  let c6_i32_341 : BitVec 32 := 6#32
  let c0_i32_342 : BitVec 32 := 0#32
  ![arg20.toNat, 1, 6, 0]
def k0_off56 (v495 : BitVec 32) : Fin 2 → Nat :=
  let c2_i32_339 : BitVec 32 := 2#32
  let v496 : BitVec 32 := Scalar.shrui v495 c2_i32_339
  let c0_i32_343 : BitVec 32 := 0#32
  ![v496.toNat, 0]

def k0_chk14 (i : grid0.Coords) (v495 : BitVec 32) : Prop :=
  (∀ (k0_h1 : k0_cond1 i = 1#1), ∀ a, (k0_off56 v495) a + S1x8192.size a ≤ S8128x8192.size a)
theorem k0_off56_inb : ∀ (i : grid0.Coords) (v495 : BitVec 32) (k0_hw14 : k0_chk14 i v495), ∀ (k0_h1 : k0_cond1 i = 1#1), ∀ a, (k0_off56 v495) a + S1x8192.size a ≤ S8128x8192.size a := fun i v495 k0_hw14 k0_h1 => k0_hw14 k0_h1

def k0_off57 (k0_t1 : Fin k0_t1_loop.trips) : Fin 2 → Nat :=
  let c0_346 : Index := 0#32
  let c0_i32_222 : BitVec 32 := 0#32
  let c1_i32_224 : BitVec 32 := 1#32
  let arg20 : BitVec 32 := Scf.iv c0_i32_222 c1_i32_224 k0_t1
  let c16_i32_344 : BitVec 32 := 16#32
  let v502 : BitVec 32 := Scalar.muli arg20 c16_i32_344
  let c14_i32_345 : BitVec 32 := 14#32
  let v503 : BitVec 32 := Scalar.addi v502 c14_i32_345
  let v504 : Index := Scalar.indexCast v503
  ![0, v504.toNat]
def k0_off58 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off59 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c0_i32_348 : BitVec 32 := 0#32
  let c7_i32_349 : BitVec 32 := 7#32
  let c0_i32_350 : BitVec 32 := 0#32
  ![arg20.toNat, 0, 7, 0]
def k0_off60 (v505 : BitVec 32) : Fin 2 → Nat :=
  let c2_i32_347 : BitVec 32 := 2#32
  let v506 : BitVec 32 := Scalar.shrui v505 c2_i32_347
  let c0_i32_351 : BitVec 32 := 0#32
  ![v506.toNat, 0]

def k0_chk15 (i : grid0.Coords) (v505 : BitVec 32) : Prop :=
  (∀ (k0_h1 : k0_cond1 i = 1#1), ∀ a, (k0_off60 v505) a + S1x8192.size a ≤ S8128x8192.size a)
theorem k0_off60_inb : ∀ (i : grid0.Coords) (v505 : BitVec 32) (k0_hw15 : k0_chk15 i v505), ∀ (k0_h1 : k0_cond1 i = 1#1), ∀ a, (k0_off60 v505) a + S1x8192.size a ≤ S8128x8192.size a := fun i v505 k0_hw15 k0_h1 => k0_hw15 k0_h1

def k0_off61 (k0_t1 : Fin k0_t1_loop.trips) : Fin 2 → Nat :=
  let c0_354 : Index := 0#32
  let c0_i32_222 : BitVec 32 := 0#32
  let c1_i32_224 : BitVec 32 := 1#32
  let arg20 : BitVec 32 := Scf.iv c0_i32_222 c1_i32_224 k0_t1
  let c16_i32_352 : BitVec 32 := 16#32
  let v512 : BitVec 32 := Scalar.muli arg20 c16_i32_352
  let c15_i32_353 : BitVec 32 := 15#32
  let v513 : BitVec 32 := Scalar.addi v512 c15_i32_353
  let v514 : Index := Scalar.indexCast v513
  ![0, v514.toNat]
def k0_off62 (k0_t1 : Fin k0_t1_loop.trips) : Fin 1 → Nat :=
  let c0_i32_222 : BitVec 32 := 0#32
  let c1_i32_224 : BitVec 32 := 1#32
  let arg20 : BitVec 32 := Scf.iv c0_i32_222 c1_i32_224 k0_t1
  ![arg20.toNat]
def k0_off63 (k0_t1 : Fin k0_t1_loop.trips) : Fin 4 → Nat :=
  let c0_i32_222 : BitVec 32 := 0#32
  let c1_i32_224 : BitVec 32 := 1#32
  let arg20 : BitVec 32 := Scf.iv c0_i32_222 c1_i32_224 k0_t1
  let c1_i32_356 : BitVec 32 := 1#32
  let c7_i32_357 : BitVec 32 := 7#32
  let c0_i32_358 : BitVec 32 := 0#32
  ![arg20.toNat, 1, 7, 0]
def k0_off64 (v515 : BitVec 32) : Fin 2 → Nat :=
  let c2_i32_355 : BitVec 32 := 2#32
  let v516 : BitVec 32 := Scalar.shrui v515 c2_i32_355
  let c0_i32_359 : BitVec 32 := 0#32
  ![v516.toNat, 0]

def k0_chk16 (i : grid0.Coords) (v515 : BitVec 32) : Prop :=
  (∀ (k0_h1 : k0_cond1 i = 1#1), ∀ a, (k0_off64 v515) a + S1x8192.size a ≤ S8128x8192.size a)
theorem k0_off64_inb : ∀ (i : grid0.Coords) (v515 : BitVec 32) (k0_hw16 : k0_chk16 i v515), ∀ (k0_h1 : k0_cond1 i = 1#1), ∀ a, (k0_off64 v515) a + S1x8192.size a ≤ S8128x8192.size a := fun i v515 k0_hw16 k0_h1 => k0_hw16 k0_h1

def k0_off65 (i : grid0.Coords) : Fin 2 → Nat :=
  let c0 : Index := 0#32
  let arg0 : BitVec 32 := BitVec.ofNat 32 (i 0).val
  let c16_i32 : BitVec 32 := 16#32
  let v5 : BitVec 32 := Scalar.muli arg0 c16_i32
  let c0_i32_1 : BitVec 32 := 0#32
  let v6 : BitVec 32 := Scalar.addi v5 c0_i32_1
  let v7 : Index := Scalar.indexCast v6
  ![0, v7.toNat]
def k0_off66 (v8 : BitVec 32) : Fin 1 → Nat :=
  let v16 : Index := Scalar.indexCast v8
  ![v16.toNat]

def k0_chk17 (v8 : BitVec 32) : Prop :=
  (∀ a, (k0_off66 v8) a + S1.size a ≤ S32512.size a)
theorem k0_off66_inb : ∀ (v8 : BitVec 32) (k0_hw17 : k0_chk17 v8), ∀ a, (k0_off66 v8) a + S1.size a ≤ S32512.size a := fun v8 k0_hw17 => k0_hw17

def k0_off67 (i : grid0.Coords) : Fin 2 → Nat :=
  let c0_11 : Index := 0#32
  let arg0 : BitVec 32 := BitVec.ofNat 32 (i 0).val
  let c16_i32_10 : BitVec 32 := 16#32
  let v22 : BitVec 32 := Scalar.muli arg0 c16_i32_10
  let c1_i32 : BitVec 32 := 1#32
  let v23 : BitVec 32 := Scalar.addi v22 c1_i32
  let v24 : Index := Scalar.indexCast v23
  ![0, v24.toNat]
def k0_off68 (v25 : BitVec 32) : Fin 1 → Nat :=
  let v33 : Index := Scalar.indexCast v25
  ![v33.toNat]

def k0_chk18 (v25 : BitVec 32) : Prop :=
  (∀ a, (k0_off68 v25) a + S1.size a ≤ S32512.size a)
theorem k0_off68_inb : ∀ (v25 : BitVec 32) (k0_hw18 : k0_chk18 v25), ∀ a, (k0_off68 v25) a + S1.size a ≤ S32512.size a := fun v25 k0_hw18 => k0_hw18

def k0_off69 (i : grid0.Coords) : Fin 2 → Nat :=
  let c0_21 : Index := 0#32
  let arg0 : BitVec 32 := BitVec.ofNat 32 (i 0).val
  let c16_i32_20 : BitVec 32 := 16#32
  let v39 : BitVec 32 := Scalar.muli arg0 c16_i32_20
  let c2_i32 : BitVec 32 := 2#32
  let v40 : BitVec 32 := Scalar.addi v39 c2_i32
  let v41 : Index := Scalar.indexCast v40
  ![0, v41.toNat]
def k0_off70 (v42 : BitVec 32) : Fin 1 → Nat :=
  let v50 : Index := Scalar.indexCast v42
  ![v50.toNat]

def k0_chk19 (v42 : BitVec 32) : Prop :=
  (∀ a, (k0_off70 v42) a + S1.size a ≤ S32512.size a)
theorem k0_off70_inb : ∀ (v42 : BitVec 32) (k0_hw19 : k0_chk19 v42), ∀ a, (k0_off70 v42) a + S1.size a ≤ S32512.size a := fun v42 k0_hw19 => k0_hw19

def k0_off71 (i : grid0.Coords) : Fin 2 → Nat :=
  let c0_33 : Index := 0#32
  let arg0 : BitVec 32 := BitVec.ofNat 32 (i 0).val
  let c16_i32_31 : BitVec 32 := 16#32
  let v56 : BitVec 32 := Scalar.muli arg0 c16_i32_31
  let c3_i32_32 : BitVec 32 := 3#32
  let v57 : BitVec 32 := Scalar.addi v56 c3_i32_32
  let v58 : Index := Scalar.indexCast v57
  ![0, v58.toNat]
def k0_off72 (v59 : BitVec 32) : Fin 1 → Nat :=
  let v67 : Index := Scalar.indexCast v59
  ![v67.toNat]

def k0_chk20 (v59 : BitVec 32) : Prop :=
  (∀ a, (k0_off72 v59) a + S1.size a ≤ S32512.size a)
theorem k0_off72_inb : ∀ (v59 : BitVec 32) (k0_hw20 : k0_chk20 v59), ∀ a, (k0_off72 v59) a + S1.size a ≤ S32512.size a := fun v59 k0_hw20 => k0_hw20

def k0_off73 (i : grid0.Coords) : Fin 2 → Nat :=
  let c0_44 : Index := 0#32
  let arg0 : BitVec 32 := BitVec.ofNat 32 (i 0).val
  let c16_i32_43 : BitVec 32 := 16#32
  let v73 : BitVec 32 := Scalar.muli arg0 c16_i32_43
  let c4_i32 : BitVec 32 := 4#32
  let v74 : BitVec 32 := Scalar.addi v73 c4_i32
  let v75 : Index := Scalar.indexCast v74
  ![0, v75.toNat]
def k0_off74 (v76 : BitVec 32) : Fin 1 → Nat :=
  let v84 : Index := Scalar.indexCast v76
  ![v84.toNat]

def k0_chk21 (v76 : BitVec 32) : Prop :=
  (∀ a, (k0_off74 v76) a + S1.size a ≤ S32512.size a)
theorem k0_off74_inb : ∀ (v76 : BitVec 32) (k0_hw21 : k0_chk21 v76), ∀ a, (k0_off74 v76) a + S1.size a ≤ S32512.size a := fun v76 k0_hw21 => k0_hw21

def k0_off75 (i : grid0.Coords) : Fin 2 → Nat :=
  let c0_54 : Index := 0#32
  let arg0 : BitVec 32 := BitVec.ofNat 32 (i 0).val
  let c16_i32_53 : BitVec 32 := 16#32
  let v90 : BitVec 32 := Scalar.muli arg0 c16_i32_53
  let c5_i32 : BitVec 32 := 5#32
  let v91 : BitVec 32 := Scalar.addi v90 c5_i32
  let v92 : Index := Scalar.indexCast v91
  ![0, v92.toNat]
def k0_off76 (v93 : BitVec 32) : Fin 1 → Nat :=
  let v101 : Index := Scalar.indexCast v93
  ![v101.toNat]

def k0_chk22 (v93 : BitVec 32) : Prop :=
  (∀ a, (k0_off76 v93) a + S1.size a ≤ S32512.size a)
theorem k0_off76_inb : ∀ (v93 : BitVec 32) (k0_hw22 : k0_chk22 v93), ∀ a, (k0_off76 v93) a + S1.size a ≤ S32512.size a := fun v93 k0_hw22 => k0_hw22

def k0_off77 (i : grid0.Coords) : Fin 2 → Nat :=
  let c0_65 : Index := 0#32
  let arg0 : BitVec 32 := BitVec.ofNat 32 (i 0).val
  let c16_i32_64 : BitVec 32 := 16#32
  let v107 : BitVec 32 := Scalar.muli arg0 c16_i32_64
  let c6_i32 : BitVec 32 := 6#32
  let v108 : BitVec 32 := Scalar.addi v107 c6_i32
  let v109 : Index := Scalar.indexCast v108
  ![0, v109.toNat]
def k0_off78 (v110 : BitVec 32) : Fin 1 → Nat :=
  let v118 : Index := Scalar.indexCast v110
  ![v118.toNat]

def k0_chk23 (v110 : BitVec 32) : Prop :=
  (∀ a, (k0_off78 v110) a + S1.size a ≤ S32512.size a)
theorem k0_off78_inb : ∀ (v110 : BitVec 32) (k0_hw23 : k0_chk23 v110), ∀ a, (k0_off78 v110) a + S1.size a ≤ S32512.size a := fun v110 k0_hw23 => k0_hw23

def k0_off79 (i : grid0.Coords) : Fin 2 → Nat :=
  let c0_75 : Index := 0#32
  let arg0 : BitVec 32 := BitVec.ofNat 32 (i 0).val
  let c16_i32_74 : BitVec 32 := 16#32
  let v124 : BitVec 32 := Scalar.muli arg0 c16_i32_74
  let c7_i32 : BitVec 32 := 7#32
  let v125 : BitVec 32 := Scalar.addi v124 c7_i32
  let v126 : Index := Scalar.indexCast v125
  ![0, v126.toNat]
def k0_off80 (v127 : BitVec 32) : Fin 1 → Nat :=
  let v135 : Index := Scalar.indexCast v127
  ![v135.toNat]

def k0_chk24 (v127 : BitVec 32) : Prop :=
  (∀ a, (k0_off80 v127) a + S1.size a ≤ S32512.size a)
theorem k0_off80_inb : ∀ (v127 : BitVec 32) (k0_hw24 : k0_chk24 v127), ∀ a, (k0_off80 v127) a + S1.size a ≤ S32512.size a := fun v127 k0_hw24 => k0_hw24

def k0_off81 (i : grid0.Coords) : Fin 2 → Nat :=
  let c0_87 : Index := 0#32
  let arg0 : BitVec 32 := BitVec.ofNat 32 (i 0).val
  let c16_i32_85 : BitVec 32 := 16#32
  let v141 : BitVec 32 := Scalar.muli arg0 c16_i32_85
  let c8_i32_86 : BitVec 32 := 8#32
  let v142 : BitVec 32 := Scalar.addi v141 c8_i32_86
  let v143 : Index := Scalar.indexCast v142
  ![0, v143.toNat]
def k0_off82 (v144 : BitVec 32) : Fin 1 → Nat :=
  let v152 : Index := Scalar.indexCast v144
  ![v152.toNat]

def k0_chk25 (v144 : BitVec 32) : Prop :=
  (∀ a, (k0_off82 v144) a + S1.size a ≤ S32512.size a)
theorem k0_off82_inb : ∀ (v144 : BitVec 32) (k0_hw25 : k0_chk25 v144), ∀ a, (k0_off82 v144) a + S1.size a ≤ S32512.size a := fun v144 k0_hw25 => k0_hw25

def k0_off83 (i : grid0.Coords) : Fin 2 → Nat :=
  let c0_97 : Index := 0#32
  let arg0 : BitVec 32 := BitVec.ofNat 32 (i 0).val
  let c16_i32_96 : BitVec 32 := 16#32
  let v158 : BitVec 32 := Scalar.muli arg0 c16_i32_96
  let c9_i32 : BitVec 32 := 9#32
  let v159 : BitVec 32 := Scalar.addi v158 c9_i32
  let v160 : Index := Scalar.indexCast v159
  ![0, v160.toNat]
def k0_off84 (v161 : BitVec 32) : Fin 1 → Nat :=
  let v169 : Index := Scalar.indexCast v161
  ![v169.toNat]

def k0_chk26 (v161 : BitVec 32) : Prop :=
  (∀ a, (k0_off84 v161) a + S1.size a ≤ S32512.size a)
theorem k0_off84_inb : ∀ (v161 : BitVec 32) (k0_hw26 : k0_chk26 v161), ∀ a, (k0_off84 v161) a + S1.size a ≤ S32512.size a := fun v161 k0_hw26 => k0_hw26

def k0_off85 (i : grid0.Coords) : Fin 2 → Nat :=
  let c0_108 : Index := 0#32
  let arg0 : BitVec 32 := BitVec.ofNat 32 (i 0).val
  let c16_i32_107 : BitVec 32 := 16#32
  let v175 : BitVec 32 := Scalar.muli arg0 c16_i32_107
  let c10_i32 : BitVec 32 := 10#32
  let v176 : BitVec 32 := Scalar.addi v175 c10_i32
  let v177 : Index := Scalar.indexCast v176
  ![0, v177.toNat]
def k0_off86 (v178 : BitVec 32) : Fin 1 → Nat :=
  let v186 : Index := Scalar.indexCast v178
  ![v186.toNat]

def k0_chk27 (v178 : BitVec 32) : Prop :=
  (∀ a, (k0_off86 v178) a + S1.size a ≤ S32512.size a)
theorem k0_off86_inb : ∀ (v178 : BitVec 32) (k0_hw27 : k0_chk27 v178), ∀ a, (k0_off86 v178) a + S1.size a ≤ S32512.size a := fun v178 k0_hw27 => k0_hw27

def k0_off87 (i : grid0.Coords) : Fin 2 → Nat :=
  let c0_118 : Index := 0#32
  let arg0 : BitVec 32 := BitVec.ofNat 32 (i 0).val
  let c16_i32_117 : BitVec 32 := 16#32
  let v192 : BitVec 32 := Scalar.muli arg0 c16_i32_117
  let c11_i32 : BitVec 32 := 11#32
  let v193 : BitVec 32 := Scalar.addi v192 c11_i32
  let v194 : Index := Scalar.indexCast v193
  ![0, v194.toNat]
def k0_off88 (v195 : BitVec 32) : Fin 1 → Nat :=
  let v203 : Index := Scalar.indexCast v195
  ![v203.toNat]

def k0_chk28 (v195 : BitVec 32) : Prop :=
  (∀ a, (k0_off88 v195) a + S1.size a ≤ S32512.size a)
theorem k0_off88_inb : ∀ (v195 : BitVec 32) (k0_hw28 : k0_chk28 v195), ∀ a, (k0_off88 v195) a + S1.size a ≤ S32512.size a := fun v195 k0_hw28 => k0_hw28

def k0_off89 (i : grid0.Coords) : Fin 2 → Nat :=
  let c0_129 : Index := 0#32
  let arg0 : BitVec 32 := BitVec.ofNat 32 (i 0).val
  let c16_i32_128 : BitVec 32 := 16#32
  let v209 : BitVec 32 := Scalar.muli arg0 c16_i32_128
  let c12_i32 : BitVec 32 := 12#32
  let v210 : BitVec 32 := Scalar.addi v209 c12_i32
  let v211 : Index := Scalar.indexCast v210
  ![0, v211.toNat]
def k0_off90 (v212 : BitVec 32) : Fin 1 → Nat :=
  let v220 : Index := Scalar.indexCast v212
  ![v220.toNat]

def k0_chk29 (v212 : BitVec 32) : Prop :=
  (∀ a, (k0_off90 v212) a + S1.size a ≤ S32512.size a)
theorem k0_off90_inb : ∀ (v212 : BitVec 32) (k0_hw29 : k0_chk29 v212), ∀ a, (k0_off90 v212) a + S1.size a ≤ S32512.size a := fun v212 k0_hw29 => k0_hw29

def k0_off91 (i : grid0.Coords) : Fin 2 → Nat :=
  let c0_139 : Index := 0#32
  let arg0 : BitVec 32 := BitVec.ofNat 32 (i 0).val
  let c16_i32_138 : BitVec 32 := 16#32
  let v226 : BitVec 32 := Scalar.muli arg0 c16_i32_138
  let c13_i32 : BitVec 32 := 13#32
  let v227 : BitVec 32 := Scalar.addi v226 c13_i32
  let v228 : Index := Scalar.indexCast v227
  ![0, v228.toNat]
def k0_off92 (v229 : BitVec 32) : Fin 1 → Nat :=
  let v237 : Index := Scalar.indexCast v229
  ![v237.toNat]

def k0_chk30 (v229 : BitVec 32) : Prop :=
  (∀ a, (k0_off92 v229) a + S1.size a ≤ S32512.size a)
theorem k0_off92_inb : ∀ (v229 : BitVec 32) (k0_hw30 : k0_chk30 v229), ∀ a, (k0_off92 v229) a + S1.size a ≤ S32512.size a := fun v229 k0_hw30 => k0_hw30

def k0_off93 (i : grid0.Coords) : Fin 2 → Nat :=
  let c0_150 : Index := 0#32
  let arg0 : BitVec 32 := BitVec.ofNat 32 (i 0).val
  let c16_i32_149 : BitVec 32 := 16#32
  let v243 : BitVec 32 := Scalar.muli arg0 c16_i32_149
  let c14_i32 : BitVec 32 := 14#32
  let v244 : BitVec 32 := Scalar.addi v243 c14_i32
  let v245 : Index := Scalar.indexCast v244
  ![0, v245.toNat]
def k0_off94 (v246 : BitVec 32) : Fin 1 → Nat :=
  let v254 : Index := Scalar.indexCast v246
  ![v254.toNat]

def k0_chk31 (v246 : BitVec 32) : Prop :=
  (∀ a, (k0_off94 v246) a + S1.size a ≤ S32512.size a)
theorem k0_off94_inb : ∀ (v246 : BitVec 32) (k0_hw31 : k0_chk31 v246), ∀ a, (k0_off94 v246) a + S1.size a ≤ S32512.size a := fun v246 k0_hw31 => k0_hw31

def k0_off95 (i : grid0.Coords) : Fin 2 → Nat :=
  let c0_160 : Index := 0#32
  let arg0 : BitVec 32 := BitVec.ofNat 32 (i 0).val
  let c16_i32_159 : BitVec 32 := 16#32
  let v260 : BitVec 32 := Scalar.muli arg0 c16_i32_159
  let c15_i32 : BitVec 32 := 15#32
  let v261 : BitVec 32 := Scalar.addi v260 c15_i32
  let v262 : Index := Scalar.indexCast v261
  ![0, v262.toNat]
def k0_off96 (v263 : BitVec 32) : Fin 1 → Nat :=
  let v271 : Index := Scalar.indexCast v263
  ![v271.toNat]

def k0_chk32 (v263 : BitVec 32) : Prop :=
  (∀ a, (k0_off96 v263) a + S1.size a ≤ S32512.size a)
theorem k0_off96_inb : ∀ (v263 : BitVec 32) (k0_hw32 : k0_chk32 v263), ∀ a, (k0_off96 v263) a + S1.size a ≤ S32512.size a := fun v263 k0_hw32 => k0_hw32

def k0_off97 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off98 (i : grid0.Coords) : Fin 4 → Nat :=
  let arg0 : BitVec 32 := BitVec.ofNat 32 (i 0).val
  let c24_i32 : BitVec 32 := 24#32
  let v3 : BitVec 32 := Scalar.remsi arg0 c24_i32
  let c0_i32_170 : BitVec 32 := 0#32
  let c0_i32_171 : BitVec 32 := 0#32
  let c0_i32_172 : BitVec 32 := 0#32
  ![v3.toNat, 0, 0, 0]
def k0_off99 (i : grid0.Coords) : Fin 4 → Nat :=
  let arg0 : BitVec 32 := BitVec.ofNat 32 (i 0).val
  let c24_i32 : BitVec 32 := 24#32
  let v3 : BitVec 32 := Scalar.remsi arg0 c24_i32
  let c1_i32_175 : BitVec 32 := 1#32
  let c0_i32_176 : BitVec 32 := 0#32
  let c0_i32_177 : BitVec 32 := 0#32
  ![v3.toNat, 1, 0, 0]
def k0_cond2 (i : grid0.Coords) : BitVec 1 :=
  let arg0 : BitVec 32 := BitVec.ofNat 32 (i 0).val
  let c8_i32_180 : BitVec 32 := 8#32
  let v287 : BitVec 1 := Scalar.cmpi .sge arg0 c8_i32_180
  let v288 : BitVec 32 := Scalar.extui v287
  let c0_i32_181 : BitVec 32 := 0#32
  let v289 : BitVec 1 := Scalar.cmpi .ne v288 c0_i32_181
  v289

def k0_off100 (i : grid0.Coords) : Fin 1 → Nat :=
  let arg0 : BitVec 32 := BitVec.ofNat 32 (i 0).val
  let c8_i32 : BitVec 32 := 8#32
  let v4 : BitVec 32 := Scalar.remsi arg0 c8_i32
  ![v4.toNat]
def k0_off101 (i : grid0.Coords) : Fin 2 → Nat :=
  let arg0 : BitVec 32 := BitVec.ofNat 32 (i 0).val
  let c16_i32_218 : BitVec 32 := 16#32
  let v342 : BitVec 32 := Scalar.muli arg0 c16_i32_218
  let c0_i32_219 : BitVec 32 := 0#32
  ![v342.toNat, 0]
def k0_off102 (i : grid0.Coords) : Fin 3 → Nat :=
  let arg0 : BitVec 32 := BitVec.ofNat 32 (i 0).val
  let c8_i32 : BitVec 32 := 8#32
  let v4 : BitVec 32 := Scalar.remsi arg0 c8_i32
  let c0_i32_220 : BitVec 32 := 0#32
  let c0_i32_221 : BitVec 32 := 0#32
  ![v4.toNat, 0, 0]
@[reducible] def k0_t2_loop : Scf.Loop 32 :=
  let c0_i32_194 : BitVec 32 := 0#32
  let c4_i32_195 : BitVec 32 := 4#32
  let v303 : BitVec 32 := Scalar.addi c0_i32_194 c4_i32_195
  let c1_i32_196 : BitVec 32 := 1#32
  ⟨c0_i32_194, v303, c1_i32_196⟩
def k0_mult1 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32 : BitVec 32 := 2048#32
  let v342 : BitVec 32 := Scalar.muli arg20 c2048_i32
  v342
def k0_off103 (i : grid0.Coords) (k0_t2 : Fin k0_t2_loop.trips) (c0_i32_218 : BitVec 32) : Fin 4 → Nat :=
  let arg0 : BitVec 32 := BitVec.ofNat 32 (i 0).val
  let c24_i32 : BitVec 32 := 24#32
  let v3 : BitVec 32 := Scalar.remsi arg0 c24_i32
  let v345 : Index := Scalar.indexCast v3
  let c0_219 : Index := 0#32
  let c0_220 : Index := 0#32
  let c0_i32_194 : BitVec 32 := 0#32
  let c1_i32_196 : BitVec 32 := 1#32
  let arg20 : BitVec 32 := Scf.iv c0_i32_194 c1_i32_196 k0_t2
  let c2048_i32 : BitVec 32 := 2048#32
  let v342 : BitVec 32 := Scalar.muli arg20 c2048_i32
  let v343 : BitVec 32 := v342
  let v344 : BitVec 32 := Scalar.addi v343 c0_i32_218
  let v346 : Index := Scalar.indexCast v344
  ![v345.toNat, 0, 0, v346.toNat]
def k0_off104 (i : grid0.Coords) (k0_t2 : Fin k0_t2_loop.trips) (c0_i32_218 : BitVec 32) : Fin 4 → Nat :=
  let arg0 : BitVec 32 := BitVec.ofNat 32 (i 0).val
  let c24_i32 : BitVec 32 := 24#32
  let v3 : BitVec 32 := Scalar.remsi arg0 c24_i32
  let v354 : Index := Scalar.indexCast v3
  let c1_222 : Index := 1#32
  let c0_223 : Index := 0#32
  let c0_i32_194 : BitVec 32 := 0#32
  let c1_i32_196 : BitVec 32 := 1#32
  let arg20 : BitVec 32 := Scf.iv c0_i32_194 c1_i32_196 k0_t2
  let c2048_i32 : BitVec 32 := 2048#32
  let v342 : BitVec 32 := Scalar.muli arg20 c2048_i32
  let v343 : BitVec 32 := v342
  let v344 : BitVec 32 := Scalar.addi v343 c0_i32_218
  let v355 : Index := Scalar.indexCast v344
  ![v354.toNat, 1, 0, v355.toNat]
def k0_off105 (i : grid0.Coords) (k0_t2 : Fin k0_t2_loop.trips) (c0_i32_218 : BitVec 32) : Fin 3 → Nat :=
  let arg0 : BitVec 32 := BitVec.ofNat 32 (i 0).val
  let c8_i32 : BitVec 32 := 8#32
  let v4 : BitVec 32 := Scalar.remsi arg0 c8_i32
  let v365 : Index := Scalar.indexCast v4
  let c0_i32_194 : BitVec 32 := 0#32
  let c1_i32_196 : BitVec 32 := 1#32
  let arg20 : BitVec 32 := Scf.iv c0_i32_194 c1_i32_196 k0_t2
  let c2048_i32 : BitVec 32 := 2048#32
  let v342 : BitVec 32 := Scalar.muli arg20 c2048_i32
  let v343 : BitVec 32 := v342
  let v344 : BitVec 32 := Scalar.addi v343 c0_i32_218
  let v366 : Index := Scalar.indexCast v344
  ![v365.toNat, 0, v366.toNat]
def k0_mult2 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_229 : BitVec 32 := 2048#32
  let v382 : BitVec 32 := Scalar.muli arg20 c2048_i32_229
  v382
def k0_mult3 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_241 : BitVec 32 := 2048#32
  let v422 : BitVec 32 := Scalar.muli arg20 c2048_i32_241
  v422
def k0_mult4 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_252 : BitVec 32 := 2048#32
  let v462 : BitVec 32 := Scalar.muli arg20 c2048_i32_252
  v462
def k0_mult5 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_263 : BitVec 32 := 2048#32
  let v502 : BitVec 32 := Scalar.muli arg20 c2048_i32_263
  v502
def k0_mult6 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_274 : BitVec 32 := 2048#32
  let v542 : BitVec 32 := Scalar.muli arg20 c2048_i32_274
  v542
def k0_mult7 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_285 : BitVec 32 := 2048#32
  let v582 : BitVec 32 := Scalar.muli arg20 c2048_i32_285
  v582
def k0_mult8 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_296 : BitVec 32 := 2048#32
  let v622 : BitVec 32 := Scalar.muli arg20 c2048_i32_296
  v622
def k0_mult9 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_307 : BitVec 32 := 2048#32
  let v662 : BitVec 32 := Scalar.muli arg20 c2048_i32_307
  v662
def k0_mult10 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_318 : BitVec 32 := 2048#32
  let v702 : BitVec 32 := Scalar.muli arg20 c2048_i32_318
  v702
def k0_mult11 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_329 : BitVec 32 := 2048#32
  let v742 : BitVec 32 := Scalar.muli arg20 c2048_i32_329
  v742
def k0_mult12 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_340 : BitVec 32 := 2048#32
  let v782 : BitVec 32 := Scalar.muli arg20 c2048_i32_340
  v782
def k0_mult13 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_351 : BitVec 32 := 2048#32
  let v822 : BitVec 32 := Scalar.muli arg20 c2048_i32_351
  v822
def k0_mult14 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_362 : BitVec 32 := 2048#32
  let v862 : BitVec 32 := Scalar.muli arg20 c2048_i32_362
  v862
def k0_mult15 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_373 : BitVec 32 := 2048#32
  let v902 : BitVec 32 := Scalar.muli arg20 c2048_i32_373
  v902
def k0_mult16 (k0_t2 : Fin k0_t2_loop.trips) : BitVec 32 :=
  let c0_i32_194 : BitVec 32 := 0#32
  let c1_i32_196 : BitVec 32 := 1#32
  let arg20 : BitVec 32 := Scf.iv c0_i32_194 c1_i32_196 k0_t2
  let c2048_i32_384 : BitVec 32 := 2048#32
  let v942 : BitVec 32 := Scalar.muli arg20 c2048_i32_384
  v942
@[reducible] def k0_t3_loop : Scf.Loop 32 :=
  let c0_i32_204 : BitVec 32 := 0#32
  let c4_i32_205 : BitVec 32 := 4#32
  let v323 : BitVec 32 := Scalar.addi c0_i32_204 c4_i32_205
  let c1_i32_206 : BitVec 32 := 1#32
  ⟨c0_i32_204, v323, c1_i32_206⟩
def k0_mult17 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32 : BitVec 32 := 2048#32
  let v342 : BitVec 32 := Scalar.muli arg20 c2048_i32
  v342
def k0_off106 (i : grid0.Coords) (k0_t3 : Fin k0_t3_loop.trips) (c0_i32_218 : BitVec 32) : Fin 3 → Nat :=
  let arg0 : BitVec 32 := BitVec.ofNat 32 (i 0).val
  let c8_i32 : BitVec 32 := 8#32
  let v4 : BitVec 32 := Scalar.remsi arg0 c8_i32
  let v346 : Index := Scalar.indexCast v4
  let c0_i32_204 : BitVec 32 := 0#32
  let c1_i32_206 : BitVec 32 := 1#32
  let arg20 : BitVec 32 := Scf.iv c0_i32_204 c1_i32_206 k0_t3
  let c2048_i32 : BitVec 32 := 2048#32
  let v342 : BitVec 32 := Scalar.muli arg20 c2048_i32
  let v343 : BitVec 32 := v342
  let v344 : BitVec 32 := Scalar.addi v343 c0_i32_218
  let v347 : Index := Scalar.indexCast v344
  ![v346.toNat, 0, v347.toNat]
def k0_off107 (k0_t3 : Fin k0_t3_loop.trips) (c0_i32_218 : BitVec 32) : Fin 2 → Nat :=
  let c0_221 : Index := 0#32
  let c0_i32_204 : BitVec 32 := 0#32
  let c1_i32_206 : BitVec 32 := 1#32
  let arg20 : BitVec 32 := Scf.iv c0_i32_204 c1_i32_206 k0_t3
  let c2048_i32 : BitVec 32 := 2048#32
  let v342 : BitVec 32 := Scalar.muli arg20 c2048_i32
  let v343 : BitVec 32 := v342
  let v344 : BitVec 32 := Scalar.addi v343 c0_i32_218
  let v354 : Index := Scalar.indexCast v344
  ![0, v354.toNat]
def k0_mult18 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_226 : BitVec 32 := 2048#32
  let v373 : BitVec 32 := Scalar.muli arg20 c2048_i32_226
  v373
def k0_mult19 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_235 : BitVec 32 := 2048#32
  let v404 : BitVec 32 := Scalar.muli arg20 c2048_i32_235
  v404
def k0_mult20 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_243 : BitVec 32 := 2048#32
  let v435 : BitVec 32 := Scalar.muli arg20 c2048_i32_243
  v435
def k0_mult21 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_251 : BitVec 32 := 2048#32
  let v466 : BitVec 32 := Scalar.muli arg20 c2048_i32_251
  v466
def k0_mult22 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_259 : BitVec 32 := 2048#32
  let v497 : BitVec 32 := Scalar.muli arg20 c2048_i32_259
  v497
def k0_mult23 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_267 : BitVec 32 := 2048#32
  let v528 : BitVec 32 := Scalar.muli arg20 c2048_i32_267
  v528
def k0_mult24 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_275 : BitVec 32 := 2048#32
  let v559 : BitVec 32 := Scalar.muli arg20 c2048_i32_275
  v559
def k0_mult25 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_283 : BitVec 32 := 2048#32
  let v590 : BitVec 32 := Scalar.muli arg20 c2048_i32_283
  v590
def k0_mult26 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_291 : BitVec 32 := 2048#32
  let v621 : BitVec 32 := Scalar.muli arg20 c2048_i32_291
  v621
def k0_mult27 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_299 : BitVec 32 := 2048#32
  let v652 : BitVec 32 := Scalar.muli arg20 c2048_i32_299
  v652
def k0_mult28 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_307 : BitVec 32 := 2048#32
  let v683 : BitVec 32 := Scalar.muli arg20 c2048_i32_307
  v683
def k0_mult29 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_315 : BitVec 32 := 2048#32
  let v714 : BitVec 32 := Scalar.muli arg20 c2048_i32_315
  v714
def k0_mult30 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_323 : BitVec 32 := 2048#32
  let v745 : BitVec 32 := Scalar.muli arg20 c2048_i32_323
  v745
def k0_mult31 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_331 : BitVec 32 := 2048#32
  let v776 : BitVec 32 := Scalar.muli arg20 c2048_i32_331
  v776
def k0_mult32 (k0_t3 : Fin k0_t3_loop.trips) : BitVec 32 :=
  let c0_i32_204 : BitVec 32 := 0#32
  let c1_i32_206 : BitVec 32 := 1#32
  let arg20 : BitVec 32 := Scf.iv c0_i32_204 c1_i32_206 k0_t3
  let c2048_i32_339 : BitVec 32 := 2048#32
  let v807 : BitVec 32 := Scalar.muli arg20 c2048_i32_339
  v807
def k0_off108 (i : grid0.Coords) : Fin 1 → Nat :=
  let arg0 : BitVec 32 := BitVec.ofNat 32 (i 0).val
  let c8_i32 : BitVec 32 := 8#32
  let v4 : BitVec 32 := Scalar.remsi arg0 c8_i32
  ![v4.toNat]
def k0_off109 (i : grid0.Coords) : Fin 2 → Nat :=
  let arg0 : BitVec 32 := BitVec.ofNat 32 (i 0).val
  let c16_i32_208 : BitVec 32 := 16#32
  let v324 : BitVec 32 := Scalar.muli arg0 c16_i32_208
  let c0_i32_209 : BitVec 32 := 0#32
  ![v324.toNat, 0]
def k0_off110 (i : grid0.Coords) : Fin 3 → Nat :=
  let arg0 : BitVec 32 := BitVec.ofNat 32 (i 0).val
  let c8_i32 : BitVec 32 := 8#32
  let v4 : BitVec 32 := Scalar.remsi arg0 c8_i32
  let c0_i32_210 : BitVec 32 := 0#32
  let c0_i32_211 : BitVec 32 := 0#32
  ![v4.toNat, 0, 0]
def k0_cond3 (i : grid0.Coords) : BitVec 1 :=
  let arg0 : BitVec 32 := BitVec.ofNat 32 (i 0).val
  let c24_i32_215 : BitVec 32 := 24#32
  let v335 : BitVec 32 := Scalar.addi arg0 c24_i32_215
  let c128_i32 : BitVec 32 := 128#32
  let v336 : BitVec 1 := Scalar.cmpi .slt v335 c128_i32
  let v337 : BitVec 32 := Scalar.extui v336
  let c0_i32_216 : BitVec 32 := 0#32
  let v338 : BitVec 1 := Scalar.cmpi .ne v337 c0_i32_216
  v338

def k0_off111 (i : grid0.Coords) : Fin 2 → Nat :=
  let c0_221 : Index := 0#32
  let arg0 : BitVec 32 := BitVec.ofNat 32 (i 0).val
  let c24_i32_218 : BitVec 32 := 24#32
  let v342 : BitVec 32 := Scalar.addi arg0 c24_i32_218
  let c16_i32_219 : BitVec 32 := 16#32
  let v343 : BitVec 32 := Scalar.muli v342 c16_i32_219
  let c0_i32_220 : BitVec 32 := 0#32
  let v344 : BitVec 32 := Scalar.addi v343 c0_i32_220
  let v345 : Index := Scalar.indexCast v344
  ![0, v345.toNat]
def k0_off112 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off113 (i : grid0.Coords) : Fin 4 → Nat :=
  let arg0 : BitVec 32 := BitVec.ofNat 32 (i 0).val
  let c24_i32 : BitVec 32 := 24#32
  let v3 : BitVec 32 := Scalar.remsi arg0 c24_i32
  let c0_i32_223 : BitVec 32 := 0#32
  let c0_i32_224 : BitVec 32 := 0#32
  let c0_i32_225 : BitVec 32 := 0#32
  ![v3.toNat, 0, 0, 0]
def k0_off114 (v346 : BitVec 32) : Fin 2 → Nat :=
  let c2_i32_222 : BitVec 32 := 2#32
  let v347 : BitVec 32 := Scalar.shrui v346 c2_i32_222
  let c0_i32_226 : BitVec 32 := 0#32
  ![v347.toNat, 0]

def k0_chk33 (i : grid0.Coords) (v346 : BitVec 32) : Prop :=
  (∀ (k0_h3 : k0_cond3 i = 1#1), ∀ a, (k0_off114 v346) a + S1x8192.size a ≤ S8128x8192.size a)
theorem k0_off114_inb : ∀ (i : grid0.Coords) (v346 : BitVec 32) (k0_hw33 : k0_chk33 i v346), ∀ (k0_h3 : k0_cond3 i = 1#1), ∀ a, (k0_off114 v346) a + S1x8192.size a ≤ S8128x8192.size a := fun i v346 k0_hw33 k0_h3 => k0_hw33 k0_h3

def k0_off115 (i : grid0.Coords) : Fin 2 → Nat :=
  let c0_229 : Index := 0#32
  let arg0 : BitVec 32 := BitVec.ofNat 32 (i 0).val
  let c24_i32_218 : BitVec 32 := 24#32
  let v342 : BitVec 32 := Scalar.addi arg0 c24_i32_218
  let c16_i32_227 : BitVec 32 := 16#32
  let v353 : BitVec 32 := Scalar.muli v342 c16_i32_227
  let c1_i32_228 : BitVec 32 := 1#32
  let v354 : BitVec 32 := Scalar.addi v353 c1_i32_228
  let v355 : Index := Scalar.indexCast v354
  ![0, v355.toNat]
def k0_off116 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off117 (i : grid0.Coords) : Fin 4 → Nat :=
  let arg0 : BitVec 32 := BitVec.ofNat 32 (i 0).val
  let c24_i32 : BitVec 32 := 24#32
  let v3 : BitVec 32 := Scalar.remsi arg0 c24_i32
  let c1_i32_231 : BitVec 32 := 1#32
  let c0_i32_232 : BitVec 32 := 0#32
  let c0_i32_233 : BitVec 32 := 0#32
  ![v3.toNat, 1, 0, 0]
def k0_off118 (v356 : BitVec 32) : Fin 2 → Nat :=
  let c2_i32_230 : BitVec 32 := 2#32
  let v357 : BitVec 32 := Scalar.shrui v356 c2_i32_230
  let c0_i32_234 : BitVec 32 := 0#32
  ![v357.toNat, 0]

def k0_chk34 (i : grid0.Coords) (v356 : BitVec 32) : Prop :=
  (∀ (k0_h3 : k0_cond3 i = 1#1), ∀ a, (k0_off118 v356) a + S1x8192.size a ≤ S8128x8192.size a)
theorem k0_off118_inb : ∀ (i : grid0.Coords) (v356 : BitVec 32) (k0_hw34 : k0_chk34 i v356), ∀ (k0_h3 : k0_cond3 i = 1#1), ∀ a, (k0_off118 v356) a + S1x8192.size a ≤ S8128x8192.size a := fun i v356 k0_hw34 k0_h3 => k0_hw34 k0_h3

def k0_off119 (i : grid0.Coords) : Fin 2 → Nat :=
  let c0_237 : Index := 0#32
  let arg0 : BitVec 32 := BitVec.ofNat 32 (i 0).val
  let c24_i32_218 : BitVec 32 := 24#32
  let v342 : BitVec 32 := Scalar.addi arg0 c24_i32_218
  let c16_i32_235 : BitVec 32 := 16#32
  let v363 : BitVec 32 := Scalar.muli v342 c16_i32_235
  let c2_i32_236 : BitVec 32 := 2#32
  let v364 : BitVec 32 := Scalar.addi v363 c2_i32_236
  let v365 : Index := Scalar.indexCast v364
  ![0, v365.toNat]
def k0_off120 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off121 (i : grid0.Coords) : Fin 4 → Nat :=
  let arg0 : BitVec 32 := BitVec.ofNat 32 (i 0).val
  let c24_i32 : BitVec 32 := 24#32
  let v3 : BitVec 32 := Scalar.remsi arg0 c24_i32
  let c0_i32_239 : BitVec 32 := 0#32
  let c1_i32_240 : BitVec 32 := 1#32
  let c0_i32_241 : BitVec 32 := 0#32
  ![v3.toNat, 0, 1, 0]
def k0_off122 (v366 : BitVec 32) : Fin 2 → Nat :=
  let c2_i32_238 : BitVec 32 := 2#32
  let v367 : BitVec 32 := Scalar.shrui v366 c2_i32_238
  let c0_i32_242 : BitVec 32 := 0#32
  ![v367.toNat, 0]

def k0_chk35 (i : grid0.Coords) (v366 : BitVec 32) : Prop :=
  (∀ (k0_h3 : k0_cond3 i = 1#1), ∀ a, (k0_off122 v366) a + S1x8192.size a ≤ S8128x8192.size a)
theorem k0_off122_inb : ∀ (i : grid0.Coords) (v366 : BitVec 32) (k0_hw35 : k0_chk35 i v366), ∀ (k0_h3 : k0_cond3 i = 1#1), ∀ a, (k0_off122 v366) a + S1x8192.size a ≤ S8128x8192.size a := fun i v366 k0_hw35 k0_h3 => k0_hw35 k0_h3

def k0_off123 (i : grid0.Coords) : Fin 2 → Nat :=
  let c0_245 : Index := 0#32
  let arg0 : BitVec 32 := BitVec.ofNat 32 (i 0).val
  let c24_i32_218 : BitVec 32 := 24#32
  let v342 : BitVec 32 := Scalar.addi arg0 c24_i32_218
  let c16_i32_243 : BitVec 32 := 16#32
  let v373 : BitVec 32 := Scalar.muli v342 c16_i32_243
  let c3_i32_244 : BitVec 32 := 3#32
  let v374 : BitVec 32 := Scalar.addi v373 c3_i32_244
  let v375 : Index := Scalar.indexCast v374
  ![0, v375.toNat]
def k0_off124 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off125 (i : grid0.Coords) : Fin 4 → Nat :=
  let arg0 : BitVec 32 := BitVec.ofNat 32 (i 0).val
  let c24_i32 : BitVec 32 := 24#32
  let v3 : BitVec 32 := Scalar.remsi arg0 c24_i32
  let c1_i32_247 : BitVec 32 := 1#32
  let c1_i32_248 : BitVec 32 := 1#32
  let c0_i32_249 : BitVec 32 := 0#32
  ![v3.toNat, 1, 1, 0]
def k0_off126 (v376 : BitVec 32) : Fin 2 → Nat :=
  let c2_i32_246 : BitVec 32 := 2#32
  let v377 : BitVec 32 := Scalar.shrui v376 c2_i32_246
  let c0_i32_250 : BitVec 32 := 0#32
  ![v377.toNat, 0]

def k0_chk36 (i : grid0.Coords) (v376 : BitVec 32) : Prop :=
  (∀ (k0_h3 : k0_cond3 i = 1#1), ∀ a, (k0_off126 v376) a + S1x8192.size a ≤ S8128x8192.size a)
theorem k0_off126_inb : ∀ (i : grid0.Coords) (v376 : BitVec 32) (k0_hw36 : k0_chk36 i v376), ∀ (k0_h3 : k0_cond3 i = 1#1), ∀ a, (k0_off126 v376) a + S1x8192.size a ≤ S8128x8192.size a := fun i v376 k0_hw36 k0_h3 => k0_hw36 k0_h3

def k0_off127 (i : grid0.Coords) : Fin 2 → Nat :=
  let c0_253 : Index := 0#32
  let arg0 : BitVec 32 := BitVec.ofNat 32 (i 0).val
  let c24_i32_218 : BitVec 32 := 24#32
  let v342 : BitVec 32 := Scalar.addi arg0 c24_i32_218
  let c16_i32_251 : BitVec 32 := 16#32
  let v383 : BitVec 32 := Scalar.muli v342 c16_i32_251
  let c4_i32_252 : BitVec 32 := 4#32
  let v384 : BitVec 32 := Scalar.addi v383 c4_i32_252
  let v385 : Index := Scalar.indexCast v384
  ![0, v385.toNat]
def k0_off128 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off129 (i : grid0.Coords) : Fin 4 → Nat :=
  let arg0 : BitVec 32 := BitVec.ofNat 32 (i 0).val
  let c24_i32 : BitVec 32 := 24#32
  let v3 : BitVec 32 := Scalar.remsi arg0 c24_i32
  let c0_i32_255 : BitVec 32 := 0#32
  let c2_i32_256 : BitVec 32 := 2#32
  let c0_i32_257 : BitVec 32 := 0#32
  ![v3.toNat, 0, 2, 0]
def k0_off130 (v386 : BitVec 32) : Fin 2 → Nat :=
  let c2_i32_254 : BitVec 32 := 2#32
  let v387 : BitVec 32 := Scalar.shrui v386 c2_i32_254
  let c0_i32_258 : BitVec 32 := 0#32
  ![v387.toNat, 0]

def k0_chk37 (i : grid0.Coords) (v386 : BitVec 32) : Prop :=
  (∀ (k0_h3 : k0_cond3 i = 1#1), ∀ a, (k0_off130 v386) a + S1x8192.size a ≤ S8128x8192.size a)
theorem k0_off130_inb : ∀ (i : grid0.Coords) (v386 : BitVec 32) (k0_hw37 : k0_chk37 i v386), ∀ (k0_h3 : k0_cond3 i = 1#1), ∀ a, (k0_off130 v386) a + S1x8192.size a ≤ S8128x8192.size a := fun i v386 k0_hw37 k0_h3 => k0_hw37 k0_h3

def k0_off131 (i : grid0.Coords) : Fin 2 → Nat :=
  let c0_261 : Index := 0#32
  let arg0 : BitVec 32 := BitVec.ofNat 32 (i 0).val
  let c24_i32_218 : BitVec 32 := 24#32
  let v342 : BitVec 32 := Scalar.addi arg0 c24_i32_218
  let c16_i32_259 : BitVec 32 := 16#32
  let v393 : BitVec 32 := Scalar.muli v342 c16_i32_259
  let c5_i32_260 : BitVec 32 := 5#32
  let v394 : BitVec 32 := Scalar.addi v393 c5_i32_260
  let v395 : Index := Scalar.indexCast v394
  ![0, v395.toNat]
def k0_off132 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off133 (i : grid0.Coords) : Fin 4 → Nat :=
  let arg0 : BitVec 32 := BitVec.ofNat 32 (i 0).val
  let c24_i32 : BitVec 32 := 24#32
  let v3 : BitVec 32 := Scalar.remsi arg0 c24_i32
  let c1_i32_263 : BitVec 32 := 1#32
  let c2_i32_264 : BitVec 32 := 2#32
  let c0_i32_265 : BitVec 32 := 0#32
  ![v3.toNat, 1, 2, 0]
def k0_off134 (v396 : BitVec 32) : Fin 2 → Nat :=
  let c2_i32_262 : BitVec 32 := 2#32
  let v397 : BitVec 32 := Scalar.shrui v396 c2_i32_262
  let c0_i32_266 : BitVec 32 := 0#32
  ![v397.toNat, 0]

def k0_chk38 (i : grid0.Coords) (v396 : BitVec 32) : Prop :=
  (∀ (k0_h3 : k0_cond3 i = 1#1), ∀ a, (k0_off134 v396) a + S1x8192.size a ≤ S8128x8192.size a)
theorem k0_off134_inb : ∀ (i : grid0.Coords) (v396 : BitVec 32) (k0_hw38 : k0_chk38 i v396), ∀ (k0_h3 : k0_cond3 i = 1#1), ∀ a, (k0_off134 v396) a + S1x8192.size a ≤ S8128x8192.size a := fun i v396 k0_hw38 k0_h3 => k0_hw38 k0_h3

def k0_off135 (i : grid0.Coords) : Fin 2 → Nat :=
  let c0_269 : Index := 0#32
  let arg0 : BitVec 32 := BitVec.ofNat 32 (i 0).val
  let c24_i32_218 : BitVec 32 := 24#32
  let v342 : BitVec 32 := Scalar.addi arg0 c24_i32_218
  let c16_i32_267 : BitVec 32 := 16#32
  let v403 : BitVec 32 := Scalar.muli v342 c16_i32_267
  let c6_i32_268 : BitVec 32 := 6#32
  let v404 : BitVec 32 := Scalar.addi v403 c6_i32_268
  let v405 : Index := Scalar.indexCast v404
  ![0, v405.toNat]
def k0_off136 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off137 (i : grid0.Coords) : Fin 4 → Nat :=
  let arg0 : BitVec 32 := BitVec.ofNat 32 (i 0).val
  let c24_i32 : BitVec 32 := 24#32
  let v3 : BitVec 32 := Scalar.remsi arg0 c24_i32
  let c0_i32_271 : BitVec 32 := 0#32
  let c3_i32_272 : BitVec 32 := 3#32
  let c0_i32_273 : BitVec 32 := 0#32
  ![v3.toNat, 0, 3, 0]
def k0_off138 (v406 : BitVec 32) : Fin 2 → Nat :=
  let c2_i32_270 : BitVec 32 := 2#32
  let v407 : BitVec 32 := Scalar.shrui v406 c2_i32_270
  let c0_i32_274 : BitVec 32 := 0#32
  ![v407.toNat, 0]

def k0_chk39 (i : grid0.Coords) (v406 : BitVec 32) : Prop :=
  (∀ (k0_h3 : k0_cond3 i = 1#1), ∀ a, (k0_off138 v406) a + S1x8192.size a ≤ S8128x8192.size a)
theorem k0_off138_inb : ∀ (i : grid0.Coords) (v406 : BitVec 32) (k0_hw39 : k0_chk39 i v406), ∀ (k0_h3 : k0_cond3 i = 1#1), ∀ a, (k0_off138 v406) a + S1x8192.size a ≤ S8128x8192.size a := fun i v406 k0_hw39 k0_h3 => k0_hw39 k0_h3

def k0_off139 (i : grid0.Coords) : Fin 2 → Nat :=
  let c0_277 : Index := 0#32
  let arg0 : BitVec 32 := BitVec.ofNat 32 (i 0).val
  let c24_i32_218 : BitVec 32 := 24#32
  let v342 : BitVec 32 := Scalar.addi arg0 c24_i32_218
  let c16_i32_275 : BitVec 32 := 16#32
  let v413 : BitVec 32 := Scalar.muli v342 c16_i32_275
  let c7_i32_276 : BitVec 32 := 7#32
  let v414 : BitVec 32 := Scalar.addi v413 c7_i32_276
  let v415 : Index := Scalar.indexCast v414
  ![0, v415.toNat]
def k0_off140 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off141 (i : grid0.Coords) : Fin 4 → Nat :=
  let arg0 : BitVec 32 := BitVec.ofNat 32 (i 0).val
  let c24_i32 : BitVec 32 := 24#32
  let v3 : BitVec 32 := Scalar.remsi arg0 c24_i32
  let c1_i32_279 : BitVec 32 := 1#32
  let c3_i32_280 : BitVec 32 := 3#32
  let c0_i32_281 : BitVec 32 := 0#32
  ![v3.toNat, 1, 3, 0]
def k0_off142 (v416 : BitVec 32) : Fin 2 → Nat :=
  let c2_i32_278 : BitVec 32 := 2#32
  let v417 : BitVec 32 := Scalar.shrui v416 c2_i32_278
  let c0_i32_282 : BitVec 32 := 0#32
  ![v417.toNat, 0]

def k0_chk40 (i : grid0.Coords) (v416 : BitVec 32) : Prop :=
  (∀ (k0_h3 : k0_cond3 i = 1#1), ∀ a, (k0_off142 v416) a + S1x8192.size a ≤ S8128x8192.size a)
theorem k0_off142_inb : ∀ (i : grid0.Coords) (v416 : BitVec 32) (k0_hw40 : k0_chk40 i v416), ∀ (k0_h3 : k0_cond3 i = 1#1), ∀ a, (k0_off142 v416) a + S1x8192.size a ≤ S8128x8192.size a := fun i v416 k0_hw40 k0_h3 => k0_hw40 k0_h3

def k0_off143 (i : grid0.Coords) : Fin 2 → Nat :=
  let c0_285 : Index := 0#32
  let arg0 : BitVec 32 := BitVec.ofNat 32 (i 0).val
  let c24_i32_218 : BitVec 32 := 24#32
  let v342 : BitVec 32 := Scalar.addi arg0 c24_i32_218
  let c16_i32_283 : BitVec 32 := 16#32
  let v423 : BitVec 32 := Scalar.muli v342 c16_i32_283
  let c8_i32_284 : BitVec 32 := 8#32
  let v424 : BitVec 32 := Scalar.addi v423 c8_i32_284
  let v425 : Index := Scalar.indexCast v424
  ![0, v425.toNat]
def k0_off144 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off145 (i : grid0.Coords) : Fin 4 → Nat :=
  let arg0 : BitVec 32 := BitVec.ofNat 32 (i 0).val
  let c24_i32 : BitVec 32 := 24#32
  let v3 : BitVec 32 := Scalar.remsi arg0 c24_i32
  let c0_i32_287 : BitVec 32 := 0#32
  let c4_i32_288 : BitVec 32 := 4#32
  let c0_i32_289 : BitVec 32 := 0#32
  ![v3.toNat, 0, 4, 0]
def k0_off146 (v426 : BitVec 32) : Fin 2 → Nat :=
  let c2_i32_286 : BitVec 32 := 2#32
  let v427 : BitVec 32 := Scalar.shrui v426 c2_i32_286
  let c0_i32_290 : BitVec 32 := 0#32
  ![v427.toNat, 0]

def k0_chk41 (i : grid0.Coords) (v426 : BitVec 32) : Prop :=
  (∀ (k0_h3 : k0_cond3 i = 1#1), ∀ a, (k0_off146 v426) a + S1x8192.size a ≤ S8128x8192.size a)
theorem k0_off146_inb : ∀ (i : grid0.Coords) (v426 : BitVec 32) (k0_hw41 : k0_chk41 i v426), ∀ (k0_h3 : k0_cond3 i = 1#1), ∀ a, (k0_off146 v426) a + S1x8192.size a ≤ S8128x8192.size a := fun i v426 k0_hw41 k0_h3 => k0_hw41 k0_h3

def k0_off147 (i : grid0.Coords) : Fin 2 → Nat :=
  let c0_293 : Index := 0#32
  let arg0 : BitVec 32 := BitVec.ofNat 32 (i 0).val
  let c24_i32_218 : BitVec 32 := 24#32
  let v342 : BitVec 32 := Scalar.addi arg0 c24_i32_218
  let c16_i32_291 : BitVec 32 := 16#32
  let v433 : BitVec 32 := Scalar.muli v342 c16_i32_291
  let c9_i32_292 : BitVec 32 := 9#32
  let v434 : BitVec 32 := Scalar.addi v433 c9_i32_292
  let v435 : Index := Scalar.indexCast v434
  ![0, v435.toNat]
def k0_off148 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off149 (i : grid0.Coords) : Fin 4 → Nat :=
  let arg0 : BitVec 32 := BitVec.ofNat 32 (i 0).val
  let c24_i32 : BitVec 32 := 24#32
  let v3 : BitVec 32 := Scalar.remsi arg0 c24_i32
  let c1_i32_295 : BitVec 32 := 1#32
  let c4_i32_296 : BitVec 32 := 4#32
  let c0_i32_297 : BitVec 32 := 0#32
  ![v3.toNat, 1, 4, 0]
def k0_off150 (v436 : BitVec 32) : Fin 2 → Nat :=
  let c2_i32_294 : BitVec 32 := 2#32
  let v437 : BitVec 32 := Scalar.shrui v436 c2_i32_294
  let c0_i32_298 : BitVec 32 := 0#32
  ![v437.toNat, 0]

def k0_chk42 (i : grid0.Coords) (v436 : BitVec 32) : Prop :=
  (∀ (k0_h3 : k0_cond3 i = 1#1), ∀ a, (k0_off150 v436) a + S1x8192.size a ≤ S8128x8192.size a)
theorem k0_off150_inb : ∀ (i : grid0.Coords) (v436 : BitVec 32) (k0_hw42 : k0_chk42 i v436), ∀ (k0_h3 : k0_cond3 i = 1#1), ∀ a, (k0_off150 v436) a + S1x8192.size a ≤ S8128x8192.size a := fun i v436 k0_hw42 k0_h3 => k0_hw42 k0_h3

def k0_off151 (i : grid0.Coords) : Fin 2 → Nat :=
  let c0_301 : Index := 0#32
  let arg0 : BitVec 32 := BitVec.ofNat 32 (i 0).val
  let c24_i32_218 : BitVec 32 := 24#32
  let v342 : BitVec 32 := Scalar.addi arg0 c24_i32_218
  let c16_i32_299 : BitVec 32 := 16#32
  let v443 : BitVec 32 := Scalar.muli v342 c16_i32_299
  let c10_i32_300 : BitVec 32 := 10#32
  let v444 : BitVec 32 := Scalar.addi v443 c10_i32_300
  let v445 : Index := Scalar.indexCast v444
  ![0, v445.toNat]
def k0_off152 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off153 (i : grid0.Coords) : Fin 4 → Nat :=
  let arg0 : BitVec 32 := BitVec.ofNat 32 (i 0).val
  let c24_i32 : BitVec 32 := 24#32
  let v3 : BitVec 32 := Scalar.remsi arg0 c24_i32
  let c0_i32_303 : BitVec 32 := 0#32
  let c5_i32_304 : BitVec 32 := 5#32
  let c0_i32_305 : BitVec 32 := 0#32
  ![v3.toNat, 0, 5, 0]
def k0_off154 (v446 : BitVec 32) : Fin 2 → Nat :=
  let c2_i32_302 : BitVec 32 := 2#32
  let v447 : BitVec 32 := Scalar.shrui v446 c2_i32_302
  let c0_i32_306 : BitVec 32 := 0#32
  ![v447.toNat, 0]

def k0_chk43 (i : grid0.Coords) (v446 : BitVec 32) : Prop :=
  (∀ (k0_h3 : k0_cond3 i = 1#1), ∀ a, (k0_off154 v446) a + S1x8192.size a ≤ S8128x8192.size a)
theorem k0_off154_inb : ∀ (i : grid0.Coords) (v446 : BitVec 32) (k0_hw43 : k0_chk43 i v446), ∀ (k0_h3 : k0_cond3 i = 1#1), ∀ a, (k0_off154 v446) a + S1x8192.size a ≤ S8128x8192.size a := fun i v446 k0_hw43 k0_h3 => k0_hw43 k0_h3

def k0_off155 (i : grid0.Coords) : Fin 2 → Nat :=
  let c0_309 : Index := 0#32
  let arg0 : BitVec 32 := BitVec.ofNat 32 (i 0).val
  let c24_i32_218 : BitVec 32 := 24#32
  let v342 : BitVec 32 := Scalar.addi arg0 c24_i32_218
  let c16_i32_307 : BitVec 32 := 16#32
  let v453 : BitVec 32 := Scalar.muli v342 c16_i32_307
  let c11_i32_308 : BitVec 32 := 11#32
  let v454 : BitVec 32 := Scalar.addi v453 c11_i32_308
  let v455 : Index := Scalar.indexCast v454
  ![0, v455.toNat]
def k0_off156 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off157 (i : grid0.Coords) : Fin 4 → Nat :=
  let arg0 : BitVec 32 := BitVec.ofNat 32 (i 0).val
  let c24_i32 : BitVec 32 := 24#32
  let v3 : BitVec 32 := Scalar.remsi arg0 c24_i32
  let c1_i32_311 : BitVec 32 := 1#32
  let c5_i32_312 : BitVec 32 := 5#32
  let c0_i32_313 : BitVec 32 := 0#32
  ![v3.toNat, 1, 5, 0]
def k0_off158 (v456 : BitVec 32) : Fin 2 → Nat :=
  let c2_i32_310 : BitVec 32 := 2#32
  let v457 : BitVec 32 := Scalar.shrui v456 c2_i32_310
  let c0_i32_314 : BitVec 32 := 0#32
  ![v457.toNat, 0]

def k0_chk44 (i : grid0.Coords) (v456 : BitVec 32) : Prop :=
  (∀ (k0_h3 : k0_cond3 i = 1#1), ∀ a, (k0_off158 v456) a + S1x8192.size a ≤ S8128x8192.size a)
theorem k0_off158_inb : ∀ (i : grid0.Coords) (v456 : BitVec 32) (k0_hw44 : k0_chk44 i v456), ∀ (k0_h3 : k0_cond3 i = 1#1), ∀ a, (k0_off158 v456) a + S1x8192.size a ≤ S8128x8192.size a := fun i v456 k0_hw44 k0_h3 => k0_hw44 k0_h3

def k0_off159 (i : grid0.Coords) : Fin 2 → Nat :=
  let c0_317 : Index := 0#32
  let arg0 : BitVec 32 := BitVec.ofNat 32 (i 0).val
  let c24_i32_218 : BitVec 32 := 24#32
  let v342 : BitVec 32 := Scalar.addi arg0 c24_i32_218
  let c16_i32_315 : BitVec 32 := 16#32
  let v463 : BitVec 32 := Scalar.muli v342 c16_i32_315
  let c12_i32_316 : BitVec 32 := 12#32
  let v464 : BitVec 32 := Scalar.addi v463 c12_i32_316
  let v465 : Index := Scalar.indexCast v464
  ![0, v465.toNat]
def k0_off160 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off161 (i : grid0.Coords) : Fin 4 → Nat :=
  let arg0 : BitVec 32 := BitVec.ofNat 32 (i 0).val
  let c24_i32 : BitVec 32 := 24#32
  let v3 : BitVec 32 := Scalar.remsi arg0 c24_i32
  let c0_i32_319 : BitVec 32 := 0#32
  let c6_i32_320 : BitVec 32 := 6#32
  let c0_i32_321 : BitVec 32 := 0#32
  ![v3.toNat, 0, 6, 0]
def k0_off162 (v466 : BitVec 32) : Fin 2 → Nat :=
  let c2_i32_318 : BitVec 32 := 2#32
  let v467 : BitVec 32 := Scalar.shrui v466 c2_i32_318
  let c0_i32_322 : BitVec 32 := 0#32
  ![v467.toNat, 0]

def k0_chk45 (i : grid0.Coords) (v466 : BitVec 32) : Prop :=
  (∀ (k0_h3 : k0_cond3 i = 1#1), ∀ a, (k0_off162 v466) a + S1x8192.size a ≤ S8128x8192.size a)
theorem k0_off162_inb : ∀ (i : grid0.Coords) (v466 : BitVec 32) (k0_hw45 : k0_chk45 i v466), ∀ (k0_h3 : k0_cond3 i = 1#1), ∀ a, (k0_off162 v466) a + S1x8192.size a ≤ S8128x8192.size a := fun i v466 k0_hw45 k0_h3 => k0_hw45 k0_h3

def k0_off163 (i : grid0.Coords) : Fin 2 → Nat :=
  let c0_325 : Index := 0#32
  let arg0 : BitVec 32 := BitVec.ofNat 32 (i 0).val
  let c24_i32_218 : BitVec 32 := 24#32
  let v342 : BitVec 32 := Scalar.addi arg0 c24_i32_218
  let c16_i32_323 : BitVec 32 := 16#32
  let v473 : BitVec 32 := Scalar.muli v342 c16_i32_323
  let c13_i32_324 : BitVec 32 := 13#32
  let v474 : BitVec 32 := Scalar.addi v473 c13_i32_324
  let v475 : Index := Scalar.indexCast v474
  ![0, v475.toNat]
def k0_off164 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off165 (i : grid0.Coords) : Fin 4 → Nat :=
  let arg0 : BitVec 32 := BitVec.ofNat 32 (i 0).val
  let c24_i32 : BitVec 32 := 24#32
  let v3 : BitVec 32 := Scalar.remsi arg0 c24_i32
  let c1_i32_327 : BitVec 32 := 1#32
  let c6_i32_328 : BitVec 32 := 6#32
  let c0_i32_329 : BitVec 32 := 0#32
  ![v3.toNat, 1, 6, 0]
def k0_off166 (v476 : BitVec 32) : Fin 2 → Nat :=
  let c2_i32_326 : BitVec 32 := 2#32
  let v477 : BitVec 32 := Scalar.shrui v476 c2_i32_326
  let c0_i32_330 : BitVec 32 := 0#32
  ![v477.toNat, 0]

def k0_chk46 (i : grid0.Coords) (v476 : BitVec 32) : Prop :=
  (∀ (k0_h3 : k0_cond3 i = 1#1), ∀ a, (k0_off166 v476) a + S1x8192.size a ≤ S8128x8192.size a)
theorem k0_off166_inb : ∀ (i : grid0.Coords) (v476 : BitVec 32) (k0_hw46 : k0_chk46 i v476), ∀ (k0_h3 : k0_cond3 i = 1#1), ∀ a, (k0_off166 v476) a + S1x8192.size a ≤ S8128x8192.size a := fun i v476 k0_hw46 k0_h3 => k0_hw46 k0_h3

def k0_off167 (i : grid0.Coords) : Fin 2 → Nat :=
  let c0_333 : Index := 0#32
  let arg0 : BitVec 32 := BitVec.ofNat 32 (i 0).val
  let c24_i32_218 : BitVec 32 := 24#32
  let v342 : BitVec 32 := Scalar.addi arg0 c24_i32_218
  let c16_i32_331 : BitVec 32 := 16#32
  let v483 : BitVec 32 := Scalar.muli v342 c16_i32_331
  let c14_i32_332 : BitVec 32 := 14#32
  let v484 : BitVec 32 := Scalar.addi v483 c14_i32_332
  let v485 : Index := Scalar.indexCast v484
  ![0, v485.toNat]
def k0_off168 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off169 (i : grid0.Coords) : Fin 4 → Nat :=
  let arg0 : BitVec 32 := BitVec.ofNat 32 (i 0).val
  let c24_i32 : BitVec 32 := 24#32
  let v3 : BitVec 32 := Scalar.remsi arg0 c24_i32
  let c0_i32_335 : BitVec 32 := 0#32
  let c7_i32_336 : BitVec 32 := 7#32
  let c0_i32_337 : BitVec 32 := 0#32
  ![v3.toNat, 0, 7, 0]
def k0_off170 (v486 : BitVec 32) : Fin 2 → Nat :=
  let c2_i32_334 : BitVec 32 := 2#32
  let v487 : BitVec 32 := Scalar.shrui v486 c2_i32_334
  let c0_i32_338 : BitVec 32 := 0#32
  ![v487.toNat, 0]

def k0_chk47 (i : grid0.Coords) (v486 : BitVec 32) : Prop :=
  (∀ (k0_h3 : k0_cond3 i = 1#1), ∀ a, (k0_off170 v486) a + S1x8192.size a ≤ S8128x8192.size a)
theorem k0_off170_inb : ∀ (i : grid0.Coords) (v486 : BitVec 32) (k0_hw47 : k0_chk47 i v486), ∀ (k0_h3 : k0_cond3 i = 1#1), ∀ a, (k0_off170 v486) a + S1x8192.size a ≤ S8128x8192.size a := fun i v486 k0_hw47 k0_h3 => k0_hw47 k0_h3

def k0_off171 (i : grid0.Coords) : Fin 2 → Nat :=
  let c0_341 : Index := 0#32
  let arg0 : BitVec 32 := BitVec.ofNat 32 (i 0).val
  let c24_i32_218 : BitVec 32 := 24#32
  let v342 : BitVec 32 := Scalar.addi arg0 c24_i32_218
  let c16_i32_339 : BitVec 32 := 16#32
  let v493 : BitVec 32 := Scalar.muli v342 c16_i32_339
  let c15_i32_340 : BitVec 32 := 15#32
  let v494 : BitVec 32 := Scalar.addi v493 c15_i32_340
  let v495 : Index := Scalar.indexCast v494
  ![0, v495.toNat]
def k0_off172 (i : grid0.Coords) : Fin 1 → Nat :=
  let arg0 : BitVec 32 := BitVec.ofNat 32 (i 0).val
  let c24_i32 : BitVec 32 := 24#32
  let v3 : BitVec 32 := Scalar.remsi arg0 c24_i32
  ![v3.toNat]
def k0_off173 (i : grid0.Coords) : Fin 4 → Nat :=
  let arg0 : BitVec 32 := BitVec.ofNat 32 (i 0).val
  let c24_i32 : BitVec 32 := 24#32
  let v3 : BitVec 32 := Scalar.remsi arg0 c24_i32
  let c1_i32_343 : BitVec 32 := 1#32
  let c7_i32_344 : BitVec 32 := 7#32
  let c0_i32_345 : BitVec 32 := 0#32
  ![v3.toNat, 1, 7, 0]
def k0_off174 (v496 : BitVec 32) : Fin 2 → Nat :=
  let c2_i32_342 : BitVec 32 := 2#32
  let v497 : BitVec 32 := Scalar.shrui v496 c2_i32_342
  let c0_i32_346 : BitVec 32 := 0#32
  ![v497.toNat, 0]

def k0_chk48 (i : grid0.Coords) (v496 : BitVec 32) : Prop :=
  (∀ (k0_h3 : k0_cond3 i = 1#1), ∀ a, (k0_off174 v496) a + S1x8192.size a ≤ S8128x8192.size a)
theorem k0_off174_inb : ∀ (i : grid0.Coords) (v496 : BitVec 32) (k0_hw48 : k0_chk48 i v496), ∀ (k0_h3 : k0_cond3 i = 1#1), ∀ a, (k0_off174 v496) a + S1x8192.size a ≤ S8128x8192.size a := fun i v496 k0_hw48 k0_h3 => k0_hw48 k0_h3
-- ==== KernelIdeal.lean ====
abbrev S16x128 : Shape := ⟨2, ![16, 128]⟩
variable {F : FTy → Type} [FloatOps F]
-- ==== ReferenceIdeal.lean ====
abbrev S1x2048 : Shape := ⟨2, ![1, 2048]⟩
abbrev S32512x8192 : Shape := ⟨2, ![32512, 8192]⟩
abbrev S32512 : Shape := ⟨1, ![32512]⟩
abbrev S8192 : Shape := ⟨1, ![8192]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x8192 : Shape := ⟨3, ![1, 2048, 8192]⟩
abbrev S1x1x8192 : Shape := ⟨3, ![1, 1, 8192]⟩

abbrev nBuf : Space → Nat
  | .hbm => 75
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S32512x8192, .i8⟩
  | .hbm, ⟨2, _⟩ => ⟨S32512, .f32⟩
  | .hbm, ⟨3, _⟩ => ⟨S8192, .bf16⟩
  | .hbm, ⟨4, _⟩ => ⟨S_, .i32⟩
  | .hbm, ⟨5, _⟩ => ⟨S1x2048, .i32⟩
  | .hbm, ⟨6, _⟩ => ⟨S1x2048, .i1⟩
  | .hbm, ⟨7, _⟩ => ⟨S_, .i32⟩
  | .hbm, ⟨8, _⟩ => ⟨S1x2048, .i32⟩
  | .hbm, ⟨9, _⟩ => ⟨S1x2048, .i32⟩
  | .hbm, ⟨10, _⟩ => ⟨S1x2048, .i32⟩
  | .hbm, ⟨11, _⟩ => ⟨S1x2048x1, .i32⟩
  | .hbm, ⟨12, _⟩ => ⟨S1, .i32⟩
  | .hbm, ⟨13, _⟩ => ⟨S_, .i32⟩
  | .hbm, ⟨14, _⟩ => ⟨S1x2048x1, .i32⟩
  | .hbm, ⟨15, _⟩ => ⟨S1x2048x1, .i1⟩
  | .hbm, ⟨16, _⟩ => ⟨S1x1x1, .i32⟩
  | .hbm, ⟨17, _⟩ => ⟨S1x2048x1, .i32⟩
  | .hbm, ⟨18, _⟩ => ⟨S1x2048x1, .i1⟩
  | .hbm, ⟨19, _⟩ => ⟨S1x2048x1, .i1⟩
  | .hbm, ⟨20, _⟩ => ⟨S_, .i1⟩
  | .hbm, ⟨21, _⟩ => ⟨S1x2048, .i1⟩
  | .hbm, ⟨22, _⟩ => ⟨S1x2048x8192, .i8⟩
  | .hbm, ⟨23, _⟩ => ⟨S1x2048x8192, .i1⟩
  | .hbm, ⟨24, _⟩ => ⟨S_, .i8⟩
  | .hbm, ⟨25, _⟩ => ⟨S1x2048x8192, .i8⟩
  | .hbm, ⟨26, _⟩ => ⟨S1x2048x8192, .i8⟩
  | .hbm, ⟨27, _⟩ => ⟨S_, .i32⟩
  | .hbm, ⟨28, _⟩ => ⟨S1x2048, .i32⟩
  | .hbm, ⟨29, _⟩ => ⟨S1x2048, .i1⟩
  | .hbm, ⟨30, _⟩ => ⟨S_, .i32⟩
  | .hbm, ⟨31, _⟩ => ⟨S1x2048, .i32⟩
  | .hbm, ⟨32, _⟩ => ⟨S1x2048, .i32⟩
  | .hbm, ⟨33, _⟩ => ⟨S1x2048, .i32⟩
  | .hbm, ⟨34, _⟩ => ⟨S1x2048x1, .i32⟩
  | .hbm, ⟨35, _⟩ => ⟨S1, .i32⟩
  | .hbm, ⟨36, _⟩ => ⟨S_, .i32⟩
  | .hbm, ⟨37, _⟩ => ⟨S1x2048x1, .i32⟩
  | .hbm, ⟨38, _⟩ => ⟨S1x2048x1, .i1⟩
  | .hbm, ⟨39, _⟩ => ⟨S1x1x1, .i32⟩
  | .hbm, ⟨40, _⟩ => ⟨S1x2048x1, .i32⟩
  | .hbm, ⟨41, _⟩ => ⟨S1x2048x1, .i1⟩
  | .hbm, ⟨42, _⟩ => ⟨S1x2048x1, .i1⟩
  | .hbm, ⟨43, _⟩ => ⟨S_, .i1⟩
  | .hbm, ⟨44, _⟩ => ⟨S1x2048, .i1⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S1x2048x8192, .i32⟩
  | .hbm, ⟨50, _⟩ => ⟨S1x2048x8192, .f32⟩
  | .hbm, ⟨51, _⟩ => ⟨S1x2048x8192, .bf16⟩
  | .hbm, ⟨52, _⟩ => ⟨S1x2048, .bf16⟩
  | .hbm, ⟨53, _⟩ => ⟨S1x2048x1, .bf16⟩
  | .hbm, ⟨54, _⟩ => ⟨S1x2048x8192, .bf16⟩
  | .hbm, ⟨55, _⟩ => ⟨S1x2048x8192, .bf16⟩
  | .hbm, ⟨56, _⟩ => ⟨S1x2048x8192, .f32⟩
  | .hbm, ⟨57, _⟩ => ⟨S1x2048x8192, .f32⟩
  | .hbm, ⟨58, _⟩ => ⟨S_, .f32⟩
  | .hbm, ⟨59, _⟩ => ⟨S1x2048, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S1x2048x1, .f32⟩
  | .hbm, ⟨66, _⟩ => ⟨S1x2048x1, .f32⟩
  | .hbm, ⟨67, _⟩ => ⟨S1x2048x1, .f32⟩
  | .hbm, ⟨68, _⟩ => ⟨S1x2048x8192, .f32⟩
  | .hbm, ⟨69, _⟩ => ⟨S1x2048x8192, .f32⟩
  | .hbm, ⟨70, _⟩ => ⟨S8192, .f32⟩
  | .hbm, ⟨71, _⟩ => ⟨S1x1x8192, .f32⟩
  | .hbm, ⟨72, _⟩ => ⟨S1x2048x8192, .f32⟩
  | .hbm, ⟨73, _⟩ => ⟨S1x2048x8192, .f32⟩
  | .hbm, ⟨74, _⟩ => ⟨S1x2048x8192, .bf16⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_cst_0 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩

abbrev nD : Nat := 1
abbrev τ : Topo := Topo.v7x

variable {F : FTy → Type} [FloatOps F]
-- ==== Proof.Held.lean ====
module

public import Idealize.ShloMosaic.Lib.Batch
public import Idealize.ShloMosaic.Lib.Ring
public import Idealize.ShloMosaic.Lib.Exec
public import Idealize.ShloMosaic.Lib.Tactic
public import Idealize.ShloMosaic.Lib.Pipeline.Frame

/-!
# Parts of a buffer, held with what their elements are

`held c m A P`: the elements of the memref `m` under the index set `A` are owned whole, at contents whose element under
each index `x` of `A` is related to `x` by `P`. Parts held so split and join along disjoint families of index sets.
-/

@[expose] public section

noncomputable section

namespace Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MT nD τ sig Unit Val ℕ (Pipeline.UD sig nD τ) ℕ

theorem bigSep_mono' {I : Type} {s : Finset I} {Φ Ψ : I → sProp 𝕄} (h : ∀ i ∈ s, Φ i ⊢ Ψ i) : bigSep s Φ ⊢ bigSep s Ψ :=
  BI.bigSep_mono h

theorem bigSep_sep' {I : Type} (s : Finset I) (Φ Ψ : I → sProp 𝕄) :
    bigSep s (fun i => iprop(Φ i ∗ Ψ i)) = iprop(bigSep s Φ ∗ bigSep s Ψ) := BI.bigSep_sep s Φ Ψ

theorem bigSep_insert' {I : Type} [DecidableEq I] {s : Finset I} {i : I} (hi : i ∉ s) {Φ : I → sProp 𝕄} :
    bigSep (insert i s) Φ = iprop(Φ i ∗ bigSep s Φ) := BI.bigSep_insert hi

theorem bigSep_out {I : Type} [Fintype I] [DecidableEq I] (i : I) (Φ : I → sProp 𝕄) :
    bigSep Finset.univ Φ = iprop(Φ i ∗ bigSep (Finset.univ.erase i) Φ) := BI.bigSep_univ_split i

/-- The elements of `m` under `A`, owned whole at contents related to their indices by `P`. -/
def held (c : Dev nD) {sp : Space} {s : Shape} {e : EltTy} (m : Memref sig .tc sp s e) (A : Finset s.Idx) (P : s.Idx → Val e → Prop) :
    sProp 𝕄 :=
  iprop(∃ g, ⌜∀ x ∈ A, P x (m.view.read Val g x)⌝ ∗ (m.view.loc (c : Thread nD τ) ↦[m.view.setOn A]{fullShare} g))

/-- No relation. -/
def anyP {s : Shape} {e : EltTy} : s.Idx → Val e → Prop := fun _ _ => True

instance (c : Dev nD) {sp : Space} {s : Shape} {e : EltTy} (m : Memref sig .tc sp s e) (A : Finset s.Idx) (P : s.Idx → Val e → Prop) :
    Storable (upEmb : UEmb _ 𝕄) (held (τ := τ) c m A P) := by unfold held; infer_instance

variable (c : Dev nD) {sp : Space} {s : Shape} {e : EltTy} (m : Memref sig .tc sp s e)

theorem held_intro (A : Finset s.Idx) (P : s.Idx → Val e → Prop) (g : Buf Val (m.view.loc (c : Thread nD τ)))
    (h : ∀ x ∈ A, P x (m.view.read Val g x)) :
    ((m.view.loc (c : Thread nD τ) ↦[m.view.setOn A]{fullShare} g) : sProp 𝕄) ⊢ held c m A P := by
  unfold held
  iintro H
  iexists g
  isplitr
  · ipureintro; exact h
  · iexact H

theorem held_mono {A : Finset s.Idx} {P Q : s.Idx → Val e → Prop} (h : ∀ x ∈ A, ∀ v, P x v → Q x v) :
    (held c m A P : sProp 𝕄) ⊢ held c m A Q := by
  unfold held
  iintro ⟨%g, %hg, H⟩
  iexists g
  isplitr
  · ipureintro; exact fun x hx => h x hx _ (hg x hx)
  · iexact H

theorem held_any {A : Finset s.Idx} {P : s.Idx → Val e → Prop} :
    (held c m A P : sProp 𝕄) ⊢ held c m A anyP := held_mono c m fun _ _ _ _ => trivial

variable {B : Type} [Fintype B] [DecidableEq B] (I : B → Finset s.Idx)

theorem setOn_disjoint {A A' : Finset s.Idx} (h : Disjoint A A') : Disjoint (m.view.setOn A) (m.view.setOn A') :=
  (Finset.disjoint_map _).mpr h

theorem setOn_biUnion : Finset.univ.biUnion (fun b => m.view.setOn (I b)) = m.view.setOn (Finset.univ.biUnion I) := by
  unfold View.setOn; ext x; simp only [Finset.mem_biUnion, Finset.mem_map, Finset.mem_univ, true_and]
  constructor
  · rintro ⟨b, y, hy, rfl⟩; exact ⟨y, ⟨b, hy⟩, rfl⟩
  · rintro ⟨y, ⟨b, hy⟩, rfl⟩; exact ⟨b, y, hy, rfl⟩

/-- A part splits along a disjoint family whose union it is, -/
theorem held_split (hd : ∀ b b', b ≠ b' → Disjoint (I b) (I b')) {A : Finset s.Idx} (hA : Finset.univ.biUnion I = A)
    (P : s.Idx → Val e → Prop) :
    (held c m A P : sProp 𝕄) ⊢ bigSep Finset.univ fun b => held c m (I b) P := by
  subst hA
  unfold held
  iintro ⟨%g, %hg, H⟩
  ihave H := (Entails.of_eq (show ((m.view.loc (c : Thread nD τ) ↦[m.view.setOn (Finset.univ.biUnion I)]{fullShare} g) : sProp 𝕄)
    = bigSep Finset.univ fun b => m.view.loc (c : Thread nD τ) ↦[m.view.setOn (I b)]{fullShare} g by
      rw [← setOn_biUnion, pointsTo_biUnion Finset.univ _ (fun b _ b' _ h => setOn_disjoint m (hd b b' h))])) $$ H
  ihave H := (bigSep_mono' (s := Finset.univ) (Φ := fun b => (m.view.loc (c : Thread nD τ) ↦[m.view.setOn (I b)]{fullShare} g : sProp 𝕄))
    (Ψ := fun b => held c m (I b) P)
    fun b _ => held_intro c m (I b) P g fun x hx => hg x (Finset.mem_biUnion.mpr ⟨b, Finset.mem_univ _, hx⟩)) $$ H
  iexact H

theorem held_empty (g : Buf Val (m.view.loc (c : Thread nD τ))) (P : s.Idx → Val e → Prop) : (emp : sProp 𝕄) ⊢ held c m ∅ P := by
  unfold held
  iintro -
  iexists g
  isplitr
  · ipureintro; exact fun x hx => absurd hx (Finset.notMem_empty _)
  · rw [show m.view.setOn ∅ = ∅ from Finset.map_empty _, pointsTo_empty]; iempintro

theorem held_union {A A' : Finset s.Idx} (hd : Disjoint A A') (P : s.Idx → Val e → Prop) :
    iprop(held c m A P ∗ held c m A' P) ⊢ (held c m (A ∪ A') P : sProp 𝕄) := by
  unfold held
  iintro ⟨⟨%g, %hg, H⟩, ⟨%g', %hg', H'⟩⟩
  ihave H := (pointsTo_join (ℓ := m.view.loc (c : Thread nD τ)) (setOn_disjoint m hd)) $$ [H H']
  · isplitl [H]
    · iexact H
    · iexact H'
  rw [show m.view.setOn A ∪ m.view.setOn A' = m.view.setOn (A ∪ A') from (Finset.map_union _ _).symm]
  iexists _
  isplitr
  rotate_left
  · iexact H
  · ipureintro
    intro x hx
    rw [View.read_apply]
    by_cases hx' : x ∈ A'
    · rw [Finset.piecewise_eq_of_mem _ _ _ ((View.mem_setOn _).mpr hx')]
      exact hg' x hx'
    · rw [Finset.piecewise_eq_of_notMem _ _ _ (fun h => hx' ((View.mem_setOn _).mp h))]
      exact hg x ((Finset.mem_union.mp hx).resolve_right hx')

/-- and is joined from it. -/
theorem held_join (g : Buf Val (m.view.loc (c : Thread nD τ))) (hd : ∀ b b', b ≠ b' → Disjoint (I b) (I b')) {A : Finset s.Idx}
    (hA : Finset.univ.biUnion I = A) (P : s.Idx → Val e → Prop) :
    (bigSep Finset.univ fun b => held c m (I b) P : sProp 𝕄) ⊢ held c m A P := by
  subst hA
  generalize (Finset.univ : Finset B) = S
  induction S using Finset.induction_on with
  | empty => rw [BI.bigSep_empty, Finset.biUnion_empty]; exact held_empty c m g P
  | insert b S hb ih =>
    rw [BI.bigSep_insert hb, Finset.biUnion_insert]
    refine (sep_mono_right ih).trans (held_union c m ?_ P)
    exact (Finset.disjoint_biUnion_right _ _ _).mpr fun b' hb' => hd b b' fun h => hb (h ▸ hb')

end Cert.Hand
-- ==== Proof.Rows.lean ====
module

public import proofs.«01_k».proof.Proof.Held
public import Idealize.ShloMosaic.Lib.ValueLayout

/-!
# The ring of fetched rows

Sixteen rows of the table are fetched into one slot of the ring, each by its own transfer, all on the slot's semaphore.
The state of a slot: free, being fetched (`j` of the sixteen transfers issued), in flight (all issued), landed.
-/

@[expose] public section

noncomputable section

namespace Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

/-- The ring of words. -/ abbrev WS : Shape := ⟨4, ![24, 2, 8, 8192]⟩
/-- The table of words. -/ abbrev TS : Shape := ⟨2, ![8128, 8192]⟩
/-- The indices. -/ abbrev IS : Shape := ⟨2, ![1, 2048]⟩
/-- The semaphores of the ring. -/ abbrev SS : Shape := ⟨1, ![24]⟩
/-- One row. -/ abbrev RS : Shape := ⟨2, ![1, 8192]⟩

theorem rowR_inb (s t : ℕ) : ∀ a, (![s % 24, t % 2, t / 2 % 8, 0] : Fin 4 → ℕ) a + (![1, 1, 1, 8192] : Fin 4 → ℕ) a ≤ WS.size a := by
  intro a; fin_cases a <;> simp <;> omega
theorem slotR_inb (s : ℕ) : ∀ a, (![s % 24, 0, 0, 0] : Fin 4 → ℕ) a + (![1, 2, 8, 8192] : Fin 4 → ℕ) a ≤ WS.size a := by
  intro a; fin_cases a <;> simp; omega
theorem tabR_inb (n : ℕ) : ∀ a, (![n % 8128, 0] : Fin 2 → ℕ) a + RS.size a ≤ TS.size a := by
  intro a; fin_cases a <;> simp; omega
theorem semR_inb (s : ℕ) : ∀ a, (![s % 24] : Fin 1 → ℕ) a + (![1] : Fin 1 → ℕ) a ≤ SS.size a := by
  intro a; fin_cases a; simp; omega

/-- Where transfer `t` of slot `s` lands: half `t % 2`, row `t / 2`. -/
abbrev rowR (s t : ℕ) : Rect WS := Rect.unit (s := WS) ![s % 24, t % 2, t / 2 % 8, 0] ![1, 1, 1, 8192] (rowR_inb s t)
/-- Slot `s`. -/
abbrev slotR (s : ℕ) : Rect WS := Rect.unit (s := WS) ![s % 24, 0, 0, 0] ![1, 2, 8, 8192] (slotR_inb s)
/-- Row `n` of the table. -/
abbrev tabR (n : ℕ) : Rect TS := Rect.unit (s := TS) ![n % 8128, 0] RS.size (tabR_inb n)

theorem mem_rowR {s t : ℕ} {x : WS.Idx} : x ∈ (rowR s t).set ↔ (x 0).val = s % 24 ∧ (x 1).val = t % 2 ∧ (x 2).val = t / 2 % 8 := by
  rw [Rect.mem_set_unit]
  constructor
  · intro h; have h0 := h 0; have h1 := h 1; have h2 := h 2; simp at h0 h1 h2; omega
  · intro h a; have := (x 3).isLt; fin_cases a <;> simp <;> simp at this <;> omega
theorem mem_slotR {s : ℕ} {x : WS.Idx} : x ∈ (slotR s).set ↔ (x 0).val = s % 24 := by
  rw [Rect.mem_set_unit]
  constructor
  · intro h; have h0 := h 0; simp at h0; omega
  · intro h a; have h1 := (x 1).isLt; have h2 := (x 2).isLt; have := (x 3).isLt; fin_cases a <;> simp <;> simp at this h1 h2 <;> omega

theorem rows_disjoint (s : ℕ) (t t' : Fin 16) (h : t ≠ t') : Disjoint (rowR s t).set (rowR s t').set := by
  rw [Finset.disjoint_left]; intro x hx hx'; rw [mem_rowR] at hx hx'
  exact h (Fin.ext (by omega))
theorem rows_union (s : ℕ) : Finset.univ.biUnion (fun t : Fin 16 => (rowR s t).set) = (slotR s).set := by
  ext x; rw [Finset.mem_biUnion, mem_slotR]
  constructor
  · rintro ⟨t, -, ht⟩; exact (mem_rowR.mp ht).1
  · intro h; have h1 := (x 1).isLt; have h2 := (x 2).isLt; simp at h1 h2
    exact ⟨⟨2 * (x 2).val + (x 1).val, by omega⟩, Finset.mem_univ _, mem_rowR.mpr ⟨h, by simp; omega, by simp; omega⟩⟩
theorem slots_disjoint (s s' : Fin 24) (h : s ≠ s') : Disjoint (slotR s).set (slotR s').set := by
  rw [Finset.disjoint_left]; intro x hx hx'; rw [mem_slotR] at hx hx'
  exact h (Fin.ext (by omega))
theorem slots_union : Finset.univ.biUnion (fun s : Fin 24 => (slotR s).set) = (Finset.univ : Finset WS.Idx) := by
  ext x; simp only [Finset.mem_biUnion, Finset.mem_univ, true_and, iff_true]
  have h0 := (x 0).isLt; simp at h0
  exact ⟨⟨(x 0).val, h0⟩, mem_slotR.mpr (by simp; omega)⟩

/-- What a run of the kernel's step is about: the core, the memrefs the step is given, the contents of the inputs it only
    reads (the table, the indices, the scales, the gain), and what every element of the two results is to be. -/
structure Env (nD : ℕ) (τ : Topo) (sig : RefSig) (F : FTy → Type) where
  /-- The core. -/ c : Dev nD
  /-- The indices in HBM. -/ a1 : Memref sig .tc .hbm IS .i32
  h1 : a1.IsWhole
  /-- The table. -/ a2 : Memref sig .tc .hbm TS .i32
  h2 : a2.IsWhole
  /-- The scales in HBM. -/ a3 : Memref sig .tc .hbm ⟨1, ![32512]⟩ .f32
  h3 : a3.IsWhole
  /-- The gain in HBM. -/ a4 : Memref sig .tc .hbm RS .bf16
  h4 : a4.IsWhole
  /-- The normalised result. -/ a5 : Memref sig .tc .hbm ⟨2, ![2048, 8192]⟩ .bf16
  h5 : a5.IsWhole
  /-- The gathered result. -/ a6 : Memref sig .tc .hbm ⟨2, ![2048, 8192]⟩ .bf16
  h6 : a6.IsWhole
  /-- The indices. -/ a7 : Memref sig .tc .smem IS .i32
  h7 : a7.IsWhole
  /-- The scales. -/ a8 : Memref sig .tc .smem ⟨1, ![32512]⟩ .f32
  h8 : a8.IsWhole
  /-- The gain as loaded. -/ a9 : Memref sig .tc .vmem RS .bf16
  h9 : a9.IsWhole
  /-- The gain, widened. -/ a10 : Memref sig .tc .vmem ⟨2, ![8, 8192]⟩ .f32
  h10 : a10.IsWhole
  /-- The ring of words. -/ a11 : Memref sig .tc .vmem WS .i32
  h11 : a11.IsWhole
  /-- The ring of normalised blocks. -/ a12 : Memref sig .tc .vmem ⟨3, ![8, 16, 8192]⟩ .bf16
  h12 : a12.IsWhole
  /-- The ring of gathered blocks. -/ a13 : Memref sig .tc .vmem ⟨3, ![8, 16, 8192]⟩ .bf16
  h13 : a13.IsWhole
  /-- The shifts. -/ a14 : Memref sig .tc .vmem ⟨3, ![2, 8, 128]⟩ .i32
  h14 : a14.IsWhole
  /-- The block's scales. -/ a15 : Memref sig .tc .vmem ⟨3, ![2, 8, 128]⟩ .f32
  h15 : a15.IsWhole
  a16 : DmaSems sig ⟨1, ![3]⟩
  a17 : DmaSems sig SS
  a18 : DmaSems sig ⟨1, ![8]⟩
  a19 : DmaSems sig ⟨1, ![8]⟩
  /-- The table's contents. -/ T : Buf (Elt F) (a2.view.loc (c : Thread nD τ))
  /-- The indices. -/ ids : IS.Idx → BitVec 32
  hids : ∀ x, (ids x).toNat < 32512
  /-- The scales. -/ scales : (⟨1, ![32512]⟩ : Shape).Idx → Elt F .f32
  /-- The indices' contents. -/ X1 : Buf (Elt F) (a1.view.loc (c : Thread nD τ))
  hX1 : ∀ x, (a1.view.read (Elt F) X1 x : BitVec 32) = ids x
  /-- The scales' contents. -/ X3 : Buf (Elt F) (a3.view.loc (c : Thread nD τ))
  hX3 : ∀ x, a3.view.read (Elt F) X3 x = scales x
  /-- The gain's contents. -/ X4 : Buf (Elt F) (a4.view.loc (c : Thread nD τ))
  /-- What the shifts of a step's block are to be. -/ QS : ℕ → (⟨3, ![2, 8, 128]⟩ : Shape).Idx → Elt F .i32 → Prop
  /-- What the scales of a step's block are to be. -/ QC : ℕ → (⟨3, ![2, 8, 128]⟩ : Shape).Idx → Elt F .f32 → Prop
  /-- What the running sums of squares of a step's block are to be after some of its columns. -/
  ACC : ℕ → ℕ → ((⟨2, ![8, 128]⟩ : Shape).Idx → Elt F .f32) → ((⟨2, ![8, 128]⟩ : Shape).Idx → Elt F .f32) → Prop
  /-- What the means of squares of a step's block, and the number added to them, are to be. -/
  SUM : ℕ → ((⟨2, ![8, 1]⟩ : Shape).Idx → Elt F .f32) → ((⟨2, ![8, 1]⟩ : Shape).Idx → Elt F .f32) → F .f32 → Prop
  /-- What the widened gain is to be. -/ QG : (⟨2, ![8, 8192]⟩ : Shape).Idx → Elt F .f32 → Prop
  /-- What the normalised result is to be. -/ QO : (⟨2, ![2048, 8192]⟩ : Shape).Idx → Elt F .bf16 → Prop
  /-- What the gathered result is to be. -/ QE : (⟨2, ![2048, 8192]⟩ : Shape).Idx → Elt F .bf16 → Prop

section
variable {nD : ℕ} {τ : Topo} {sig : RefSig} {F : FTy → Type}

local notation "𝕄" => MT nD τ sig Unit (Elt F) ℕ (Pipeline.UD sig nD τ) ℕ

variable (e : Env nD τ sig F)

/-- The table's row that index `n` names. -/
def rown (n : ℕ) : ℕ := (e.ids (ix2 0 ⟨n % 2048, Nat.mod_lt _ (by decide)⟩) >>> (2#32)).toNat

/-- An index that names a row of the table names a row of the table of words. -/
theorem chk_of (v : BitVec 32) (h : v.toNat < 32512) : ∀ a, (![(v >>> (2#32)).toNat, 0] : Fin 2 → ℕ) a + RS.size a ≤ TS.size a := by
  have : (v >>> (2#32)).toNat = v.toNat / 4 := by simp [Nat.shiftRight_eq_div_pow]
  intro a; fin_cases a <;> simp at * <;> omega

/-- Contents of the indices' scratch that are the indices. -/
def IdsAre (f : Buf (Elt F) (e.a7.view.loc (e.c : Thread nD τ))) : Prop := ∀ x, (e.a7.view.read (Elt F) f x : BitVec 32) = e.ids x

theorem IdsAre.lt {e : Env nD τ sig F} {f} (h : IdsAre e f) (x : IS.Idx) : (e.a7.view.read (Elt F) f x : BitVec 32).toNat < 32512 := by
  rw [h]; exact e.hids x

/-- The word loaded at an offset is the index there, -/
theorem IdsAre.word {e : Env nD τ sig F} {f} (h : IdsAre e f) {n : ℕ} (hn : n < 2048) {off : Fin 2 → ℕ}
    {inb : ∀ a, off a + (![1, 1] : Fin 2 → ℕ) a ≤ IS.size a} (hoff : off = ![0, n]) (x : (⟨2, ![1, 1]⟩ : Shape).Idx) :
    (e.a7.view.readAt (Elt F) (Rect.unit (s := IS) off ![1, 1] inb).toLoadRect f x : BitVec 32) = e.ids (ix2 0 ⟨n % 2048, Nat.mod_lt _ (by decide)⟩) := by
  subst hoff
  refine Eq.trans ?_ (h _)
  rw [View.readAt_rect]
  show e.a7.view.read (Elt F) f ((Rect.unit (s := IS) ![0, n] ![1, 1] inb).emb x) = _
  congr 1
  funext a
  apply Fin.ext
  rw [Rect.emb_apply]
  have h0 := (x 0).isLt; have h1 := (x 1).isLt
  simp at h0 h1
  fin_cases a
  · simpa using h0
  · simp [Nat.mod_eq_of_lt hn]; omega

/-- and its row is the index's. -/
theorem IdsAre.off {e : Env nD τ sig F} {f} (h : IdsAre e f) {n : ℕ} (hn : n < 2048) {off : Fin 2 → ℕ}
    {inb : ∀ a, off a + (![1, 1] : Fin 2 → ℕ) a ≤ IS.size a} (hoff : off = ![0, n]) (x : (⟨2, ![1, 1]⟩ : Shape).Idx)
    {w : BitVec 32} (hw : w = e.a7.view.readAt (Elt F) (Rect.unit (s := IS) off ![1, 1] inb).toLoadRect f x) :
    (![(Scalar.shrui w 2#32).toNat, 0] : Fin 2 → ℕ) = ![rown e n % 8128, 0] := by
  rw [hw, h.word hn hoff x]
  have h1 := e.hids (ix2 0 ⟨n % 2048, Nat.mod_lt _ (by decide)⟩)
  have h2 : Scalar.shrui (e.ids (ix2 0 ⟨n % 2048, Nat.mod_lt _ (by decide)⟩)) 2#32
      = e.ids (ix2 0 ⟨n % 2048, Nat.mod_lt _ (by decide)⟩) >>> (2#32) := by
    unfold Scalar.shrui IntOp.shrui; exact if_pos (by decide)
  have : (e.ids (ix2 0 ⟨n % 2048, Nat.mod_lt _ (by decide)⟩) >>> (2#32)).toNat < 8128 := by
    simp [Nat.shiftRight_eq_div_pow]; omega
  rw [h2]
  unfold rown
  rw [Nat.mod_eq_of_lt this]

/-- What row `n` of the table has at column `j`. -/
def tabv (n : ℕ) (j : Fin 8192) : BitVec 32 := e.a2.view.read (Elt F) e.T (ix2 ⟨n % 8128, Nat.mod_lt _ (by decide)⟩ j)

/-- The word block `u` has at an index of the ring. -/
def wordsOf (u : ℕ) : WS.Idx → Elt F .i32 → Prop := fun x v =>
  v = tabv e (rown e (16 * u + (2 * (x 2).val + (x 1).val))) (x 3)

/-- The semaphore of slot `s`. -/
def semI (s : ℕ) : DmaSem sig := ((e.a17.slice (Rect.unit (s := SS) ![s % 24] (⟨1, ![1]⟩ : Shape).size (semR_inb s))).squeeze ⟨0, ![]⟩ (show (⟨1, ![1]⟩ : Shape).Squeezes ⟨0, ![]⟩ by decide)).sem

/-- What one transfer credits. -/
def NR : ℕ := sig.dmaCredit .tc (Kind.tc.table .vmem) e.a11.view.buf RS .i32

/-- The read token of transfer `t` of slot `s`: its row -/
def tokRow (u s t : ℕ) : sProp 𝕄 :=
  e.a2.view.loc (e.c : Thread nD τ) ↦[e.a2.view.setOn (tabR (rown e (16 * u + t))).set]{Transfers.shareTokN fullShare (16 * s + t)} e.T
/-- and what remains of it. -/
def tokRest (u s t : ℕ) : sProp 𝕄 :=
  e.a2.view.loc (e.c : Thread nD τ) ↦[Finset.univ \ e.a2.view.setOn (tabR (rown e (16 * u + t))).set]{Transfers.shareTokN fullShare (16 * s + t)} e.T
/-- The whole token. -/
def tokAll (s t : ℕ) : sProp 𝕄 := e.a2.view.loc (e.c : Thread nD τ) ↦{Transfers.shareTokN fullShare (16 * s + t)} e.T

theorem tok_split (u s t : ℕ) : (tokAll e s t : sProp 𝕄) = iprop(tokRow e u s t ∗ tokRest e u s t) :=
  BI.equiv_iff.mp ⟨(pointsTo_split_subset (Finset.subset_univ _)).1, (pointsTo_split_subset (Finset.subset_univ _)).2⟩

/-- What transfer `t` of block `u` into slot `s` delivers. -/
def rowD (u s : ℕ) (t : Fin 16) : sProp 𝕄 :=
  iprop(held e.c e.a11 (rowR s t).set (wordsOf e u) ∗ tokRow e u s t)

instance (u s : ℕ) (t : Fin 16) : Storable (upEmb : UEmb _ 𝕄) (rowD e u s t) := by
  unfold rowD tokRow; infer_instance

/-- The slot's batch: `j` transfers issued, `w` credits consumed. -/
def batch (u s j w : ℕ) : sProp 𝕄 :=
  Transfers.Batch (countersEmb (U := Pipeline.UD sig nD τ)) (e.c : Thread nD τ) (.dma (semI e s)) () (NR e)
    (rowD e u s) j w

/-- Slot `s` free. -/
def Free (s : ℕ) : sProp 𝕄 :=
  iprop(semVal ((e.c : Thread nD τ), .dma (semI e s)) 0 ∗ held e.c e.a11 (slotR s).set anyP
    ∗ bigSep Finset.univ fun t : Fin 16 => tokAll e s t)

/-- `j` of the transfers of block `u` issued into slot `s`. -/
def Fetching (u s j : ℕ) : sProp 𝕄 :=
  iprop(batch e u s j 0
    ∗ (bigSep (Finset.univ.filter fun t : Fin 16 => j ≤ t.val) fun t => iprop(held e.c e.a11 (rowR s t).set anyP ∗ tokAll e s t))
    ∗ bigSep (Finset.univ.filter fun t : Fin 16 => t.val < j) fun t => tokRest e u s t)

/-- All issued, `w` credits consumed. -/
def Flying (u s w : ℕ) : sProp 𝕄 :=
  iprop(batch e u s 16 w ∗ bigSep Finset.univ fun t : Fin 16 => tokRest e u s t)

/-- Landed. -/
def Landed (u s : ℕ) : sProp 𝕄 :=
  iprop(semVal ((e.c : Thread nD τ), .dma (semI e s)) 0 ∗ held e.c e.a11 (slotR s).set (wordsOf e u)
    ∗ bigSep Finset.univ fun t : Fin 16 => tokAll e s t)

theorem fetch_end (u s : ℕ) : (Fetching e u s 16 : sProp 𝕄) ⊢ Flying e u s 0 := by
  unfold Fetching Flying
  rw [show (Finset.univ.filter fun t : Fin 16 => t.val < 16) = Finset.univ by decide]
  iintro ⟨H, -, H'⟩
  isplitl [H]
  · iexact H
  · iexact H'

theorem fetch_start (u s : ℕ) : (Free e s : sProp 𝕄) ⊢ |={Set.univ}=> Fetching e u s 0 := by
  unfold Fetching Free batch
  rw [show (Finset.univ.filter fun t : Fin 16 => t.val < 0) = ∅ by decide,
    show (Finset.univ.filter fun t : Fin 16 => 0 ≤ t.val) = Finset.univ by decide, BI.bigSep_empty, bigSep_sep']
  iintro ⟨Hv, HW, HT⟩
  imod (Transfers.batch_alloc' (Lvl := ℕ) (countersEmb (U := Pipeline.UD sig nD τ)) (e.c : Thread nD τ) () (NR e)
    (rowD e u s) (sm := .dma (semI e s)) (E := Set.univ)) $$ Hv with HB
  imodintro
  isplitl [HB]
  · iexact HB
  isplitl [HW HT]
  · isplitl [HW]
    · iapply (held_split e.c e.a11 (fun t : Fin 16 => (rowR s t).set) (rows_disjoint s) (rows_union s) anyP) $$ HW
    · iexact HT
  · iempintro

theorem land (g : Buf (Elt F) (e.a11.view.loc (e.c : Thread nD τ))) (u s : ℕ) :
    iprop((bigSep Finset.univ (rowD e u s)) ∗ semVal ((e.c : Thread nD τ), .dma (semI e s)) 0
      ∗ bigSep Finset.univ fun t : Fin 16 => tokRest e u s t) ⊢ (Landed e u s : sProp 𝕄) := by
  unfold Landed rowD
  rw [bigSep_sep']
  simp only [tok_split e u s]
  rw [bigSep_sep']
  iintro ⟨⟨HW, HT⟩, Hv, HR⟩
  isplitl [Hv]
  · iexact Hv
  isplitl [HW]
  · iapply (held_join e.c e.a11 (fun t : Fin 16 => (rowR s t).set) g (rows_disjoint s) (rows_union s)) $$ HW
  isplitl [HT]
  · iexact HT
  · iexact HR

theorem set_rowI (s t : ℕ) (hn : RS.numel = (rowR s t).shape.numel) :
    ((e.a11.view.slice (rowR s t)).reshape RS hn).set = e.a11.view.setOn (rowR s t).set := by
  rw [View.set_reshape, View.set_slice]; rfl

theorem set_rowT (n : ℕ) : (e.a2.view.slice (tabR n)).set = e.a2.view.setOn (tabR n).set := by
  rw [View.set_slice]; rfl

/-- What a row's transfer writes reads as the table's row. -/
theorem row_lands (u s t : ℕ) (ht : t < 16) (hn : RS.numel = (rowR s t).shape.numel) (fd : Buf (Elt F) (e.a11.view.loc (e.c : Thread nD τ)))
    (x : WS.Idx) (hx : x ∈ (rowR s t).set) :
    wordsOf e u x (e.a11.view.read (Elt F) (((e.a11.view.slice (rowR s t)).reshape RS hn).write (Elt F) fd
      ((e.a2.view.slice (tabR (rown e (16 * u + t)))).read (Elt F) e.T) Finset.univ) x) := by
  have hx' := mem_rowR.mp hx
  unfold wordsOf tabv
  have h2 := (x 2).isLt
  simp at h2
  rw [show 2 * (x 2).val + (x 1).val = t by omega]
  have hemb : e.a11.view.emb x = ((e.a11.view.slice (rowR s t)).reshape RS hn).emb (ix2 (0 : Fin 1) (x 3)) := by
    show _ = e.a11.view.emb ((rowR s t).emb (Shape.reshapeEquiv hn (ix2 (0 : Fin 1) (x 3))))
    refine Eq.trans ?_ (congrArg (fun z => e.a11.view.emb ((rowR s t).emb z)) (reshapeEquiv_ix2_11ab hn (0 : Fin 1) (x 3)).symm)
    show _ = e.a11.view.emb _
    congr 1
    funext a
    apply Fin.ext
    rw [Rect.emb_apply]
    fin_cases a
    · simpa using hx'.1
    · simpa using hx'.2.1
    · simpa using hx'.2.2
    · simp
  rw [View.read_apply, hemb]
  have := congrFun (View.read_write_univ (v := (e.a11.view.slice (rowR s t)).reshape RS hn) (Val := Elt F) fd
    ((e.a2.view.slice (tabR (rown e (16 * u + t)))).read (Elt F) e.T)) (ix2 (0 : Fin 1) (x 3))
  rw [View.read_apply] at this
  refine Eq.trans this ?_
  rw [View.read_apply, View.read_apply]
  congr 2
  show e.a2.view.emb ((tabR (rown e (16 * u + t))).emb (ix2 (0 : Fin 1) (x 3))) = _
  congr 1
  funext a
  apply Fin.ext
  rw [Rect.emb_apply]
  fin_cases a <;> simp

variable {Λ : Labels} {defs : Defs nD τ sig (Elt F) Λ} (𝒱 : Variants) (bd : Option 𝒱.V) {α : Type} {Q : α → sProp (MT nD τ sig Unit (Elt F) ℕ (Pipeline.UD sig nD τ) ℕ)}

/-- Transfer `t` of block `u` into slot `s` is issued. -/
theorem issue_row (u s t : ℕ) (ht : t < 16) {off : Fin 4 → ℕ} {offT : Fin 2 → ℕ} {offS : Fin 1 → ℕ}
    {inb : ∀ a, off a + (![1, 1, 1, 8192] : Fin 4 → ℕ) a ≤ WS.size a} {inbT : ∀ a, offT a + RS.size a ≤ TS.size a}
    {inbS : ∀ a, offS a + (⟨1, ![1]⟩ : Shape).size a ≤ SS.size a} {h1 : ∀ a, (Rect.unit (s := TS) offT RS.size inbT).stride a = 1}
    {h2 : ∀ a, (Rect.unit (s := WS) off ![1, 1, 1, 8192] inb).stride a = 1} {h3 : (⟨4, ![1, 1, 1, 8192]⟩ : Shape).Squeezes RS}
    {h4 : (⟨1, ![1]⟩ : Shape).Squeezes ⟨0, ![]⟩}
    (hoff : off = ![s % 24, t % 2, t / 2 % 8, 0]) (hoffT : offT = ![rown e (16 * u + t) % 8128, 0]) (hoffS : offS = ![s % 24])
    {hsrc hdst hsem} {k : PUnit → Prog (TpuEff nD τ sig (Elt F) Λ .tc) α} :
    (Fetching e u s t : sProp 𝕄)
      ⊢ iprop((Fetching e u s (t + 1) -∗ wp frame (wpE defs 𝒱 (e.c : Thread nD τ) bd) Set.univ (k ⟨⟩) Q)
          -∗ wp frame (wpE defs 𝒱 (e.c : Thread nD τ) bd) Set.univ
              (.op (.enqueueDma (e.a2.slice (Rect.unit (s := TS) offT RS.size inbT) h1)
                (.here ((e.a11.slice (Rect.unit (s := WS) off ![1, 1, 1, 8192] inb) h2).squeeze RS h3))
                (.dma ((e.a17.slice (Rect.unit (s := SS) offS (⟨1, ![1]⟩ : Shape).size inbS)).squeeze ⟨0, ![]⟩ h4).sem) hsrc hdst hsem) k) Q) := by
  subst hoff hoffT hoffS
  unfold Fetching batch
  rw [show (Finset.univ.filter fun t' : Fin 16 => t ≤ t'.val) = insert ⟨t, ht⟩ (Finset.univ.filter fun t' : Fin 16 => t + 1 ≤ t'.val) by
      ext x; simp only [Finset.mem_filter, Finset.mem_univ, true_and, Finset.mem_insert, Fin.ext_iff]; omega,
    show (Finset.univ.filter fun t' : Fin 16 => t'.val < t + 1) = insert ⟨t, ht⟩ (Finset.univ.filter fun t' : Fin 16 => t'.val < t) by
      ext x; simp only [Finset.mem_filter, Finset.mem_univ, true_and, Finset.mem_insert, Fin.ext_iff]; omega,
    bigSep_insert' (by simp), bigSep_insert' (by simp), tok_split e u s t]
  unfold held tokRow
  iintro ⟨HB, ⟨⟨⟨%fd, -, Hd⟩, ⟨Ht, Hr⟩⟩, Hp⟩, HR⟩ Hk
  iapply (Transfers.wp_dmaBatch (countersEmb (U := Pipeline.UD sig nD τ)) 𝒱 (e.c : Thread nD τ) bd
    (src := e.a2.slice (tabR (rown e (16 * u + t))) h1) (dst := (e.a11.slice (rowR s t) h2).squeeze RS h3)
    (q := Transfers.shareTokN fullShare (16 * s + t))
    (fs := e.T) (Sd := e.a11.view.setOn (rowR s t).set) (fd := fd) (D := rowD e u s) (j := t) (u := 0) () (NR e) (by unfold NR; rfl)
    (subset_of_eq (set_rowI e s t _)) ht (Nat.zero_le _) ?_) $$ [Ht Hd HB]
  · rw [show (e.a2.slice (tabR (rown e (16 * u + t))) h1).view.set = e.a2.view.setOn (tabR (rown e (16 * u + t))).set from set_rowT e _]
    unfold rowD tokRow held
    iintro ⟨Hd, Ht⟩
    isplitl [Hd]
    · iexists _
      isplitr
      rotate_left
      · iexact Hd
      · ipureintro; exact fun x hx => row_lands e u s t ht _ fd x hx
    · iexact Ht
  · isplitl [Ht]
    · rw [show (e.a2.slice (tabR (rown e (16 * u + t))) h1).view.set = e.a2.view.setOn (tabR (rown e (16 * u + t))).set from set_rowT e _]
      iexact Ht
    isplitl [Hd]
    · iexact Hd
    · iexact HB
  iintro HB
  iapply Hk
  isplitl [HB]
  · iexact HB
  isplitl [Hp]
  · iexact Hp
  · isplitl [Hr]
    · iexact Hr
    · iexact HR

/-- The first of the two waits of a slot: half its credits; -/
theorem wait_half (u s : ℕ) {srcw : Memref sig .tc .hbm ⟨2, ![8, 8192]⟩ .i32} {off : Fin 4 → ℕ} {offS : Fin 1 → ℕ}
    {inb : ∀ a, off a + (![1, 1, 8, 8192] : Fin 4 → ℕ) a ≤ WS.size a}
    {inbS : ∀ a, offS a + (⟨1, ![1]⟩ : Shape).size a ≤ SS.size a}
    {h2 : ∀ a, (Rect.unit (s := WS) off ![1, 1, 8, 8192] inb).stride a = 1} {h3 : (⟨4, ![1, 1, 8, 8192]⟩ : Shape).Squeezes ⟨2, ![8, 8192]⟩}
    {h4 : (⟨1, ![1]⟩ : Shape).Squeezes ⟨0, ![]⟩} {hs hd}
    (hN : sig.dmaCredit .tc (Kind.tc.table .vmem) e.a11.view.buf ⟨2, ![8, 8192]⟩ .i32 = 8 * NR e)
    (hoffS : offS = ![s % 24]) {W : Waits sig Unit} {k : PUnit → Prog (TpuEff nD τ sig (Elt F) Λ .tc) α} :
    iprop(Flying e u s 0 ∗ owes (e.c : Thread nD τ) 0 W)
      ⊢ (iprop((iprop(Flying e u s (8 * NR e) ∗ owes (e.c : Thread nD τ) 0 (insert (SemLoc.dma (semI e s), ()) W))
            -∗ wp frame (wpE defs 𝒱 (e.c : Thread nD τ) bd) Set.univ (k ⟨⟩) Q)
          -∗ wp frame (wpE defs 𝒱 (e.c : Thread nD τ) bd) Set.univ
              (.op (.waitDma2 ((e.a17.slice (Rect.unit (s := SS) offS (⟨1, ![1]⟩ : Shape).size inbS)).squeeze ⟨0, ![]⟩ h4).sem srcw
                ((e.a11.slice (Rect.unit (s := WS) off ![1, 1, 8, 8192] inb) h2).squeeze ⟨2, ![8, 8192]⟩ h3) hs hd) k) Q) : sProp 𝕄) := by
  subst hoffS
  unfold Flying batch
  iintro ⟨⟨HB, HR⟩, HO⟩ Hk
  iapply (Transfers.wp_waitBatchMul (countersEmb (U := Pipeline.UD sig nD τ)) 𝒱 (e.c : Thread nD τ) bd () (N := NR e) 8 hN
    (D := rowD e u s) (j := 16) (u := 0) (by omega) (W := W)) $$ [HB HO]
  · isplitl [HB]
    · iexact HB
    · iexact HO
  iintro ⟨HB, HO⟩
  iapply Hk
  isplitl [HB HR]
  · isplitl [HB]
    · rw [Nat.zero_add]; iexact HB
    · iexact HR
  · iexact HO

/-- and the second: the block has landed. -/
theorem wait_rest (g : Buf (Elt F) (e.a11.view.loc (e.c : Thread nD τ))) (u s : ℕ) {srcw : Memref sig .tc .hbm ⟨2, ![8, 8192]⟩ .i32} {off : Fin 4 → ℕ} {offS : Fin 1 → ℕ}
    {inb : ∀ a, off a + (![1, 1, 8, 8192] : Fin 4 → ℕ) a ≤ WS.size a}
    {inbS : ∀ a, offS a + (⟨1, ![1]⟩ : Shape).size a ≤ SS.size a}
    {h2 : ∀ a, (Rect.unit (s := WS) off ![1, 1, 8, 8192] inb).stride a = 1} {h3 : (⟨4, ![1, 1, 8, 8192]⟩ : Shape).Squeezes ⟨2, ![8, 8192]⟩}
    {h4 : (⟨1, ![1]⟩ : Shape).Squeezes ⟨0, ![]⟩} {hs hd}
    (hN : sig.dmaCredit .tc (Kind.tc.table .vmem) e.a11.view.buf ⟨2, ![8, 8192]⟩ .i32 = 8 * NR e)
    (hN0 : 0 < NR e) (hoffS : offS = ![s % 24]) {W : Waits sig Unit} {k : PUnit → Prog (TpuEff nD τ sig (Elt F) Λ .tc) α} :
    iprop(Flying e u s (8 * NR e) ∗ owes (e.c : Thread nD τ) 0 W)
      ⊢ (iprop((iprop(Landed e u s ∗ owes (e.c : Thread nD τ) 0 (insert (SemLoc.dma (semI e s), ()) W))
            -∗ wp frame (wpE defs 𝒱 (e.c : Thread nD τ) bd) Set.univ (k ⟨⟩) Q)
          -∗ wp frame (wpE defs 𝒱 (e.c : Thread nD τ) bd) Set.univ
              (.op (.waitDma2 ((e.a17.slice (Rect.unit (s := SS) offS (⟨1, ![1]⟩ : Shape).size inbS)).squeeze ⟨0, ![]⟩ h4).sem srcw
                ((e.a11.slice (Rect.unit (s := WS) off ![1, 1, 8, 8192] inb) h2).squeeze ⟨2, ![8, 8192]⟩ h3) hs hd) k) Q) : sProp 𝕄) := by
  subst hoffS
  unfold Flying batch
  iintro ⟨⟨HB, HR⟩, HO⟩ Hk
  iapply (Transfers.wp_waitBatchAll (countersEmb (U := Pipeline.UD sig nD τ)) 𝒱 (e.c : Thread nD τ) bd () (N := NR e) (J := 8 * NR e) hN hN0
    (D := rowD e u s) (u := 8 * NR e) (by omega) (W := W)) $$ [HB HO]
  · isplitl [HB]
    · iexact HB
    · iexact HO
  iintro ⟨HD, Hv, HO⟩
  iapply Hk
  isplitl [HD Hv HR]
  · iapply (land e g u s)
    isplitl [HD]
    · iexact HD
    isplitl [Hv]
    · iexact Hv
    · iexact HR
  · iexact HO

end
end Cert.Hand
-- ==== Proof.KPrime.lean ====
module

public import proofs.«01_k».proof.Proof.Gen.Kernel.Skeleton
public import proofs.«01_k».proof.Proof.Gen.Kernel.Loops
public import proofs.«01_k».proof.Proof.Gen.Kernel.Frame
public import proofs.«01_k».proof.Proof.Rows
public import Idealize.ShloMosaic.Lib.Exec
public import Idealize.ShloMosaic.Lib.Tactic

/-!
# The first blocks are fetched
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- A trip of the first step's loop fetches the sixteen rows of block `k` into slot `k`. -/
theorem prime_trip (e : Env nD τ sig F) (𝒱 : Variants) (bd : Option 𝒱.V) (i : grid0.Coords) (h1 : k0_cond1 i = 1#1)
    {f : Buf (Elt F) (e.a7.view.loc (e.c : Thread nD τ))} (hf : IdsAre e f) (k : Fin k0_t1_loop.trips) (acc : Unit) :
    (iprop((e.a7.view.loc (e.c : Thread nD τ) ↦[e.a7.view.set]{fullShare} f) ∗ Fetching e k.val k.val 0) : sProp 𝕄G)
      ⊢ wp frame (wpE (defs₀ (F := F)) 𝒱 (e.c : Thread nD τ) bd) Set.univ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k acc)
          (fun _ => iprop((e.a7.view.loc (e.c : Thread nD τ) ↦[e.a7.view.set]{fullShare} f) ∗ Flying e k.val k.val 0)) := by
  have hk : k.val < 24 := Nat.lt_of_lt_of_le k.isLt k0_t1_abs.2.1
  unfold k0_t1_body
  iintro ⟨HX, HF⟩
  sl_exec (disch := exact fun _ => chk_of _ (hf.lt _))
  iapply (issue_row e 𝒱 bd k.val k.val 0 (by decide) ((k0_off3_eq k).trans (by simp [Nat.mod_eq_of_lt hk]))
    (hf.off (n := 16 * k.val + 0) (by omega) (k0_off1_eq k) _ rfl) ((k0_off2_eq k).trans (by simp [Nat.mod_eq_of_lt hk]))) $$ HF
  iintro HF
  sl_exec (disch := exact fun _ => chk_of _ (hf.lt _))
  iapply (issue_row e 𝒱 bd k.val k.val 1 (by decide) ((k0_off7_eq k).trans (by simp [Nat.mod_eq_of_lt hk]))
    (hf.off (n := 16 * k.val + 1) (by omega) (k0_off5_eq k) _ rfl) ((k0_off6_eq k).trans (by simp [Nat.mod_eq_of_lt hk]))) $$ HF
  iintro HF
  sl_exec (disch := exact fun _ => chk_of _ (hf.lt _))
  iapply (issue_row e 𝒱 bd k.val k.val 2 (by decide) ((k0_off11_eq k).trans (by simp [Nat.mod_eq_of_lt hk]))
    (hf.off (n := 16 * k.val + 2) (by omega) (k0_off9_eq k) _ rfl) ((k0_off10_eq k).trans (by simp [Nat.mod_eq_of_lt hk]))) $$ HF
  iintro HF
  sl_exec (disch := exact fun _ => chk_of _ (hf.lt _))
  iapply (issue_row e 𝒱 bd k.val k.val 3 (by decide) ((k0_off15_eq k).trans (by simp [Nat.mod_eq_of_lt hk]))
    (hf.off (n := 16 * k.val + 3) (by omega) (k0_off13_eq k) _ rfl) ((k0_off14_eq k).trans (by simp [Nat.mod_eq_of_lt hk]))) $$ HF
  iintro HF
  sl_exec (disch := exact fun _ => chk_of _ (hf.lt _))
  iapply (issue_row e 𝒱 bd k.val k.val 4 (by decide) ((k0_off19_eq k).trans (by simp [Nat.mod_eq_of_lt hk]))
    (hf.off (n := 16 * k.val + 4) (by omega) (k0_off17_eq k) _ rfl) ((k0_off18_eq k).trans (by simp [Nat.mod_eq_of_lt hk]))) $$ HF
  iintro HF
  sl_exec (disch := exact fun _ => chk_of _ (hf.lt _))
  iapply (issue_row e 𝒱 bd k.val k.val 5 (by decide) ((k0_off23_eq k).trans (by simp [Nat.mod_eq_of_lt hk]))
    (hf.off (n := 16 * k.val + 5) (by omega) (k0_off21_eq k) _ rfl) ((k0_off22_eq k).trans (by simp [Nat.mod_eq_of_lt hk]))) $$ HF
  iintro HF
  sl_exec (disch := exact fun _ => chk_of _ (hf.lt _))
  iapply (issue_row e 𝒱 bd k.val k.val 6 (by decide) ((k0_off27_eq k).trans (by simp [Nat.mod_eq_of_lt hk]))
    (hf.off (n := 16 * k.val + 6) (by omega) (k0_off25_eq k) _ rfl) ((k0_off26_eq k).trans (by simp [Nat.mod_eq_of_lt hk]))) $$ HF
  iintro HF
  sl_exec (disch := exact fun _ => chk_of _ (hf.lt _))
  iapply (issue_row e 𝒱 bd k.val k.val 7 (by decide) ((k0_off31_eq k).trans (by simp [Nat.mod_eq_of_lt hk]))
    (hf.off (n := 16 * k.val + 7) (by omega) (k0_off29_eq k) _ rfl) ((k0_off30_eq k).trans (by simp [Nat.mod_eq_of_lt hk]))) $$ HF
  iintro HF
  sl_exec (disch := exact fun _ => chk_of _ (hf.lt _))
  iapply (issue_row e 𝒱 bd k.val k.val 8 (by decide) ((k0_off35_eq k).trans (by simp [Nat.mod_eq_of_lt hk]))
    (hf.off (n := 16 * k.val + 8) (by omega) (k0_off33_eq k) _ rfl) ((k0_off34_eq k).trans (by simp [Nat.mod_eq_of_lt hk]))) $$ HF
  iintro HF
  sl_exec (disch := exact fun _ => chk_of _ (hf.lt _))
  iapply (issue_row e 𝒱 bd k.val k.val 9 (by decide) ((k0_off39_eq k).trans (by simp [Nat.mod_eq_of_lt hk]))
    (hf.off (n := 16 * k.val + 9) (by omega) (k0_off37_eq k) _ rfl) ((k0_off38_eq k).trans (by simp [Nat.mod_eq_of_lt hk]))) $$ HF
  iintro HF
  sl_exec (disch := exact fun _ => chk_of _ (hf.lt _))
  iapply (issue_row e 𝒱 bd k.val k.val 10 (by decide) ((k0_off43_eq k).trans (by simp [Nat.mod_eq_of_lt hk]))
    (hf.off (n := 16 * k.val + 10) (by omega) (k0_off41_eq k) _ rfl) ((k0_off42_eq k).trans (by simp [Nat.mod_eq_of_lt hk]))) $$ HF
  iintro HF
  sl_exec (disch := exact fun _ => chk_of _ (hf.lt _))
  iapply (issue_row e 𝒱 bd k.val k.val 11 (by decide) ((k0_off47_eq k).trans (by simp [Nat.mod_eq_of_lt hk]))
    (hf.off (n := 16 * k.val + 11) (by omega) (k0_off45_eq k) _ rfl) ((k0_off46_eq k).trans (by simp [Nat.mod_eq_of_lt hk]))) $$ HF
  iintro HF
  sl_exec (disch := exact fun _ => chk_of _ (hf.lt _))
  iapply (issue_row e 𝒱 bd k.val k.val 12 (by decide) ((k0_off51_eq k).trans (by simp [Nat.mod_eq_of_lt hk]))
    (hf.off (n := 16 * k.val + 12) (by omega) (k0_off49_eq k) _ rfl) ((k0_off50_eq k).trans (by simp [Nat.mod_eq_of_lt hk]))) $$ HF
  iintro HF
  sl_exec (disch := exact fun _ => chk_of _ (hf.lt _))
  iapply (issue_row e 𝒱 bd k.val k.val 13 (by decide) ((k0_off55_eq k).trans (by simp [Nat.mod_eq_of_lt hk]))
    (hf.off (n := 16 * k.val + 13) (by omega) (k0_off53_eq k) _ rfl) ((k0_off54_eq k).trans (by simp [Nat.mod_eq_of_lt hk]))) $$ HF
  iintro HF
  sl_exec (disch := exact fun _ => chk_of _ (hf.lt _))
  iapply (issue_row e 𝒱 bd k.val k.val 14 (by decide) ((k0_off59_eq k).trans (by simp [Nat.mod_eq_of_lt hk]))
    (hf.off (n := 16 * k.val + 14) (by omega) (k0_off57_eq k) _ rfl) ((k0_off58_eq k).trans (by simp [Nat.mod_eq_of_lt hk]))) $$ HF
  iintro HF
  sl_exec (disch := exact fun _ => chk_of _ (hf.lt _))
  iapply (issue_row e 𝒱 bd k.val k.val 15 (by decide) ((k0_off63_eq k).trans (by simp [Nat.mod_eq_of_lt hk]))
    (hf.off (n := 16 * k.val + 15) (by omega) (k0_off61_eq k) _ rfl) ((k0_off62_eq k).trans (by simp [Nat.mod_eq_of_lt hk]))) $$ HF
  iintro HF
  sl_exec
  sl_step
  isplitl [HX]
  · iexact HX
  · iapply (fetch_end e k.val k.val) $$ HF

end Cert.Kernel.Hand
-- ==== Proof.Queue.lean ====
module

public import proofs.«01_k».proof.Proof.Held

/-!
# A ring of slots used in turn

Block `u` uses slot `u % K`. Blocks `lo, …, hi - 1` are in their slots; the other slots are free.
-/

@[expose] public section

noncomputable section

namespace Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MT nD τ sig Unit Val ℕ (Pipeline.UD sig nD τ) ℕ

/-- A big conjunction whose conjunct at `i` changes. -/
theorem bigSep_swap {I : Type} [Fintype I] [DecidableEq I] (i : I) (Φ Ψ : I → sProp (MT nD τ sig Unit Val ℕ (Pipeline.UD sig nD τ) ℕ))
    (h : ∀ j, j ≠ i → Φ j = Ψ j) :
    bigSep Finset.univ Φ ⊢ iprop(Φ i ∗ (Ψ i -∗ bigSep Finset.univ Ψ)) := by
  rw [bigSep_out i Φ, bigSep_out i Ψ, BI.bigSep_congr (s := Finset.univ.erase i) fun j hj => h j (Finset.ne_of_mem_erase hj)]
  iintro ⟨H, HR⟩
  isplitl [H]
  · iexact H
  · iintro H
    isplitl [H]
    · iexact H
    · iexact HR

/-- The block that slot `o` holds next, from `lo` on. -/
def nextAt (K lo o : ℕ) : ℕ := lo + (o + K - lo % K) % K

/-- The ring: `Fl u o` of block `u` in slot `o`, `Fr o` of a free slot. -/
def queue (K lo hi : ℕ) (Fl : ℕ → ℕ → sProp (MT nD τ sig Unit Val ℕ (Pipeline.UD sig nD τ) ℕ))
    (Fr : ℕ → sProp (MT nD τ sig Unit Val ℕ (Pipeline.UD sig nD τ) ℕ)) : sProp (MT nD τ sig Unit Val ℕ (Pipeline.UD sig nD τ) ℕ) :=
  bigSep Finset.univ fun o : Fin K => if nextAt K lo o.val < hi then Fl (nextAt K lo o.val) o.val else Fr o.val

theorem nextAt_mod {K : ℕ} (hK : 0 < K) (lo : ℕ) {o : ℕ} (ho : o < K) : nextAt K lo o % K = o := by
  unfold nextAt
  have h := Nat.mod_lt lo hK
  have h' := Nat.div_add_mod lo K
  rw [Nat.add_mod_mod, show lo + (o + K - lo % K) = o + K + K * (lo / K) by omega, Nat.add_mul_mod_self_left, Nat.add_mod_right,
    Nat.mod_eq_of_lt ho]

theorem nextAt_ge (K lo o : ℕ) : lo ≤ nextAt K lo o := Nat.le_add_right _ _
theorem nextAt_lt {K : ℕ} (hK : 0 < K) (lo o : ℕ) : nextAt K lo o < lo + K := Nat.add_lt_add_left (Nat.mod_lt _ hK) _

/-- Two numbers less than `K` apart with the same remainder are equal. -/
theorem eq_of_mod {K a b : ℕ} (h : a % K = b % K) (h1 : a < b + K) (h2 : b < a + K) : a = b := by
  have h3 := Nat.div_add_mod a K
  have h4 := Nat.div_add_mod b K
  rw [h] at h3
  rcases Nat.lt_trichotomy (a / K) (b / K) with h5 | h5 | h5
  · have : K * (a / K + 1) ≤ K * (b / K) := Nat.mul_le_mul_left K h5
    rw [Nat.mul_add] at this; omega
  · rw [h5] at h3; omega
  · have : K * (b / K + 1) ≤ K * (a / K) := Nat.mul_le_mul_left K h5
    rw [Nat.mul_add] at this; omega

theorem nextAt_eq {K : ℕ} (hK : 0 < K) {lo u : ℕ} (h1 : lo ≤ u) (h2 : u < lo + K) : nextAt K lo (u % K) = u :=
  eq_of_mod (nextAt_mod hK lo (Nat.mod_lt _ hK)) (by have := nextAt_lt hK lo (u % K); omega) (by have := nextAt_ge K lo (u % K); omega)

theorem nextAt_succ {K : ℕ} (hK : 0 < K) (lo : ℕ) {o : ℕ} (ho : o < K) (h : o ≠ lo % K) : nextAt K (lo + 1) o = nextAt K lo o := by
  have h1 := nextAt_mod hK lo ho
  have h2 := nextAt_mod hK (lo + 1) ho
  have h3 := nextAt_ge K lo o
  have h4 := nextAt_lt hK lo o
  have h5 := nextAt_ge K (lo + 1) o
  have h6 := nextAt_lt hK (lo + 1) o
  refine eq_of_mod (h2.trans h1.symm) ?_ (by omega)
  rcases Nat.lt_or_ge lo (nextAt K lo o) with h7 | h7
  · omega
  · exact absurd (h1.symm.trans (congrArg (· % K) (Nat.le_antisymm h7 h3))) h

variable {K lo hi : ℕ} (Fl : ℕ → ℕ → sProp (MT nD τ sig Unit Val ℕ (Pipeline.UD sig nD τ) ℕ))
  (Fr : ℕ → sProp (MT nD τ sig Unit Val ℕ (Pipeline.UD sig nD τ) ℕ))

/-- The oldest block leaves its slot. -/
theorem queue_take (hK : 0 < K) (h1 : lo < hi) (h2 : hi ≤ lo + K) :
    queue K lo hi Fl Fr ⊢ iprop(Fl lo (lo % K) ∗ (Fr (lo % K) -∗ queue K (lo + 1) hi Fl Fr)) := by
  have h := bigSep_swap (⟨lo % K, Nat.mod_lt _ hK⟩ : Fin K)
    (fun o : Fin K => if nextAt K lo o.val < hi then Fl (nextAt K lo o.val) o.val else Fr o.val)
    (fun o : Fin K => if nextAt K (lo + 1) o.val < hi then Fl (nextAt K (lo + 1) o.val) o.val else Fr o.val)
    (fun o ho => by rw [nextAt_succ hK lo o.isLt (fun h => ho (Fin.ext h))])
  have e1 : nextAt K lo (lo % K) = lo := nextAt_eq hK (Nat.le_refl _) (by omega)
  have e2 : nextAt K (lo + 1) (lo % K) = lo + K := by
    rw [← Nat.add_mod_right lo K]; exact nextAt_eq hK (by omega) (by omega)
  simp only [e1, e2, if_pos h1, if_neg (show ¬ lo + K < hi by omega)] at h
  exact h

/-- A new block enters its slot. -/
theorem queue_put (hK : 0 < K) (h1 : lo ≤ hi) (h2 : hi < lo + K) :
    queue K lo hi Fl Fr ⊢ iprop(Fr (hi % K) ∗ (Fl hi (hi % K) -∗ queue K lo (hi + 1) Fl Fr)) := by
  have e1 : nextAt K lo (hi % K) = hi := nextAt_eq hK h1 h2
  have h := bigSep_swap (⟨hi % K, Nat.mod_lt _ hK⟩ : Fin K)
    (fun o : Fin K => if nextAt K lo o.val < hi then Fl (nextAt K lo o.val) o.val else Fr o.val)
    (fun o : Fin K => if nextAt K lo o.val < hi + 1 then Fl (nextAt K lo o.val) o.val else Fr o.val)
    (fun o ho => by
      have h3 : nextAt K lo o.val ≠ hi := fun h => ho (Fin.ext (by
        have := nextAt_mod hK lo o.isLt; rw [h] at this; exact this.symm))
      by_cases h4 : nextAt K lo o.val < hi
      · rw [if_pos h4, if_pos (by omega)]
      · rw [if_neg h4, if_neg (by omega)])
  simp only [e1, if_neg (Nat.lt_irrefl hi), if_pos (Nat.lt_succ_self hi)] at h
  exact h

/-- With no blocks in the slots, all are free. -/
theorem queue_empty (h : hi ≤ lo) : queue K lo hi Fl Fr = bigSep Finset.univ fun o : Fin K => Fr o.val := by
  unfold queue
  refine BI.bigSep_congr fun o _ => if_neg ?_
  have := nextAt_ge K lo o.val
  omega

/-- Blocks of an array: the first `lo` are done, up to `hi` they are being made, the others are not begun. -/
def blocks (N lo hi : ℕ) (Dn Nw : ℕ → sProp (MT nD τ sig Unit Val ℕ (Pipeline.UD sig nD τ) ℕ)) :
    sProp (MT nD τ sig Unit Val ℕ (Pipeline.UD sig nD τ) ℕ) :=
  bigSep Finset.univ fun b : Fin N => if b.val < lo then Dn b.val else if b.val < hi then iprop(emp) else Nw b.val

variable {N : ℕ} (Dn Nw : ℕ → sProp (MT nD τ sig Unit Val ℕ (Pipeline.UD sig nD τ) ℕ))

/-- The next block is begun. -/
theorem blocks_take (h1 : lo ≤ hi) (h2 : hi < N) : blocks N lo hi Dn Nw ⊢ iprop(Nw hi ∗ blocks N lo (hi + 1) Dn Nw) := by
  have h := bigSep_swap (⟨hi, h2⟩ : Fin N)
    (fun b : Fin N => if b.val < lo then Dn b.val else if b.val < hi then iprop(emp) else Nw b.val)
    (fun b : Fin N => if b.val < lo then Dn b.val else if b.val < hi + 1 then iprop(emp) else Nw b.val)
    (fun b hb => by
      have h3 : b.val ≠ hi := fun h => hb (Fin.ext h)
      by_cases h4 : b.val < hi
      · rw [if_pos h4, if_pos (show b.val < hi + 1 by omega)]
      · rw [if_neg h4, if_neg (show ¬ b.val < hi + 1 by omega)])
  simp only [if_neg (show ¬ hi < lo by omega), if_neg (Nat.lt_irrefl hi), if_pos (Nat.lt_succ_self hi)] at h
  refine h.trans ?_
  unfold blocks
  iintro ⟨H, Hk⟩
  isplitl [H]
  · iexact H
  · iapply Hk
    iempintro

/-- The oldest block being made is done. -/
theorem blocks_give (h1 : lo < hi) (h2 : lo < N) : iprop(blocks N lo hi Dn Nw ∗ Dn lo) ⊢ blocks N (lo + 1) hi Dn Nw := by
  have h := bigSep_swap (⟨lo, h2⟩ : Fin N)
    (fun b : Fin N => if b.val < lo then Dn b.val else if b.val < hi then iprop(emp) else Nw b.val)
    (fun b : Fin N => if b.val < lo + 1 then Dn b.val else if b.val < hi then iprop(emp) else Nw b.val)
    (fun b hb => by
      have h3 : b.val ≠ lo := fun h => hb (Fin.ext h)
      by_cases h4 : b.val < lo
      · rw [if_pos h4, if_pos (show b.val < lo + 1 by omega)]
      · rw [if_neg h4, if_neg (show ¬ b.val < lo + 1 by omega)])
  simp only [if_neg (Nat.lt_irrefl lo), if_pos h1, if_pos (Nat.lt_succ_self lo)] at h
  unfold blocks
  iintro ⟨HB, HD⟩
  ihave HB := h $$ HB
  icases HB with ⟨-, Hk⟩
  iapply Hk
  iexact HD

theorem blocks_none : blocks N 0 0 Dn Nw = bigSep Finset.univ fun b : Fin N => Nw b.val := by
  unfold blocks
  exact BI.bigSep_congr fun b _ => by rw [if_neg (Nat.not_lt_zero _), if_neg (Nat.not_lt_zero _)]

theorem blocks_all (h : N ≤ lo) : blocks N lo hi Dn Nw = bigSep Finset.univ fun b : Fin N => Dn b.val := by
  unfold blocks
  exact BI.bigSep_congr fun b _ => if_pos (Nat.lt_of_lt_of_le b.isLt h)

end Cert.Hand
-- ==== Proof.Puts.lean ====
module

public import proofs.«01_k».proof.Proof.Queue
public import Idealize.ShloMosaic.Lib.ValueLayout

/-!
# The ring of blocks written back

Sixteen rows of a result are computed in a slot of a ring of eight and then written back by one transfer on the slot's
semaphore, waited for eight steps later.
-/

@[expose] public section

noncomputable section

namespace Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

/-- The ring of computed blocks. -/ abbrev OS : Shape := ⟨3, ![8, 16, 8192]⟩
/-- A result. -/ abbrev HS : Shape := ⟨2, ![2048, 8192]⟩
/-- The semaphores of the ring. -/ abbrev S8s : Shape := ⟨1, ![8]⟩
/-- One block. -/ abbrev BS : Shape := ⟨2, ![16, 8192]⟩

theorem outR_inb (o : ℕ) : ∀ a, (![o % 8, 0, 0] : Fin 3 → ℕ) a + (![1, 16, 8192] : Fin 3 → ℕ) a ≤ OS.size a := by
  intro a; fin_cases a <;> simp; omega
theorem blkR_inb (b : ℕ) : ∀ a, (![16 * (b % 128), 0] : Fin 2 → ℕ) a + BS.size a ≤ HS.size a := by
  intro a; fin_cases a <;> simp; omega
theorem semO_inb (o : ℕ) : ∀ a, (![o % 8] : Fin 1 → ℕ) a + (![1] : Fin 1 → ℕ) a ≤ S8s.size a := by
  intro a; fin_cases a; simp; omega

/-- Slot `o`. -/
abbrev outR (o : ℕ) : Rect OS := Rect.unit (s := OS) ![o % 8, 0, 0] ![1, 16, 8192] (outR_inb o)
/-- Block `b` of a result. -/
abbrev blkR (b : ℕ) : Rect HS := Rect.unit (s := HS) ![16 * (b % 128), 0] BS.size (blkR_inb b)

theorem mem_outR {o : ℕ} {x : OS.Idx} : x ∈ (outR o).set ↔ (x 0).val = o % 8 := by
  rw [Rect.mem_set_unit]
  constructor
  · intro h; have h0 := h 0; simp at h0; omega
  · intro h a; have h1 := (x 1).isLt; have h2 := (x 2).isLt; fin_cases a <;> simp <;> simp at h1 h2 <;> omega
theorem mem_blkR {b : ℕ} {x : HS.Idx} : x ∈ (blkR b).set ↔ (x 0).val / 16 = b % 128 := by
  rw [Rect.mem_set_unit]
  constructor
  · intro h; have h0 := h 0; simp at h0; omega
  · intro h a; have h1 := (x 1).isLt; fin_cases a <;> simp <;> simp at h1 <;> omega

theorem outs_disjoint (s s' : Fin 8) (h : s ≠ s') : Disjoint (outR s).set (outR s').set := by
  rw [Finset.disjoint_left]; intro x hx hx'; rw [mem_outR] at hx hx'
  exact h (Fin.ext (by omega))
theorem outs_union : Finset.univ.biUnion (fun s : Fin 8 => (outR s).set) = (Finset.univ : Finset OS.Idx) := by
  ext x; simp only [Finset.mem_biUnion, Finset.mem_univ, true_and, iff_true]
  have h0 := (x 0).isLt; simp at h0
  exact ⟨⟨(x 0).val, h0⟩, mem_outR.mpr (by simp; omega)⟩
theorem blks_disjoint (s s' : Fin 128) (h : s ≠ s') : Disjoint (blkR s).set (blkR s').set := by
  rw [Finset.disjoint_left]; intro x hx hx'; rw [mem_blkR] at hx hx'
  exact h (Fin.ext (by omega))
theorem blks_union : Finset.univ.biUnion (fun s : Fin 128 => (blkR s).set) = (Finset.univ : Finset HS.Idx) := by
  ext x; simp only [Finset.mem_biUnion, Finset.mem_univ, true_and, iff_true]
  have h0 := (x 0).isLt; simp at h0
  exact ⟨⟨(x 0).val / 16, by omega⟩, mem_blkR.mpr (by simp; omega)⟩

variable {nD : ℕ} {τ : Topo} {sig : RefSig} {F : FTy → Type}

local notation "𝕄" => MT nD τ sig Unit (Elt F) ℕ (Pipeline.UD sig nD τ) ℕ

variable (c : Dev nD) (v : Memref sig .tc .vmem OS .bf16) (hb : Memref sig .tc .hbm HS .bf16) (sems : DmaSems sig S8s)
  (Q : HS.Idx → Elt F .bf16 → Prop)

/-- The semaphore of slot `o`. -/
def semO (o : ℕ) : DmaSem sig := ((sems.slice (Rect.unit (s := S8s) ![o % 8] (⟨1, ![1]⟩ : Shape).size (semO_inb o))).squeeze ⟨0, ![]⟩ (show (⟨1, ![1]⟩ : Shape).Squeezes ⟨0, ![]⟩ by decide)).sem

/-- What one transfer credits. -/
def NO : ℕ := sig.dmaCredit .tc (Kind.tc.table .hbm) hb.view.buf BS .bf16

/-- A slot that holds block `b` as computed: its row `r` is row `16 b + r` of the result. -/
def blockIs (b : ℕ) : OS.Idx → Elt F .bf16 → Prop := fun x w =>
  Q (ix2 ⟨(16 * b + (x 1).val) % 2048, Nat.mod_lt _ (by decide)⟩ (x 2)) w

/-- What the transfer of block `b` from slot `o` delivers. -/
def outD (b o : ℕ) (_ : Fin 1) : sProp 𝕄 :=
  iprop(held c hb (blkR b).set Q ∗ held c v (outR o).set anyP)

instance (b o : ℕ) (t : Fin 1) : Storable (upEmb : UEmb _ 𝕄) (outD c v hb Q b o t) := by
  unfold outD; infer_instance

theorem outD_all (b o : ℕ) : (bigSep Finset.univ (outD c v hb Q b o) : sProp 𝕄) ⊢ iprop(held c hb (blkR b).set Q ∗ held c v (outR o).set anyP) := by
  rw [show (Finset.univ : Finset (Fin 1)) = {0} by decide, BI.bigSep_singleton]
  exact .rfl

/-- Block `b` on its way from slot `o`. -/
def OutFly (b o : ℕ) : sProp 𝕄 :=
  Transfers.Batch (countersEmb (U := Pipeline.UD sig nD τ)) (c : Thread nD τ) (.dma (semO sems o)) () (NO hb) (outD c v hb Q b o) 1 0

/-- Slot `o` free. -/
def OutFree (o : ℕ) : sProp 𝕄 :=
  iprop(semVal ((c : Thread nD τ), .dma (semO sems o)) 0 ∗ held c v (outR o).set anyP)

/-- The ring and the result: blocks `lo, …, hi - 1` are on their way, those before are written. -/
def Out (lo hi : ℕ) : sProp 𝕄 :=
  iprop(queue 8 lo hi (OutFly c v hb sems Q) (OutFree c v sems)
    ∗ blocks 128 lo hi (fun b => held c hb (blkR b).set Q) (fun b => held c hb (blkR b).set anyP))

theorem out_lands (b o : ℕ) (hb' : b < 128) {fs : Buf (Elt F) (v.view.loc (c : Thread nD τ))} (hn : BS.numel = (outR o).shape.numel)
    (hfs : ∀ x ∈ (outR o).set, blockIs Q b x (v.view.read (Elt F) fs x)) (fd : Buf (Elt F) (hb.view.loc (c : Thread nD τ)))
    (y : HS.Idx) (hy : y ∈ (blkR b).set) :
    Q y (hb.view.read (Elt F) ((hb.view.slice (blkR b)).write (Elt F) fd
      (((v.view.slice (outR o)).reshape BS hn).read (Elt F) fs) Finset.univ) y) := by
  have hy' := mem_blkR.mp hy
  rw [Nat.mod_eq_of_lt hb'] at hy'
  have h0 := (y 0).isLt
  have h1 := (y 1).isLt
  simp at h0 h1
  have hemb : hb.view.emb y = (hb.view.slice (blkR b)).emb (ix2 (⟨(y 0).val % 16, Nat.mod_lt _ (by decide)⟩ : Fin 16) (y 1)) := by
    show _ = hb.view.emb ((blkR b).emb _)
    congr 1
    funext a
    apply Fin.ext
    rw [Rect.emb_apply]
    fin_cases a
    · simp; omega
    · simp
  rw [View.read_apply, hemb]
  have := congrFun (View.read_write_univ (v := hb.view.slice (blkR b)) (Val := Elt F) fd
    (((v.view.slice (outR o)).reshape BS hn).read (Elt F) fs)) (ix2 (⟨(y 0).val % 16, Nat.mod_lt _ (by decide)⟩ : Fin 16) (y 1))
  rw [View.read_apply] at this
  have h2 := hfs (ix3 (⟨o % 8, Nat.mod_lt _ (by decide)⟩ : Fin 8) (⟨(y 0).val % 16, Nat.mod_lt _ (by decide)⟩ : Fin 16) (y 1))
    (mem_outR.mpr rfl)
  unfold blockIs at h2
  have e1 : (ix2 (⟨(16 * b + (y 0).val % 16) % 2048, Nat.mod_lt _ (by decide)⟩ : Fin 2048) (y 1) : HS.Idx) = y := by
    funext a
    apply Fin.ext
    fin_cases a
    · show (16 * b + (y 0).val % 16) % 2048 = (y 0).val; omega
    · rfl
  have e2 : v.view.read (Elt F) fs (ix3 (⟨o % 8, Nat.mod_lt _ (by decide)⟩ : Fin 8) (⟨(y 0).val % 16, Nat.mod_lt _ (by decide)⟩ : Fin 16) (y 1))
      = ((v.view.slice (outR o)).reshape BS hn).read (Elt F) fs (ix2 (⟨(y 0).val % 16, Nat.mod_lt _ (by decide)⟩ : Fin 16) (y 1)) := by
    rw [View.read_apply, View.read_apply]
    have : v.view.emb (ix3 (⟨o % 8, Nat.mod_lt _ (by decide)⟩ : Fin 8) (⟨(y 0).val % 16, Nat.mod_lt _ (by decide)⟩ : Fin 16) (y 1))
        = ((v.view.slice (outR o)).reshape BS hn).emb (ix2 (⟨(y 0).val % 16, Nat.mod_lt _ (by decide)⟩ : Fin 16) (y 1)) := by
      show _ = v.view.emb ((outR o).emb (Shape.reshapeEquiv hn _))
      refine Eq.trans ?_ (congrArg (fun z => v.view.emb ((outR o).emb z)) (reshapeEquiv_ix2_1ab hn (⟨(y 0).val % 16, Nat.mod_lt _ (by decide)⟩ : Fin 16) (y 1)).symm)
      show _ = v.view.emb _
      congr 1
      funext a
      apply Fin.ext
      rw [Rect.emb_apply]
      fin_cases a <;> simp
    rw [this]
  rw [e2] at h2
  rw [← this] at h2
  change Q (ix2 (⟨(16 * b + (y 0).val % 16) % 2048, Nat.mod_lt _ (by decide)⟩ : Fin 2048) (y 1)) _ at h2
  rw [e1] at h2
  exact h2

variable {Λ : Labels} {defs : Defs nD τ sig (Elt F) Λ} (𝒱 : Variants) (bd : Option 𝒱.V) {α : Type} {P : α → sProp (MT nD τ sig Unit (Elt F) ℕ (Pipeline.UD sig nD τ) ℕ)}

/-- The write-back of block `b` from slot `o` is issued. -/
theorem out_put (b o : ℕ) (hb' : b < 128) {off : Fin 3 → ℕ} {offH : Fin 2 → ℕ} {offS : Fin 1 → ℕ}
    {inb : ∀ a, off a + (![1, 16, 8192] : Fin 3 → ℕ) a ≤ OS.size a} {inbH : ∀ a, offH a + BS.size a ≤ HS.size a}
    {inbS : ∀ a, offS a + (⟨1, ![1]⟩ : Shape).size a ≤ S8s.size a} {h1 : ∀ a, (Rect.unit (s := HS) offH BS.size inbH).stride a = 1}
    {h2 : ∀ a, (Rect.unit (s := OS) off ![1, 16, 8192] inb).stride a = 1} {h3 : (⟨3, ![1, 16, 8192]⟩ : Shape).Squeezes BS}
    {h4 : (⟨1, ![1]⟩ : Shape).Squeezes ⟨0, ![]⟩}
    (hoff : off = ![o % 8, 0, 0]) (hoffH : offH = ![16 * (b % 128), 0]) (hoffS : offS = ![o % 8])
    {hsrc hdst hsem} {k : PUnit → Prog (TpuEff nD τ sig (Elt F) Λ .tc) α} :
    (iprop(semVal ((c : Thread nD τ), .dma (semO sems o)) 0 ∗ held c v (outR o).set (blockIs Q b) ∗ held c hb (blkR b).set anyP) : sProp 𝕄)
      ⊢ iprop((OutFly c v hb sems Q b o -∗ wp frame (wpE defs 𝒱 (c : Thread nD τ) bd) Set.univ (k ⟨⟩) P)
          -∗ wp frame (wpE defs 𝒱 (c : Thread nD τ) bd) Set.univ
              (.op (.enqueueDma ((v.slice (Rect.unit (s := OS) off ![1, 16, 8192] inb) h2).squeeze BS h3)
                (.here (hb.slice (Rect.unit (s := HS) offH BS.size inbH) h1))
                (.dma ((sems.slice (Rect.unit (s := S8s) offS (⟨1, ![1]⟩ : Shape).size inbS)).squeeze ⟨0, ![]⟩ h4).sem) hsrc hdst hsem) k) P) := by
  subst hoff hoffH hoffS
  have hset : ((v.slice (outR o) h2).squeeze BS h3).view.set = v.view.setOn (outR o).set := by
    show ((v.view.slice (outR o)).reshape BS _).set = _
    rw [View.set_reshape, View.set_slice]; rfl
  have hsetH : (hb.slice (blkR b) h1).view.set = hb.view.setOn (blkR b).set := by
    show (hb.view.slice (blkR b)).set = _
    rw [View.set_slice]; rfl
  unfold OutFly
  iintro ⟨Hv, Hs, Hd⟩ Hk
  unfold held
  icases Hs with ⟨%fs, %hfs, Hs⟩
  icases Hd with ⟨%fd, -, Hd⟩
  iapply Idealize.SL.Sem.fupd_wp
  imod (Transfers.batch_alloc' (Lvl := ℕ) (countersEmb (U := Pipeline.UD sig nD τ)) (c : Thread nD τ) () (NO hb)
    (outD c v hb Q b o) (sm := .dma (semO sems o)) (E := Set.univ)) $$ Hv with HB
  imodintro
  iapply (Transfers.wp_dmaBatch (countersEmb (U := Pipeline.UD sig nD τ)) 𝒱 (c : Thread nD τ) bd
    (src := (v.slice (outR o) h2).squeeze BS h3) (dst := hb.slice (blkR b) h1)
    (q := fullShare) (fs := fs) (Sd := hb.view.setOn (blkR b).set) (fd := fd) (D := outD c v hb Q b o) (j := 0) (u := 0) () (NO hb) (by unfold NO; rfl)
    (subset_of_eq hsetH) (by decide) (Nat.zero_le _) ?_) $$ [Hs Hd HB]
  · rw [hset]
    unfold outD held
    iintro ⟨Hd, Hs⟩
    isplitl [Hd]
    · iexists _
      isplitr
      rotate_left
      · iexact Hd
      · ipureintro; exact fun y hy => out_lands (τ := τ) c v hb Q b o hb' _ hfs fd y hy
    · iexists fs
      isplitr
      · ipureintro; exact fun _ _ => trivial
      · iexact Hs
  · isplitl [Hs]
    · rw [hset]; iexact Hs
    isplitl [Hd]
    · iexact Hd
    · iexact HB
  iintro HB
  iapply Hk
  iexact HB

/-- The oldest block on its way is waited for. -/
theorem out_wait (lo hi : ℕ) (h1 : lo < hi) (h2 : hi ≤ lo + 8) (h3 : lo < 128) (hN0 : 0 < NO hb) {srcw : Memref sig .tc .vmem BS .bf16}
    {offH : Fin 2 → ℕ} {offS : Fin 1 → ℕ} {inbH : ∀ a, offH a + BS.size a ≤ HS.size a}
    {inbS : ∀ a, offS a + (⟨1, ![1]⟩ : Shape).size a ≤ S8s.size a} {hh : ∀ a, (Rect.unit (s := HS) offH BS.size inbH).stride a = 1}
    {h4 : (⟨1, ![1]⟩ : Shape).Squeezes ⟨0, ![]⟩} {hs hd}
    (hoffS : offS = ![lo % 8]) {W : Waits sig Unit} {k : PUnit → Prog (TpuEff nD τ sig (Elt F) Λ .tc) α} :
    iprop(Out c v hb sems Q lo hi ∗ ∃ W, owes (c : Thread nD τ) 0 W)
      ⊢ (iprop((iprop(Out c v hb sems Q (lo + 1) hi ∗ ∃ W, owes (c : Thread nD τ) 0 W)
            -∗ wp frame (wpE defs 𝒱 (c : Thread nD τ) bd) Set.univ (k ⟨⟩) P)
          -∗ wp frame (wpE defs 𝒱 (c : Thread nD τ) bd) Set.univ
              (.op (.waitDma2 ((sems.slice (Rect.unit (s := S8s) offS (⟨1, ![1]⟩ : Shape).size inbS)).squeeze ⟨0, ![]⟩ h4).sem srcw
                (hb.slice (Rect.unit (s := HS) offH BS.size inbH) hh) hs hd) k) P) : sProp 𝕄) := by
  have hoffS' : offS = ![(lo % 8) % 8] := by rw [Nat.mod_mod]; exact hoffS
  subst hoffS'
  unfold Out
  iintro ⟨⟨HQ, HB⟩, ⟨%W, HO⟩⟩ Hk
  ihave HQ := (queue_take (K := 8) (OutFly c v hb sems Q) (OutFree c v sems) (by decide) h1 h2) $$ HQ
  icases HQ with ⟨HF, HQ⟩
  unfold OutFly
  iapply (Transfers.wp_waitBatchAll (countersEmb (U := Pipeline.UD sig nD τ)) 𝒱 (c : Thread nD τ) bd () (N := NO hb) (J := NO hb) rfl hN0
    (D := outD c v hb Q lo (lo % 8)) (u := 0) (by omega) (W := W)) $$ [HF HO]
  · isplitl [HF]
    · iexact HF
    · iexact HO
  iintro ⟨HD, Hv, HO⟩
  ihave HD := (outD_all c v hb Q lo (lo % 8)) $$ HD
  icases HD with ⟨Hh, Hs⟩
  iapply Hk
  isplitl [HQ HB Hh Hv Hs]
  · isplitl [HQ Hv Hs]
    · iapply HQ
      unfold OutFree
      isplitl [Hv]
      · iexact Hv
      · iexact Hs
    · iapply (blocks_give (N := 128) (fun b => held c hb (blkR b).set Q) (fun b => held c hb (blkR b).set anyP) h1 h3)
      isplitl [HB]
      · iexact HB
      · iexact Hh
  · iexists _; iexact HO

/-- The next block's slot and place are taken; once on its way it is put back. -/
theorem out_next (lo hi : ℕ) (h1 : lo ≤ hi) (h2 : hi < lo + 8) (h3 : hi < 128) :
    (Out c v hb sems Q lo hi : sProp 𝕄) ⊢ iprop((semVal ((c : Thread nD τ), .dma (semO sems (hi % 8))) 0 ∗ held c v (outR (hi % 8)).set anyP
      ∗ held c hb (blkR hi).set anyP) ∗ (OutFly c v hb sems Q hi (hi % 8) -∗ Out c v hb sems Q lo (hi + 1))) := by
  unfold Out
  iintro ⟨HQ, HB⟩
  ihave HQ := (queue_put (K := 8) (OutFly c v hb sems Q) (OutFree c v sems) (by decide) h1 h2) $$ HQ
  ihave HB := (blocks_take (N := 128) (fun b => held c hb (blkR b).set Q) (fun b => held c hb (blkR b).set anyP) h1 h3) $$ HB
  icases HQ with ⟨HF, HQ⟩
  icases HB with ⟨Hh, HB⟩
  unfold OutFree
  icases HF with ⟨Hv, Hs⟩
  isplitl [Hv Hs Hh]
  · isplitl [Hv]
    · iexact Hv
    isplitl [Hs]
    · iexact Hs
    · iexact Hh
  · iintro HF
    isplitl [HQ HF]
    · iapply HQ; iexact HF
    · iexact HB

/-- The ring at the start, -/
theorem out_start : iprop((bigSep Finset.univ fun o : Fin 8 => semVal ((c : Thread nD τ), .dma (semO sems o.val)) 0)
      ∗ held c v Finset.univ anyP ∗ held c hb Finset.univ anyP) ⊢ (Out c v hb sems Q 0 0 : sProp 𝕄) := by
  unfold Out
  rw [queue_empty (K := 8) _ _ (Nat.le_refl 0), blocks_none]
  unfold OutFree
  rw [bigSep_sep']
  iintro ⟨Hv, Hs, Hh⟩
  isplitl [Hv Hs]
  · isplitl [Hv]
    · iexact Hv
    · iapply (held_split c v (fun o : Fin 8 => (outR o.val).set) outs_disjoint outs_union anyP) $$ Hs
  · iapply (held_split c hb (fun b : Fin 128 => (blkR b.val).set) blks_disjoint blks_union anyP) $$ Hh

/-- and at the end. -/
theorem out_end (gv : Buf (Elt F) (v.view.loc (c : Thread nD τ))) (gh : Buf (Elt F) (hb.view.loc (c : Thread nD τ))) :
    (Out c v hb sems Q 128 128 : sProp 𝕄) ⊢ iprop((bigSep Finset.univ fun o : Fin 8 => semVal ((c : Thread nD τ), .dma (semO sems o.val)) 0)
      ∗ held c v Finset.univ anyP ∗ held c hb Finset.univ Q) := by
  unfold Out
  rw [queue_empty (K := 8) _ _ (Nat.le_refl 128), blocks_all _ _ (Nat.le_refl 128)]
  unfold OutFree
  rw [bigSep_sep']
  iintro ⟨⟨Hv, Hs⟩, Hh⟩
  isplitl [Hv]
  · iexact Hv
  isplitl [Hs]
  · iapply (held_join c v (fun o : Fin 8 => (outR o.val).set) gv outs_disjoint outs_union anyP) $$ Hs
  · iapply (held_join c hb (fun b : Fin 128 => (blkR b.val).set) gh blks_disjoint blks_union Q) $$ Hh

end Cert.Hand
-- ==== Proof.Steps.lean ====
module

public import proofs.«01_k».proof.Proof.Rows
public import proofs.«01_k».proof.Proof.Puts

/-!
# What a step of the kernel holds

The resources before and after a step, and rules for loads, stores and sequences over them.
-/

@[expose] public section

noncomputable section

namespace Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type}

local notation "𝕄" => MT nD τ sig Unit (Elt F) ℕ (Pipeline.UD sig nD τ) ℕ

theorem emb_mem {s : Shape} (r : Rect s) (y : r.shape.Idx) : r.emb y ∈ r.set := by
  rw [← Rect.map_emb_univ]; exact Finset.mem_map_of_mem _ (Finset.mem_univ _)

/-- The rectangle that is the whole array names each of its elements. -/
theorem whole2 {a b : ℕ} {h : ∀ x, (![0, 0] : Fin 2 → ℕ) x + (⟨2, ![a, b]⟩ : Shape).size x ≤ (⟨2, ![a, b]⟩ : Shape).size x}
    (y : (⟨2, ![a, b]⟩ : Shape).Idx) : (Rect.unit (s := ⟨2, ![a, b]⟩) ![0, 0] (⟨2, ![a, b]⟩ : Shape).size h).emb y = y := by
  funext x
  apply Fin.ext
  fin_cases x <;> simp [Rect.emb_apply]

section
variable {Λ : Labels} {defs : Defs nD τ sig (Elt F) Λ} (𝒱 : Variants) (c : Dev nD) (bd : Option 𝒱.V) {α β : Type}
  {Q : α → sProp (MT nD τ sig Unit (Elt F) ℕ (Pipeline.UD sig nD τ) ℕ)}

/-- A program proved on its own at the head of a longer one. -/
theorem seq {p : Prog (TpuEff nD τ sig (Elt F) Λ .tc) β} {k : β → Prog (TpuEff nD τ sig (Elt F) Λ .tc) α}
    {P : sProp (MT nD τ sig Unit (Elt F) ℕ (Pipeline.UD sig nD τ) ℕ)} {Q1 : β → sProp (MT nD τ sig Unit (Elt F) ℕ (Pipeline.UD sig nD τ) ℕ)}
    (h : P ⊢ wp frame (wpE defs 𝒱 (c : Thread nD τ) bd) Set.univ p Q1) :
    P ⊢ iprop((∀ a, Q1 a -∗ wp frame (wpE defs 𝒱 (c : Thread nD τ) bd) Set.univ (k a) Q)
        -∗ wp frame (wpE defs 𝒱 (c : Thread nD τ) bd) Set.univ (p >>= k) Q) := by
  rw [wp_bind]
  exact h.trans (wp_wand _ _ _)

/-- A program proved on its own, at the end. -/
theorem seqEnd {p : Prog (TpuEff nD τ sig (Elt F) Λ .tc) α}
    {P : sProp (MT nD τ sig Unit (Elt F) ℕ (Pipeline.UD sig nD τ) ℕ)} {Q1 : α → sProp (MT nD τ sig Unit (Elt F) ℕ (Pipeline.UD sig nD τ) ℕ)}
    (h : P ⊢ wp frame (wpE defs 𝒱 (c : Thread nD τ) bd) Set.univ p Q1) :
    P ⊢ iprop((∀ a, Q1 a -∗ Q a) -∗ wp frame (wpE defs 𝒱 (c : Thread nD τ) bd) Set.univ p Q) :=
  h.trans (wp_wand _ _ _)

/-- The end of a program. -/
theorem ret_ok (a : α) : Q a ⊢ wp frame (wpE defs 𝒱 (c : Thread nD τ) bd) Set.univ (Prog.ret a) Q := by
  rw [wp_ret]
  iintro H
  imodintro
  iexact H

/-- A conditional whose branches are both proved. -/
theorem cond_both {C : Prop} {dec : Decidable C} {p : C → Prog (TpuEff nD τ sig (Elt F) Λ .tc) α} {q : ¬ C → Prog (TpuEff nD τ sig (Elt F) Λ .tc) α}
    {P : sProp (MT nD τ sig Unit (Elt F) ℕ (Pipeline.UD sig nD τ) ℕ)}
    (h1 : ∀ h, P ⊢ wp frame (wpE defs 𝒱 (c : Thread nD τ) bd) Set.univ (p h) Q)
    (h2 : ∀ h, P ⊢ wp frame (wpE defs 𝒱 (c : Thread nD τ) bd) Set.univ (q h) Q) :
    P ⊢ wp frame (wpE defs 𝒱 (c : Thread nD τ) bd) Set.univ (@dite _ C dec p q) Q := by
  by_cases h : C
  · rw [dif_pos h]; exact h1 h
  · rw [dif_neg h]; exact h2 h

/-- A counted loop, by an invariant. -/
theorem loop_ok {w : ℕ} (L : Scf.Loop w) (hok : L.OK) {σ : Type} (init : σ) (body : Fin L.trips → σ → Prog (TpuEff nD τ sig (Elt F) Λ .tc) σ)
    (I : ℕ → σ → sProp (MT nD τ sig Unit (Elt F) ℕ (Pipeline.UD sig nD τ) ℕ))
    (hbody : ∀ (k : Fin L.trips) (acc : σ), I k.val acc ⊢ wp frame (wpE defs 𝒱 (c : Thread nD τ) bd) Set.univ (body k acc) (I (k.val + 1))) :
    I 0 init ⊢ wp frame (wpE defs 𝒱 (c : Thread nD τ) bd) Set.univ (L.for hok init body) (I L.trips) := by
  iintro H
  iapply (Scf.wp_for frame (wpE defs 𝒱 (c : Thread nD τ) bd) Set.univ _ _ _ hok init body I hbody)
  isplitl [H]
  · iexact H
  · iintro %acc H
    iexact H

variable {cs : CoreSpace} {s : Shape} {e : EltTy} {m : Memref sig .tc cs s e}

/-- A load of elements held. -/
theorem held_load (A : Finset s.Idx) (P : s.Idx → Elt F e → Prop) {r : Rect s} (hr : r.set ⊆ A) {hl : m.view.LoadsAt r.toLoadRect}
    {k : (r.shape.Idx → Elt F e) → Prog (TpuEff nD τ sig (Elt F) Λ .tc) α} :
    (held c m A P : sProp (MT nD τ sig Unit (Elt F) ℕ (Pipeline.UD sig nD τ) ℕ))
      ⊢ iprop((∀ w, ⌜∀ y, P (r.emb y) (w y)⌝ -∗ held c m A P -∗ wp frame (wpE defs 𝒱 (c : Thread nD τ) bd) Set.univ (k w) Q)
        -∗ wp frame (wpE defs 𝒱 (c : Thread nD τ) bd) Set.univ (Prog.lift (.load m r.toLoadRect hl) >>= k) Q) := by
  iintro H Hk
  unfold held
  icases H with ⟨%g, %hg, H⟩
  iapply (wp_load (c := (c : Thread nD τ)) 𝒱 bd Set.univ (m := m) (hl := hl) (k := k) (f := g) (S := m.view.setOn A) (q := fullShare)
    (Finset.map_subset_map.mpr hr)) $$ H
  iintro H
  iapply Hk $$ %(m.view.readAt (Elt F) r.toLoadRect g)
  · ipureintro
    intro y
    rw [View.readAt_rect]
    exact hg _ (hr (emb_mem r y))
  · iexists g
    isplitr
    · ipureintro; exact hg
    · iexact H

/-- A store into elements held. -/
theorem held_store (A : Finset s.Idx) (P P' : s.Idx → Elt F e → Prop) {r : Rect s} (hr : r.set ⊆ A) {w : r.shape.Idx → Elt F e}
    {hx : (m.access r).Stores Finset.univ} {hm : Finset.univ = Finset.univ ∨ ∀ a, r.stride a = 1}
    (hw : ∀ y, P' (r.emb y) (w y)) (ho : ∀ x ∈ A, x ∉ r.set → ∀ v, P x v → P' x v)
    {k : PUnit → Prog (TpuEff nD τ sig (Elt F) Λ .tc) α} :
    (held c m A P : sProp (MT nD τ sig Unit (Elt F) ℕ (Pipeline.UD sig nD τ) ℕ))
      ⊢ iprop((held c m A P' -∗ wp frame (wpE defs 𝒱 (c : Thread nD τ) bd) Set.univ (k ⟨⟩) Q)
        -∗ wp frame (wpE defs 𝒱 (c : Thread nD τ) bd) Set.univ (Prog.lift (.store m r w Finset.univ hx hm) >>= k) Q) := by
  iintro H Hk
  unfold held
  icases H with ⟨%g, %hg, H⟩
  iapply (wp_store (c := (c : Thread nD τ)) 𝒱 bd Set.univ (m := m) (hx := hx) (hm := hm) (k := k) (f := g) (S := m.view.setOn A)
    (by
      intro x hx
      obtain ⟨y, -, rfl⟩ := Finset.mem_map.mp hx
      exact Finset.mem_map.mpr ⟨r.emb y, hr (emb_mem r y), rfl⟩)) $$ H
  iintro H
  iapply Hk
  iexists _
  isplitr
  rotate_left
  · iexact H
  · ipureintro
    intro x hxA
    rw [View.read_apply]
    by_cases hxr : x ∈ r.set
    · obtain ⟨y, -, rfl⟩ := Finset.mem_map.mp (show x ∈ Finset.univ.map r.emb by rw [Rect.map_emb_univ]; exact hxr)
      have := congrFun (View.read_write_univ (v := m.access r) (Val := Elt F) g w) y
      rw [View.read_apply] at this
      refine (congrArg (P' _) ?_).mpr (hw y)
      exact this
    · have h1 := View.read_slice_write_of_not_mem (v := m.view) (Val := Elt F) r g w Finset.univ (y := x) (by rw [Rect.map_emb_univ]; exact hxr)
      refine (congrArg (P' x) ?_).mpr (ho x hxA hxr _ (hg x hxA))
      exact h1

end

variable (e : Env nD τ sig F)

/-- The indices, loaded. -/
def Ids : sProp 𝕄 := iprop(∃ f, ⌜IdsAre e f⌝ ∗ (e.a7.view.loc (e.c : Thread nD τ) ↦[e.a7.view.set]{fullShare} f))

/-- The scales, loaded. -/
def Scs : sProp 𝕄 := iprop(∃ f, ⌜∀ x, e.a8.view.read (Elt F) f x = e.scales x⌝ ∗ (e.a8.view.loc (e.c : Thread nD τ) ↦[e.a8.view.set]{fullShare} f))

/-- The cell `j` of the semaphores of the first loads. -/
def semA (j : ℕ) (h : ∀ a, (![j] : Fin 1 → ℕ) a + (⟨1, ![1]⟩ : Shape).size a ≤ (⟨1, ![3]⟩ : Shape).size a) : DmaSem sig :=
  ((e.a16.slice (Rect.unit (s := ⟨1, ![3]⟩) ![j] (⟨1, ![1]⟩ : Shape).size h)).squeeze ⟨0, ![]⟩ (show (⟨1, ![1]⟩ : Shape).Squeezes ⟨0, ![]⟩ by decide)).sem

/-- What a step holds besides: the inputs in HBM, the gain as loaded, the semaphores of the first loads, and what of the table no
    transfer has. -/
def Base : sProp 𝕄 := iprop(
  (e.a1.view.loc (e.c : Thread nD τ) ↦[e.a1.view.set]{fullShare} e.X1)
  ∗ (e.a3.view.loc (e.c : Thread nD τ) ↦[e.a3.view.set]{fullShare} e.X3)
  ∗ (e.a4.view.loc (e.c : Thread nD τ) ↦[e.a4.view.set]{fullShare} e.X4)
  ∗ (∃ f, e.a9.view.loc (e.c : Thread nD τ) ↦[e.a9.view.set]{fullShare} f)
  ∗ semVal ((e.c : Thread nD τ), .dma (semA e 0 (by decide))) 0
  ∗ semVal ((e.c : Thread nD τ), .dma (semA e 1 (by decide))) 0
  ∗ semVal ((e.c : Thread nD τ), .dma (semA e 2 (by decide))) 0
  ∗ (e.a2.view.loc (e.c : Thread nD τ) ↦{Transfers.shareDrop fullShare 384} e.T))

/-- The ring of fetched blocks: blocks `lo, …, hi - 1` are on their way. -/
def In (lo hi : ℕ) : sProp 𝕄 := queue 24 lo hi (fun u s => Flying e u s 0) (Free e)

/-- Both results: blocks `lo, …, hi - 1` are on their way, those before are written. -/
def Outs (lo hi : ℕ) : sProp 𝕄 := iprop(Out e.c e.a12 e.a5 e.a18 e.QO lo hi ∗ Out e.c e.a13 e.a6 e.a19 e.QE lo hi)

/-- The shifts and scales of a step. -/
def Tmp (P : (⟨3, ![2, 8, 128]⟩ : Shape).Idx → Elt F .i32 → Prop) (P' : (⟨3, ![2, 8, 128]⟩ : Shape).Idx → Elt F .f32 → Prop) : sProp 𝕄 :=
  iprop(held e.c e.a14 Finset.univ P ∗ held e.c e.a15 Finset.univ P')

/-- What is held before the first step. -/
def Start : sProp 𝕄 := iprop(
  (∃ f, e.a7.view.loc (e.c : Thread nD τ) ↦[e.a7.view.set]{fullShare} f)
  ∗ (∃ f, e.a8.view.loc (e.c : Thread nD τ) ↦[e.a8.view.set]{fullShare} f)
  ∗ held e.c e.a10 Finset.univ anyP ∗ Base e ∗ Tmp e anyP anyP ∗ In e 0 0 ∗ Outs e 0 0)

/-- What is held once the inputs are loaded. -/
def Mid (lo p hi : ℕ) : sProp 𝕄 := iprop(
  Ids e ∗ Scs e ∗ held e.c e.a10 Finset.univ e.QG ∗ Base e ∗ Tmp e anyP anyP ∗ In e p hi ∗ Outs e lo p)

/-- The number of blocks written before step `p`. -/
def loAt (p : ℕ) : ℕ := if p = 128 then 128 else p - 8
/-- The number of blocks fetched before step `p`. -/
def hiAt (p : ℕ) : ℕ := if p < 104 then p + 24 else 128

/-- What is held before step `p`. -/
def St (p : ℕ) : sProp 𝕄 := if p = 0 then Start e else Mid e (loAt p) p (hiAt p)

end Cert.Hand
-- ==== Proof.KFetch.lean ====
module

public import proofs.«01_k».proof.Proof.Gen.Kernel.Skeleton
public import proofs.«01_k».proof.Proof.Gen.Kernel.Loops
public import proofs.«01_k».proof.Proof.Gen.Kernel.Frame
public import proofs.«01_k».proof.Proof.Steps
public import Idealize.ShloMosaic.Lib.Exec
public import Idealize.ShloMosaic.Lib.Tactic
public import Idealize.ShloMosaic.Lib.VecWindow

/-!
# The block 24 steps ahead is fetched
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- The guards, as conditions on the step. -/
theorem cond1_iff : ∀ i : grid0.Coords, k0_cond1 i = 1#1 ↔ (i 0).val = 0 := by decide +kernel
theorem cond2_iff : ∀ i : grid0.Coords, k0_cond2 i = 1#1 ↔ 8 ≤ (i 0).val := by decide +kernel
theorem cond3_iff : ∀ i : grid0.Coords, k0_cond3 i = 1#1 ↔ (i 0).val < 104 := by decide +kernel

/-- The fetch of the block 24 steps ahead. -/
def fetch (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 : BitVec 32) (k0_h3 : k0_cond3 i = 1#1) {α : Type} (k : Prog (TpuEff nD τ sig (Elt F) Λ₀ .tc) α) : Prog (TpuEff nD τ sig (Elt F) Λ₀ .tc) α := do
  let ⟨v342, v366, k0_hw35⟩ : Σ' (v342 : BitVec 32) (v366 : Elt F .i32), k0_chk35 i v366 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 k0_h3
  let ⟨v396, k0_hw38⟩ : Σ' (v396 : Elt F .i32), k0_chk38 i v396 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v366 k0_hw35
  let ⟨v426, k0_hw41⟩ : Σ' (v426 : Elt F .i32), k0_chk41 i v426 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v396 k0_hw38
  let ⟨v456, k0_hw44⟩ : Σ' (v456 : Elt F .i32), k0_chk44 i v456 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v426 k0_hw41
  let ⟨v486, k0_hw47⟩ : Σ' (v486 : Elt F .i32), k0_chk47 i v486 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v456 k0_hw44
  let v492 : Memref sig .tc .hbm S1x8192 .i32 := arg2.slice (Rect.unit (s := S8128x8192) (k0_off170 v486) S1x8192.size (k0_off170_inb i v486 k0_hw47 k0_h3)) (fun _ => rfl)
  let v488 : DmaSems sig S1 := arg17.slice (Rect.unit (s := S24) (k0_off168 i) S1.size (k0_off168_inb i k0_h3))
  let v489 : DmaSems sig S_ := v488.squeeze S_ squeezes_S1_S_
  let v490 : Memref sig .tc .vmem S1x1x1x8192 .i32 := arg11.slice (Rect.unit (s := S24x2x8x8192) (k0_off169 i) S1x1x1x8192.size (k0_off169_inb i k0_h3)) (fun _ => rfl)
  let v491 : Memref sig .tc .vmem S1x8192 .i32 := v490.squeeze S1x8192 squeezes_S1x1x1x8192_S1x8192
  Prog.lift (.enqueueDma v492 (.here v491) (.dma v489.sem) (View.wordExact_bits rfl) ((View.wordExact_bits rfl).reshape _ _) ⟨Or.inl rfl, trivial⟩)
  let v496 : Elt F .i32 ← smemLoad arg7 (Rect.unit (s := S1x2048) (k0_off171 i) S1x1.size (k0_off171_inb i k0_h3)) numel1_S1x1 rfl
  have k0_hw48 : k0_chk48 i v496 := (← Prog.lift (TpuEff.assume (k0_chk48 i v496) (k0_chk48.dec i v496))).down
  let v498 : DmaSems sig S1 := arg17.slice (Rect.unit (s := S24) (k0_off172 i) S1.size (k0_off172_inb i k0_h3))
  let v499 : DmaSems sig S_ := v498.squeeze S_ squeezes_S1_S_
  let v500 : Memref sig .tc .vmem S1x1x1x8192 .i32 := arg11.slice (Rect.unit (s := S24x2x8x8192) (k0_off173 i) S1x1x1x8192.size (k0_off173_inb i k0_h3)) (fun _ => rfl)
  let v501 : Memref sig .tc .vmem S1x8192 .i32 := v500.squeeze S1x8192 squeezes_S1x1x1x8192_S1x8192
  let v502 : Memref sig .tc .hbm S1x8192 .i32 := arg2.slice (Rect.unit (s := S8128x8192) (k0_off174 v496) S1x8192.size (k0_off174_inb i v496 k0_hw48 k0_h3)) (fun _ => rfl)
  Prog.lift (.enqueueDma v502 (.here v501) (.dma v499.sem) (View.wordExact_bits rfl) ((View.wordExact_bits rfl).reshape _ _) ⟨Or.inl rfl, trivial⟩)
  k

/-- It puts the block in flight. -/
theorem fetch_ok (e : Env nD τ sig F) (𝒱 : Variants) (bd : Option 𝒱.V) (i : grid0.Coords) (arg0 : BitVec 32) (h3 : k0_cond3 i = 1#1) {α : Type}
    (k : Prog (TpuEff nD τ sig (Elt F) Λ₀ .tc) α) {Q : α → sProp 𝕄G}
    {f : Buf (Elt F) (e.a7.view.loc (e.c : Thread nD τ))} (hf : IdsAre e f) :
    (iprop((e.a7.view.loc (e.c : Thread nD τ) ↦[e.a7.view.set]{fullShare} f) ∗ Fetching e ((i 0).val + 24) (((i 0).val + 24) % 24) 0) : sProp 𝕄G)
      ⊢ iprop((iprop((e.a7.view.loc (e.c : Thread nD τ) ↦[e.a7.view.set]{fullShare} f) ∗ Flying e ((i 0).val + 24) (((i 0).val + 24) % 24) 0) -∗
            wp frame (wpE (defs₀ (F := F)) 𝒱 (e.c : Thread nD τ) bd) Set.univ k Q)
        -∗ wp frame (wpE (defs₀ (F := F)) 𝒱 (e.c : Thread nD τ) bd) Set.univ (fetch (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 h3 k) Q) := by
  have hi := (cond3_iff i).mp h3
  unfold fetch
  iintro ⟨HX, HF⟩ Hk
  sl_exec (disch := exact fun _ => chk_of _ (hf.lt _))
  iapply (issue_row e 𝒱 bd ((i 0).val + 24) (((i 0).val + 24) % 24) 0 (by decide) ((k0_off113_eq i).trans (by simp))
    (hf.off (n := 16 * ((i 0).val + 24) + 0) (by omega) ((k0_off111_eq i).trans (by congr 2)) _ rfl) ((k0_off112_eq i).trans (by simp))) $$ HF
  iintro HF
  sl_exec (disch := exact fun _ => chk_of _ (hf.lt _))
  iapply (issue_row e 𝒱 bd ((i 0).val + 24) (((i 0).val + 24) % 24) 1 (by decide) ((k0_off117_eq i).trans (by simp))
    (hf.off (n := 16 * ((i 0).val + 24) + 1) (by omega) ((k0_off115_eq i).trans (by congr 2)) _ rfl) ((k0_off116_eq i).trans (by simp))) $$ HF
  iintro HF
  sl_exec (disch := exact fun _ => chk_of _ (hf.lt _))
  iapply (issue_row e 𝒱 bd ((i 0).val + 24) (((i 0).val + 24) % 24) 2 (by decide) ((k0_off121_eq i).trans (by simp))
    (hf.off (n := 16 * ((i 0).val + 24) + 2) (by omega) ((k0_off119_eq i).trans (by congr 2)) _ rfl) ((k0_off120_eq i).trans (by simp))) $$ HF
  iintro HF
  sl_exec (disch := exact fun _ => chk_of _ (hf.lt _))
  iapply (issue_row e 𝒱 bd ((i 0).val + 24) (((i 0).val + 24) % 24) 3 (by decide) ((k0_off125_eq i).trans (by simp))
    (hf.off (n := 16 * ((i 0).val + 24) + 3) (by omega) ((k0_off123_eq i).trans (by congr 2)) _ rfl) ((k0_off124_eq i).trans (by simp))) $$ HF
  iintro HF
  sl_exec (disch := exact fun _ => chk_of _ (hf.lt _))
  iapply (issue_row e 𝒱 bd ((i 0).val + 24) (((i 0).val + 24) % 24) 4 (by decide) ((k0_off129_eq i).trans (by simp))
    (hf.off (n := 16 * ((i 0).val + 24) + 4) (by omega) ((k0_off127_eq i).trans (by congr 2)) _ rfl) ((k0_off128_eq i).trans (by simp))) $$ HF
  iintro HF
  sl_exec (disch := exact fun _ => chk_of _ (hf.lt _))
  iapply (issue_row e 𝒱 bd ((i 0).val + 24) (((i 0).val + 24) % 24) 5 (by decide) ((k0_off133_eq i).trans (by simp))
    (hf.off (n := 16 * ((i 0).val + 24) + 5) (by omega) ((k0_off131_eq i).trans (by congr 2)) _ rfl) ((k0_off132_eq i).trans (by simp))) $$ HF
  iintro HF
  sl_exec (disch := exact fun _ => chk_of _ (hf.lt _))
  iapply (issue_row e 𝒱 bd ((i 0).val + 24) (((i 0).val + 24) % 24) 6 (by decide) ((k0_off137_eq i).trans (by simp))
    (hf.off (n := 16 * ((i 0).val + 24) + 6) (by omega) ((k0_off135_eq i).trans (by congr 2)) _ rfl) ((k0_off136_eq i).trans (by simp))) $$ HF
  iintro HF
  sl_exec (disch := exact fun _ => chk_of _ (hf.lt _))
  iapply (issue_row e 𝒱 bd ((i 0).val + 24) (((i 0).val + 24) % 24) 7 (by decide) ((k0_off141_eq i).trans (by simp))
    (hf.off (n := 16 * ((i 0).val + 24) + 7) (by omega) ((k0_off139_eq i).trans (by congr 2)) _ rfl) ((k0_off140_eq i).trans (by simp))) $$ HF
  iintro HF
  sl_exec (disch := exact fun _ => chk_of _ (hf.lt _))
  iapply (issue_row e 𝒱 bd ((i 0).val + 24) (((i 0).val + 24) % 24) 8 (by decide) ((k0_off145_eq i).trans (by simp))
    (hf.off (n := 16 * ((i 0).val + 24) + 8) (by omega) ((k0_off143_eq i).trans (by congr 2)) _ rfl) ((k0_off144_eq i).trans (by simp))) $$ HF
  iintro HF
  sl_exec (disch := exact fun _ => chk_of _ (hf.lt _))
  iapply (issue_row e 𝒱 bd ((i 0).val + 24) (((i 0).val + 24) % 24) 9 (by decide) ((k0_off149_eq i).trans (by simp))
    (hf.off (n := 16 * ((i 0).val + 24) + 9) (by omega) ((k0_off147_eq i).trans (by congr 2)) _ rfl) ((k0_off148_eq i).trans (by simp))) $$ HF
  iintro HF
  sl_exec (disch := exact fun _ => chk_of _ (hf.lt _))
  iapply (issue_row e 𝒱 bd ((i 0).val + 24) (((i 0).val + 24) % 24) 10 (by decide) ((k0_off153_eq i).trans (by simp))
    (hf.off (n := 16 * ((i 0).val + 24) + 10) (by omega) ((k0_off151_eq i).trans (by congr 2)) _ rfl) ((k0_off152_eq i).trans (by simp))) $$ HF
  iintro HF
  sl_exec (disch := exact fun _ => chk_of _ (hf.lt _))
  iapply (issue_row e 𝒱 bd ((i 0).val + 24) (((i 0).val + 24) % 24) 11 (by decide) ((k0_off157_eq i).trans (by simp))
    (hf.off (n := 16 * ((i 0).val + 24) + 11) (by omega) ((k0_off155_eq i).trans (by congr 2)) _ rfl) ((k0_off156_eq i).trans (by simp))) $$ HF
  iintro HF
  sl_exec (disch := exact fun _ => chk_of _ (hf.lt _))
  iapply (issue_row e 𝒱 bd ((i 0).val + 24) (((i 0).val + 24) % 24) 12 (by decide) ((k0_off161_eq i).trans (by simp))
    (hf.off (n := 16 * ((i 0).val + 24) + 12) (by omega) ((k0_off159_eq i).trans (by congr 2)) _ rfl) ((k0_off160_eq i).trans (by simp))) $$ HF
  iintro HF
  sl_exec (disch := exact fun _ => chk_of _ (hf.lt _))
  iapply (issue_row e 𝒱 bd ((i 0).val + 24) (((i 0).val + 24) % 24) 13 (by decide) ((k0_off165_eq i).trans (by simp))
    (hf.off (n := 16 * ((i 0).val + 24) + 13) (by omega) ((k0_off163_eq i).trans (by congr 2)) _ rfl) ((k0_off164_eq i).trans (by simp))) $$ HF
  iintro HF
  sl_exec (disch := exact fun _ => chk_of _ (hf.lt _))
  iapply (issue_row e 𝒱 bd ((i 0).val + 24) (((i 0).val + 24) % 24) 14 (by decide) ((k0_off169_eq i).trans (by simp))
    (hf.off (n := 16 * ((i 0).val + 24) + 14) (by omega) ((k0_off167_eq i).trans (by congr 2)) _ rfl) ((k0_off168_eq i).trans (by simp))) $$ HF
  iintro HF
  sl_exec (disch := exact fun _ => chk_of _ (hf.lt _))
  iapply (issue_row e 𝒱 bd ((i 0).val + 24) (((i 0).val + 24) % 24) 15 (by decide) ((k0_off173_eq i).trans (by simp))
    (hf.off (n := 16 * ((i 0).val + 24) + 15) (by omega) ((k0_off171_eq i).trans (by congr 2)) _ rfl) ((k0_off172_eq i).trans (by simp))) $$ HF
  iintro HF
  iapply Hk
  isplitl [HX]
  · iexact HX
  · iapply (fetch_end e ((i 0).val + 24) (((i 0).val + 24) % 24)) $$ HF

end Cert.Kernel.Hand
-- ==== Proof.KInit.lean ====
module

public import proofs.«01_k».proof.Proof.Gen.Kernel.Skeleton
public import proofs.«01_k».proof.Proof.Gen.Kernel.Loops
public import proofs.«01_k».proof.Proof.Gen.Kernel.Frame
public import proofs.«01_k».proof.Proof.KPrime
public import proofs.«01_k».proof.Proof.KFetch
public import proofs.«01_k».proof.Proof.Queue
public import Idealize.ShloMosaic.Lib.Exec
public import Idealize.ShloMosaic.Lib.Tactic
public import Idealize.ShloMosaic.Lib.VecWindow

/-!
# The first step loads the inputs
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- The first step's loads. -/
def init (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (k0_h1 : k0_cond1 i = 1#1) {α : Type} (k : Prog (TpuEff nD τ sig (Elt F) Λ₀ .tc) α) : Prog (TpuEff nD τ sig (Elt F) Λ₀ .tc) α := do
  let v342 : DmaSems sig S1 := arg16.slice (Rect.unit (s := S3) ![0] S1.size inb_S3_S1_0)
  let v343 : DmaSems sig S_ := v342.squeeze S_ squeezes_S1_S_
  Prog.lift (.enqueueDma arg1 (.here arg7) (.dma v343.sem) harg1.wordExact harg7.wordExact ⟨Or.inl rfl, trivial⟩)
  let v344 : DmaSems sig S1 := arg16.slice (Rect.unit (s := S3) ![1] S1.size inb_S3_S1_1)
  let v345 : DmaSems sig S_ := v344.squeeze S_ squeezes_S1_S_
  Prog.lift (.enqueueDma arg3 (.here arg8) (.dma v345.sem) harg3.wordExact harg8.wordExact ⟨Or.inl rfl, trivial⟩)
  let v346 : DmaSems sig S1 := arg16.slice (Rect.unit (s := S3) ![2] S1.size inb_S3_S1_2)
  let v347 : DmaSems sig S_ := v346.squeeze S_ squeezes_S1_S_
  Prog.lift (.enqueueDma arg4 (.here arg9) (.dma v347.sem) harg4.wordExact harg9.wordExact ⟨Or.inl rfl, trivial⟩)
  let v348 : DmaSems sig S1 := arg16.slice (Rect.unit (s := S3) ![0] S1.size inb_S3_S1_0)
  let v349 : DmaSems sig S_ := v348.squeeze S_ squeezes_S1_S_
  Prog.lift (.waitDma2 v349.sem arg1 arg7 harg1.wordExact harg7.wordExact)
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h1)
  let v351 : DmaSems sig S1 := arg16.slice (Rect.unit (s := S3) ![1] S1.size inb_S3_S1_1)
  let v352 : DmaSems sig S_ := v351.squeeze S_ squeezes_S1_S_
  Prog.lift (.waitDma2 v352.sem arg3 arg8 harg3.wordExact harg8.wordExact)
  let v353 : DmaSems sig S1 := arg16.slice (Rect.unit (s := S3) ![2] S1.size inb_S3_S1_2)
  let v354 : DmaSems sig S_ := v353.squeeze S_ squeezes_S1_S_
  Prog.lift (.waitDma2 v354.sem arg4 arg9 harg4.wordExact harg9.wordExact)
  let v355 : Vec F S1x8192 .bf16 ← Prog.lift (.load arg9 (Rect.unit (s := S1x8192) ![0, 0] S1x8192.size inb_S1x8192_S1x8192_0_0).toLoadRect (View.loadsAt_vmem h_S1x8192))
  let v359 : Vec F S8x8192 .f32 ← Prog.lift (.load arg10 (Rect.unit (s := S8x8192) ![0, 0] S8x8192.size inb_S8x8192_S8x8192_0_0).toLoadRect (View.loadsAt_vmem h_S8x8192))
  Prog.lift (.store arg10 (Rect.unit (s := S8x8192) ![0, 0] S8x8192.size inb_S8x8192_S8x8192_0_0) (k0_pay110 v355) Finset.univ (View.stores_vmem_bits_univ h_S8x8192 rfl) (.inl rfl))
  k

/-- One trip of the loop that fetches the first blocks. -/
theorem trip (e : Env nD τ sig F) (𝒱 : Variants) (bd : Option 𝒱.V) (i : grid0.Coords) (h1 : k0_cond1 i = 1#1)
    {f : Buf (Elt F) (e.a7.view.loc (e.c : Thread nD τ))} (hf : IdsAre e f) (k : Fin k0_t1_loop.trips) (acc : PUnit) :
    (iprop((e.a7.view.loc (e.c : Thread nD τ) ↦[e.a7.view.set]{fullShare} f) ∗ In e 0 k.val) : sProp 𝕄G)
      ⊢ wp frame (wpE (defs₀ (F := F)) 𝒱 (e.c : Thread nD τ) bd) Set.univ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k acc)
          (fun _ => iprop((e.a7.view.loc (e.c : Thread nD τ) ↦[e.a7.view.set]{fullShare} f) ∗ In e 0 (k.val + 1))) := by
  have hk : k.val < 24 := Nat.lt_of_lt_of_le k.isLt k0_t1_abs.2.1
  iintro ⟨H7, HIn⟩
  unfold In
  ihave HIn := (queue_put (fun u s => Flying e u s 0) (Free e) (by decide) (Nat.zero_le k.val) (by omega)) $$ HIn
  icases HIn with ⟨HF, Hk⟩
  rw [Nat.mod_eq_of_lt hk]
  iapply Idealize.SL.Sem.fupd_wp
  imod (fetch_start e k.val k.val) $$ HF with HF
  imodintro
  iapply (seqEnd (defs := defs₀ (F := F)) 𝒱 e.c bd (prime_trip e 𝒱 bd i h1 hf k acc)) $$ [H7 HF]
  · isplitl [H7]
    · iexact H7
    · iexact HF
  iintro %a ⟨H7, HF⟩
  isplitl [H7]
  · iexact H7
  · iapply Hk $$ HF

/-- They load the inputs and fetch the first 24 blocks. -/
theorem init_ok (e : Env nD τ sig F) (𝒱 : Variants) (bd : Option 𝒱.V) (i : grid0.Coords) (h1 : k0_cond1 i = 1#1)
    (hQG : ∀ w : Vec F S1x8192 .bf16, (∀ y, w y = e.a4.view.read (Elt F) e.X4 y) → ∀ y, e.QG y (k0_pay110 w y)) {α : Type}
    (k : Prog (TpuEff nD τ sig (Elt F) Λ₀ .tc) α) {Q : α → sProp 𝕄G} :
    (iprop(Start e ∗ ∃ W, owes (e.c : Thread nD τ) 0 W) : sProp 𝕄G)
      ⊢ iprop((iprop(Mid e 0 0 24 ∗ ∃ W, owes (e.c : Thread nD τ) 0 W) -∗
            wp frame (wpE (defs₀ (F := F)) 𝒱 (e.c : Thread nD τ) bd) Set.univ k Q)
        -∗ wp frame (wpE (defs₀ (F := F)) 𝒱 (e.c : Thread nD τ) bd) Set.univ (init (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k) Q) := by
  unfold init Start Base semA Tmp
  iintro ⟨⟨⟨%f7, H7⟩, ⟨%f8, H8⟩, H10, ⟨H1, H3, H4, ⟨%f9, H9⟩, Hs0, Hs1, Hs2, HT⟩, ⟨H14, H15⟩, HIn, HOut⟩, ⟨%W, HO⟩⟩ Hk
  sl_exec
  have hf7 := View.read_writes_whole (Val := Elt F) e.a7.view e.a7.view.junk (init_ok.sl.dma0 e)
  generalize View.writes _ _ _ _ = f7' at hf7 ⊢
  have hf : IdsAre e f7' := fun x => (congrFun hf7 x).trans (e.hX1 x)
  iapply (seq 𝒱 e.c bd (loop_ok (defs := defs₀ (F := F)) 𝒱 e.c bd k0_t1_loop (k0_t1_ok i h1) ⟨⟩ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1)
    (fun k _ => iprop((e.a7.view.loc (e.c : Thread nD τ) ↦[e.a7.view.set]{fullShare} f7') ∗ In e 0 k)) (trip e 𝒱 bd i h1 hf))) $$ [H7 HIn]
  · isplitl [H7]
    · iexact H7
    · iexact HIn
  iintro %u ⟨H7, HIn⟩
  sl_exec
  generalize hW8 : e.a8.view.writes (Elt F) _ _ = f8'
  have hf8 : ∀ x, e.a8.view.read (Elt F) f8' x = e.scales x := fun x => by
    rw [← hW8]
    exact (congrFun (View.read_writes_whole (Val := Elt F) e.a8.view _ _) x).trans (e.hX3 x)
  iapply (held_load (defs := defs₀ (F := F)) 𝒱 e.c bd Finset.univ anyP (Finset.subset_univ _)) $$ H10
  iintro %w10 %h10 H10
  iapply (held_store (defs := defs₀ (F := F)) 𝒱 e.c bd Finset.univ anyP e.QG (Finset.subset_univ _) (fun y => ?_) (fun x _ hx v _ => ?_)) $$ H10
  · rw [whole2]
    refine hQG _ (fun y => ?_) y
    refine (congrFun (View.readAt_full (Val := Elt F) e.a9.view _ inb_S1x8192_S1x8192_0_0) y).trans ?_
    exact congrFun (View.read_writes_whole (Val := Elt F) e.a9.view _ _) y
  · refine (hx ?_).elim
    rw [← whole2 x (h := inb_S8x8192_S8x8192_0_0)]
    exact emb_mem _ _
  iintro H10
  iapply Hk
  unfold Mid Base Tmp semA
  isplitr [HO]
  · isplitl [H7]
    · unfold Ids
      iexists f7'
      isplitr
      · ipureintro
        exact hf
      · iexact H7
    isplitl [H8]
    · unfold Scs
      iexists f8'
      isplitr
      · ipureintro
        exact hf8
      · iexact H8
    isplitl [H10]
    · iexact H10
    isplitl [H1 H3 H4 H9 Hs0 Hs1 Hs2 HT]
    · iframe
      iexists _
      iexact H9
    isplitl [H14 H15]
    · iframe
    · rw [show k0_t1_loop.trips = 24 by decide]
      iframe
  · iexists _
    iexact HO

end Cert.Kernel.Hand
-- ==== Proof.KDrain.lean ====
module

public import proofs.«01_k».proof.Proof.Gen.Kernel.Skeleton
public import proofs.«01_k».proof.Proof.Gen.Kernel.Loops
public import proofs.«01_k».proof.Proof.Gen.Kernel.Frame
public import proofs.«01_k».proof.Proof.Steps
public import Idealize.ShloMosaic.Lib.Exec
public import Idealize.ShloMosaic.Lib.Tactic
public import Idealize.ShloMosaic.Lib.VecWindow

/-!
# The last step waits for the results
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- The waits that the last step ends with. -/
def drain (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) {α : Type} (k : Prog (TpuEff nD τ sig (Elt F) Λ₀ .tc) α) : Prog (TpuEff nD τ sig (Elt F) Λ₀ .tc) α := do
  k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  let v417 : DmaSems sig S1 := arg19.slice (Rect.unit (s := S8) ![7] S1.size inb_S8_S1_7)
  let v418 : DmaSems sig S_ := v417.squeeze S_ squeezes_S1_S_
  let v419 : Memref sig .tc .hbm S16x8192 .bf16 := arg6.slice (Rect.unit (s := S2048x8192) ![112, 0] S16x8192.size inb_S2048x8192_S16x8192_112_0) (fun _ => rfl)
  let v420 : Memref sig .tc .vmem S1x16x8192 .bf16 := arg13.slice (Rect.unit (s := S8x16x8192) ![7, 0, 0] S1x16x8192.size inb_S8x16x8192_S1x16x8192_7_0_0) (fun _ => rfl)
  let v421 : Memref sig .tc .vmem S16x8192 .bf16 := v420.squeeze S16x8192 squeezes_S1x16x8192_S16x8192
  Prog.lift (.waitDma2 v418.sem v421 v419 ((harg13.wordExact_slice rfl _ wordsbf16_S8x16x8192_S1x16x8192_7_0_0).reshape _ _) (harg6.wordExact_slice rfl _ wordsbf16_S2048x8192_S16x8192_112_0))
  k

/-- They bring the last eight blocks of both results home. -/
theorem drain_ok (e : Env nD τ sig F) (𝒱 : Variants) (bd : Option 𝒱.V) (i : grid0.Coords)
    (hNHA : 0 < NO e.a5) (hNHB : 0 < NO e.a6) {α : Type}
    (k : Prog (TpuEff nD τ sig (Elt F) Λ₀ .tc) α) {Q : α → sProp 𝕄G} :
    (iprop(Outs e 120 128 ∗ ∃ W, owes (e.c : Thread nD τ) 0 W) : sProp 𝕄G)
      ⊢ iprop((iprop(Outs e 128 128 ∗ ∃ W, owes (e.c : Thread nD τ) 0 W) -∗
            wp frame (wpE (defs₀ (F := F)) 𝒱 (e.c : Thread nD τ) bd) Set.univ k Q)
        -∗ wp frame (wpE (defs₀ (F := F)) 𝒱 (e.c : Thread nD τ) bd) Set.univ (drain (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 k) Q) := by
  unfold drain Outs
  iintro ⟨⟨HA, HB⟩, HO⟩ Hk
  rw [k0_part36_eq_skeleton, k0_part37_eq_skeleton, k0_part38_eq_skeleton]
  unfold k0_part36_skel k0_part37_skel k0_part38_skel
  simp only [Prog.bind_assoc]
  try sl_exec
  iapply (out_wait (defs := defs₀ (F := F)) e.c e.a12 e.a5 e.a18 e.QO 𝒱 bd 120 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 120 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 121 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 121 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 122 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 122 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 123 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 123 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 124 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 124 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 125 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 125 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 126 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 126 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 127 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 127 128 (by decide) (by decide) (by decide) hNHB rfl (W := ∅)) $$ [HB HO]
  · isplitl [HB]
    · iexact HB
    · iexact HO
  iintro ⟨HB, HO⟩
  iapply Hk
  iframe

end Cert.Kernel.Hand
-- ==== Proof.Pass.lean ====
module

public import proofs.«01_k».proof.Proof.Steps

/-!
# Filling a scratch array piece by piece

The shifts and scales of a step are stored token by token, the results column by column. Each store makes a predicate true of one
more token, or of one more group of columns.
-/

@[expose] public section

set_option maxRecDepth 8192
set_option maxHeartbeats 400000

noncomputable section

namespace Cert.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type}

/-- The token a place of the shifts and scales belongs to. -/
def tok (x : (⟨3, ![2, 8, 128]⟩ : Shape).Idx) : ℕ := 2 * (x 1).val + (x 0).val

theorem tok_lt (x : (⟨3, ![2, 8, 128]⟩ : Shape).Idx) : tok x < 16 := by
  have h0 : (x 0).val < 2 := (x 0).isLt
  have h1 : (x 1).val < 8 := (x 1).isLt
  unfold tok
  omega

/-- A predicate, of the tokens below `t`. -/
def upTo {α : Type} (t : ℕ) (Q : (⟨3, ![2, 8, 128]⟩ : Shape).Idx → α → Prop) : (⟨3, ![2, 8, 128]⟩ : Shape).Idx → α → Prop :=
  fun x v => tok x < t → Q x v

/-- A predicate, of the columns below `n`. -/
def cols {α : Type} (n : ℕ) (Q : (⟨3, ![8, 16, 8192]⟩ : Shape).Idx → α → Prop) : (⟨3, ![8, 16, 8192]⟩ : Shape).Idx → α → Prop :=
  fun x v => (x 2).val < n → Q x v

/-- The shift that brings the byte of index `w` to the top of its word. -/
def shiftOf (w : BitVec 32) : BitVec 32 := Scalar.subi 24#32 (Scalar.muli 8#32 (Scalar.andi w 3#32))

/-- The index of token `t` of block `p`. -/
def idAt (e : Env nD τ sig F) (p t : ℕ) : BitVec 32 := e.ids (ix2 0 ⟨(16 * p + t) % 2048, Nat.mod_lt _ (by decide)⟩)

/-- The shifts of block `p` -/
def shiftQ (e : Env nD τ sig F) (p : ℕ) : (⟨3, ![2, 8, 128]⟩ : Shape).Idx → Elt F .i32 → Prop := fun x v => v = shiftOf (idAt e p (tok x))
/-- and its scales. -/
def scaleQ (e : Env nD τ sig F) (p : ℕ) : (⟨3, ![2, 8, 128]⟩ : Shape).Idx → Elt F .f32 → Prop := fun x v =>
  v = e.scales (ix1 ⟨(idAt e p (tok x)).toNat % 32512, Nat.mod_lt _ (by decide)⟩)

section
variable {Λ : Labels} {defs : Defs nD τ sig (Elt F) Λ} (𝒱 : Variants) (c : Dev nD) (bd : Option 𝒱.V) {α : Type}
  {Q : α → sProp (MT nD τ sig Unit (Elt F) ℕ (Pipeline.UD sig nD τ) ℕ)} {cs : CoreSpace} {e : EltTy}

/-- The word stored for token `t` is its shift, -/
theorem shift_row {e : Env nD τ sig F} {p t : ℕ} {v : BitVec 32} (hv : v = e.ids (ix2 0 ⟨(16 * p + t) % 2048, Nat.mod_lt _ (by decide)⟩))
    (w : (⟨3, ![1, 1, 128]⟩ : Shape).Idx → BitVec 32) (hw : ∀ y, w y = shiftOf v) (x : (⟨3, ![2, 8, 128]⟩ : Shape).Idx)
    (y : (⟨3, ![1, 1, 128]⟩ : Shape).Idx) (hx : tok x = t) : shiftQ e p x (w y) := by
  unfold shiftQ idAt
  rw [hx, hw y, hv]

/-- and the scale its scale. -/
theorem scale_row {e : Env nD τ sig F} {p t : ℕ} {v : BitVec 32} (hv : v = e.ids (ix2 0 ⟨(16 * p + t) % 2048, Nat.mod_lt _ (by decide)⟩))
    {f : Buf (Elt F) (e.a8.view.loc (e.c : Thread nD τ))} (hg : ∀ x, e.a8.view.read (Elt F) f x = e.scales x)
    (w : (⟨3, ![1, 1, 128]⟩ : Shape).Idx → Elt F .f32) {off : Fin 1 → ℕ}
    {inb : ∀ a, off a + (![1] : Fin 1 → ℕ) a ≤ (⟨1, ![32512]⟩ : Shape).size a} (hoff : off = ![v.toNat]) {x0}
    (hw : ∀ y, w y = e.a8.view.readAt (Elt F) (Rect.unit (s := ⟨1, ![32512]⟩) off ![1] inb).toLoadRect f x0) (x : (⟨3, ![2, 8, 128]⟩ : Shape).Idx)
    (y : (⟨3, ![1, 1, 128]⟩ : Shape).Idx) (hx : tok x = t) : scaleQ e p x (w y) := by
  subst hx
  have hv' : idAt e p (tok x) = v := hv.symm
  unfold scaleQ
  subst hoff
  have hlt := inb 0
  rw [hw y, View.readAt_rect]
  refine Eq.trans (hg ((Rect.unit (s := ⟨1, ![32512]⟩) ![v.toNat] ![1] inb).emb x0)) ?_
  congr 1
  funext a
  apply Fin.ext
  fin_cases a
  have h0 := (x0 0).isLt
  simp at h0 hlt
  show v.toNat + 1 * (x0 0).val = (idAt e p (tok x)).toNat % 32512
  rw [hv']
  omega

/-- The store of one token's shift or scale. -/
theorem row_store {m : Memref sig .tc cs ⟨3, ![2, 8, 128]⟩ e} (t h r : ℕ) (ht : t = 2 * r + h) (hh : h < 2) (P : (⟨3, ![2, 8, 128]⟩ : Shape).Idx → Elt F e → Prop)
    {inb : ∀ a, (![h, r, 0] : Fin 3 → ℕ) a + (![1, 1, 128] : Fin 3 → ℕ) a ≤ (⟨3, ![2, 8, 128]⟩ : Shape).size a}
    {w : (⟨3, ![1, 1, 128]⟩ : Shape).Idx → Elt F e}
    {hx : (m.access (Rect.unit (s := ⟨3, ![2, 8, 128]⟩) ![h, r, 0] ![1, 1, 128] inb)).Stores Finset.univ}
    {hm : Finset.univ = Finset.univ ∨ ∀ a, (Rect.unit (s := ⟨3, ![2, 8, 128]⟩) ![h, r, 0] ![1, 1, 128] inb).stride a = 1}
    (hw : ∀ x y, tok x = t → P x (w y))
    {k : PUnit → Prog (TpuEff nD τ sig (Elt F) Λ .tc) α} :
    (held c m Finset.univ (upTo t P) : sProp (MT nD τ sig Unit (Elt F) ℕ (Pipeline.UD sig nD τ) ℕ))
      ⊢ iprop((held c m Finset.univ (upTo (t + 1) P) -∗ wp frame (wpE defs 𝒱 (c : Thread nD τ) bd) Set.univ (k ⟨⟩) Q)
        -∗ wp frame (wpE defs 𝒱 (c : Thread nD τ) bd) Set.univ (Prog.lift (.store m (Rect.unit (s := ⟨3, ![2, 8, 128]⟩) ![h, r, 0] ![1, 1, 128] inb) w Finset.univ hx hm) >>= k) Q) := by
  refine held_store 𝒱 c bd Finset.univ _ _ (Finset.subset_univ _) (fun y _ => hw _ _ ?_) (fun x _ hx v hv hlt => ?_)
  · have h0 := (y 0).isLt
    have h1 := (y 1).isLt
    simp at h0 h1
    unfold tok
    simp [Rect.emb_apply, h0, h1, ht]
  · by_cases hlt' : tok x < t
    · exact hv hlt'
    · exfalso
      apply hx
      rw [Rect.mem_set_unit]
      have h0 : (x 0).val < 2 := (x 0).isLt
      have h2 : (x 2).val < 128 := (x 2).isLt
      unfold tok at hlt hlt'
      intro a
      fin_cases a <;> simp <;> omega

/-- The store of a group of 128 columns of slot `o`. -/
theorem col_store {m : Memref sig .tc cs ⟨3, ![8, 16, 8192]⟩ e} {A : Finset (⟨3, ![8, 16, 8192]⟩ : Shape).Idx} (o n : ℕ)
    (hA : ∀ x, x ∈ A ↔ (x 0).val = o) (P : (⟨3, ![8, 16, 8192]⟩ : Shape).Idx → Elt F e → Prop)
    {off : Fin 3 → ℕ} (hoff : off = ![o, 0, n])
    {inb : ∀ a, off a + (![1, 16, 128] : Fin 3 → ℕ) a ≤ (⟨3, ![8, 16, 8192]⟩ : Shape).size a}
    {w : (⟨3, ![1, 16, 128]⟩ : Shape).Idx → Elt F e}
    {hx : (m.access (Rect.unit (s := ⟨3, ![8, 16, 8192]⟩) off ![1, 16, 128] inb)).Stores Finset.univ}
    {hm : Finset.univ = Finset.univ ∨ ∀ a, (Rect.unit (s := ⟨3, ![8, 16, 8192]⟩) off ![1, 16, 128] inb).stride a = 1}
    (hw : ∀ (x : (⟨3, ![8, 16, 8192]⟩ : Shape).Idx) (y : (⟨3, ![1, 16, 128]⟩ : Shape).Idx), (x 0).val = o → (x 1).val = (y 1).val → (x 2).val = n + (y 2).val → P x (w y))
    {k : PUnit → Prog (TpuEff nD τ sig (Elt F) Λ .tc) α} :
    (held c m A (cols n P) : sProp (MT nD τ sig Unit (Elt F) ℕ (Pipeline.UD sig nD τ) ℕ))
      ⊢ iprop((held c m A (cols (n + 128) P) -∗ wp frame (wpE defs 𝒱 (c : Thread nD τ) bd) Set.univ (k ⟨⟩) Q)
        -∗ wp frame (wpE defs 𝒱 (c : Thread nD τ) bd) Set.univ (Prog.lift (.store m (Rect.unit (s := ⟨3, ![8, 16, 8192]⟩) off ![1, 16, 128] inb) w Finset.univ hx hm) >>= k) Q) := by
  subst hoff
  refine held_store 𝒱 c bd A _ _ (fun x hxs => ?_) (fun y _ => hw _ _ ?_ ?_ ?_) (fun x hxA hx v hv hlt => ?_)
  · rw [Rect.mem_set_unit] at hxs
    have := hxs 0
    simp at this
    exact (hA x).mpr (by omega)
  · have h0 := (y 0).isLt
    simp at h0
    simp [Rect.emb_apply, h0]
  · simp [Rect.emb_apply]
  · simp [Rect.emb_apply]
  · by_cases hlt' : (x 2).val < n
    · exact hv hlt'
    · exfalso
      apply hx
      rw [Rect.mem_set_unit]
      have h0 := (hA x).mp hxA
      have h1 : (x 1).val < 16 := (x 1).isLt
      intro a
      fin_cases a <;> simp <;> omega
end

end Cert.Hand
-- ==== Proof.KFirst.lean ====
module

public import proofs.«01_k».proof.Proof.Gen.Kernel.Skeleton
public import proofs.«01_k».proof.Proof.Gen.Kernel.Loops
public import proofs.«01_k».proof.Proof.Gen.Kernel.Frame
public import proofs.«01_k».proof.Proof.KInit
public import proofs.«01_k».proof.Proof.KFetch
public import proofs.«01_k».proof.Proof.KDrain
public import proofs.«01_k».proof.Proof.Pass
public import Idealize.ShloMosaic.Lib.Exec
public import Idealize.ShloMosaic.Lib.Tactic
public import Idealize.ShloMosaic.Lib.VecWindow

/-!
# The pass over the indices of a block
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- The end of a step. -/
def tail2 (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 : BitVec 32) : Prog (TpuEff nD τ sig (Elt F) Λ₀ .tc) PUnit := do
  let v339 : BitVec 1 := Scalar.cmpi .eq arg0 127#32
  let v340 : BitVec 32 := Scalar.extui v339
  let v341 : BitVec 1 := Scalar.cmpi .ne v340 0#32
  if k0_h4 : v341 = 1#1 then drain i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (pure ⟨⟩) else pure ⟨⟩

/-- The start of the pass over the block's indices. -/
def pass1 (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) :
    Prog (TpuEff nD τ sig (Elt F) Λ₀ .tc) (Σ' (arg0 : BitVec 32) (v3 : BitVec 32) (v4 : BitVec 32) (v25 : Elt F .i32) (k0_hw18 : k0_chk18 v25), IVec S1x128 32) := do
  let arg0 : BitVec 32 := BitVec.ofNat 32 (i 0).val
  let v3 : BitVec 32 := Scalar.remsi arg0 24#32
  let v4 : BitVec 32 := Scalar.remsi arg0 8#32
  let v8 : Elt F .i32 ← smemLoad arg7 (Rect.unit (s := S1x2048) (k0_off65 i) S1x1.size (k0_off65_inb i)) numel1_S1x1 rfl
  have k0_hw17 : k0_chk17 v8 := (← Prog.lift (TpuEff.assume (k0_chk17 v8) (k0_chk17.dec v8))).down
  let v13 : Vec F S1x1x128 .i32 ← Prog.lift (.load arg14 (Rect.unit (s := S2x8x128) ![0, 0, 0] S1x1x128.size inb_S2x8x128_S1x1x128_0_0_0).toLoadRect (View.loadsAt_vmem h_S1x1x128))
  Prog.lift (.store arg14 (Rect.unit (s := S2x8x128) ![0, 0, 0] S1x1x128.size inb_S2x8x128_S1x1x128_0_0_0) (k0_pay111 v8) Finset.univ (View.stores_vmem_bits_univ h_S1x1x128 rfl) (.inl rfl))
  let v17 : Elt F .f32 ← smemLoad arg8 (Rect.unit (s := S32512) (k0_off66 v8) S1.size (k0_off66_inb v8 k0_hw17)) numel1_S1 rfl
  let v19 : Vec F S1x1x128 .f32 ← Prog.lift (.load arg15 (Rect.unit (s := S2x8x128) ![0, 0, 0] S1x1x128.size inb_S2x8x128_S1x1x128_0_0_0).toLoadRect (View.loadsAt_vmem h_S1x1x128))
  Prog.lift (.store arg15 (Rect.unit (s := S2x8x128) ![0, 0, 0] S1x1x128.size inb_S2x8x128_S1x1x128_0_0_0) (k0_pay112 v17) Finset.univ (View.stores_vmem_bits_univ h_S1x1x128 rfl) (.inl rfl))
  let v25 : Elt F .i32 ← smemLoad arg7 (Rect.unit (s := S1x2048) (k0_off67 i) S1x1.size (k0_off67_inb i)) numel1_S1x1 rfl
  have k0_hw18 : k0_chk18 v25 := (← Prog.lift (TpuEff.assume (k0_chk18 v25) (k0_chk18.dec v25))).down
  pure ⟨arg0, v3, v4, v25, k0_hw18, k0_pay113 v25⟩

/-- What follows the pass over the block's indices. -/
def rest (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) : Prog (TpuEff nD τ sig (Elt F) Λ₀ .tc) PUnit := do
  let ⟨v311, v315, cst_203⟩ : Σ' (v311 : FVec F S8x1 .f32) (v315 : FVec F S8x1 .f32), F .f32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4
  Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v4 v311 v315 cst_203)
  let v325 : DmaSems sig S1 := arg18.slice (Rect.unit (s := S8) (k0_off108 i) S1.size (k0_off108_inb i))
  let v326 : DmaSems sig S_ := v325.squeeze S_ squeezes_S1_S_
  let v327 : Memref sig .tc .hbm S16x8192 .bf16 := arg5.slice (Rect.unit (s := S2048x8192) (k0_off109 i) S16x8192.size (k0_off109_inb i)) (fun _ => rfl)
  let v328 : Memref sig .tc .vmem S1x16x8192 .bf16 := arg12.slice (Rect.unit (s := S8x16x8192) (k0_off110 i) S1x16x8192.size (k0_off110_inb i)) (fun _ => rfl)
  let v329 : Memref sig .tc .vmem S16x8192 .bf16 := v328.squeeze S16x8192 squeezes_S1x16x8192_S16x8192
  Prog.lift (.enqueueDma v329 (.here v327) (.dma v326.sem) ((harg12.wordExact_slice rfl _ (k0_off110_wordsbf16 i)).reshape _ _) (harg5.wordExact_slice rfl _ (k0_off109_wordsbf16 i)) ⟨Or.inl rfl, trivial⟩)
  let v330 : DmaSems sig S1 := arg19.slice (Rect.unit (s := S8) (k0_off108 i) S1.size (k0_off108_inb i))
  let v331 : DmaSems sig S_ := v330.squeeze S_ squeezes_S1_S_
  let v332 : Memref sig .tc .hbm S16x8192 .bf16 := arg6.slice (Rect.unit (s := S2048x8192) (k0_off109 i) S16x8192.size (k0_off109_inb i)) (fun _ => rfl)
  let v333 : Memref sig .tc .vmem S1x16x8192 .bf16 := arg13.slice (Rect.unit (s := S8x16x8192) (k0_off110 i) S1x16x8192.size (k0_off110_inb i)) (fun _ => rfl)
  let v334 : Memref sig .tc .vmem S16x8192 .bf16 := v333.squeeze S16x8192 squeezes_S1x16x8192_S16x8192
  Prog.lift (.enqueueDma v334 (.here v332) (.dma v331.sem) ((harg13.wordExact_slice rfl _ (k0_off110_wordsbf16 i)).reshape _ _) (harg6.wordExact_slice rfl _ (k0_off109_wordsbf16 i)) ⟨Or.inl rfl, trivial⟩)
  if k0_h3 : k0_cond3 i = 1#1 then fetch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 k0_h3 (tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0) else tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0

/-- The pass over the block's indices, and what follows. -/
def prog (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) : Prog (TpuEff nD τ sig (Elt F) Λ₀ .tc) PUnit := do
  let ⟨arg0, v3, v4, v25, k0_hw18, v29⟩ : Σ' (arg0 : BitVec 32) (v3 : BitVec 32) (v4 : BitVec 32) (v25 : Elt F .i32) (k0_hw18 : k0_chk18 v25), IVec S1x128 32 ← pass1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  let ⟨v59, k0_hw20, v61, c24_i32_36⟩ : Σ' (v59 : Elt F .i32) (k0_hw20 : k0_chk20 v59) (v61 : BitVec 32), BitVec 32 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v25 k0_hw18 v29
  let ⟨v93, k0_hw22, c3_i32_55⟩ : Σ' (v93 : Elt F .i32) (k0_hw22 : k0_chk22 v93), BitVec 32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v59 k0_hw20 v61 c24_i32_36
  let v125 : BitVec 32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v93 k0_hw22 c3_i32_55
  let c16_i32_96 : BitVec 32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v125
  let ⟨v188, v189⟩ : Σ' (v188 : FVec F S1x128 .f32), Vec F S1x1x128 .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 c16_i32_96
  let v222 : FVec F S1x128 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v188 v189
  let ⟨v246, k0_hw31, v253⟩ : Σ' (v246 : Elt F .i32) (k0_hw31 : k0_chk31 v246), IVec S1x1x128 32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v222
  k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v246 k0_hw31 v253
  rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4

/-- The index's row of the scales is there. -/
theorem scale_of {v : BitVec 32} (h : v.toNat < 32512) (a : Fin 1) : (![v.toNat] : Fin 1 → ℕ) a + (![1] : Fin 1 → ℕ) a ≤ (![32512] : Fin 1 → ℕ) a := by
  fin_cases a
  simp
  omega

/-- The first step begins with its loads, -/
theorem part_pos (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (h1 : k0_cond1 i = 1#1) :
    k0_part39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 h1 (pass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) := by
  rw [k0_part39_eq_skeleton]
  unfold k0_part39_skel init pass1
  rw [dif_pos h1]

/-- the others do not. -/
theorem part_neg (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (h1 : ¬ k0_cond1 i = 1#1) :
    k0_part39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = pass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 := by
  rw [k0_part39_eq_skeleton]
  unfold k0_part39_skel pass1
  rw [dif_neg h1]

/-- The first step's loads, where they are due. -/
theorem start_ok (e : Env nD τ sig F) (𝒱 : Variants) (bd : Option 𝒱.V) (i : grid0.Coords)
    (hQG : ∀ w : Vec F S1x8192 .bf16, (∀ y, w y = e.a4.view.read (Elt F) e.X4 y) → ∀ y, e.QG y (k0_pay110 w y))
    {Q} :
    (iprop(St e (i 0).val ∗ ∃ W, owes (e.c : Thread nD τ) 0 W) : sProp 𝕄G)
      ⊢ iprop((iprop(Mid e (loAt (i 0).val) (i 0).val (hiAt (i 0).val) ∗ ∃ W, owes (e.c : Thread nD τ) 0 W) -∗
            wp frame (wpE (defs₀ (F := F)) 𝒱 (e.c : Thread nD τ) bd) Set.univ (pass1 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q)
        -∗ wp frame (wpE (defs₀ (F := F)) 𝒱 (e.c : Thread nD τ) bd) Set.univ (k0_part39 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q) := by
  by_cases h1 : k0_cond1 i = 1#1
  · have h0 := (cond1_iff i).mp h1
    rw [part_pos i _ _ _ _ _ _ _ _ _ _ _ _ _ _ _ _ _ _ _ _ _ _ _ _ _ _ _ _ _ _ _ _ _ _ h1, show St e (i 0).val = Start e by rw [h0]; rfl,
      show Mid e (loAt (i 0).val) (i 0).val (hiAt (i 0).val) = Mid e 0 0 24 by rw [h0]; rfl]
    exact init_ok e 𝒱 bd i h1 hQG (pass1 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19)
  · have h0 : (i 0).val ≠ 0 := fun h => h1 ((cond1_iff i).mpr h)
    rw [part_neg i _ _ _ _ _ _ _ _ _ _ _ _ _ _ _ _ _ _ _ _ _ _ _ _ _ _ _ _ _ _ _ _ _ _ h1]
    unfold St
    rw [if_neg h0]
    iintro H Hk
    iapply Hk $$ H

/-- The pass over the block's indices and the wait for the first half of its rows. -/
theorem first_ok (e : Env nD τ sig F) (𝒱 : Variants) (bd : Option 𝒱.V) (i : grid0.Coords)
    (hN : sig.dmaCredit .tc (Kind.tc.table .vmem) e.a11.view.buf ⟨2, ![8, 8192]⟩ .i32 = 8 * NR e)
    {Q : PUnit → sProp 𝕄G} {f7 f8} (hf : IdsAre e f7) (hg : ∀ x, e.a8.view.read (Elt F) f8 x = e.scales x) :
    (iprop((e.a7.view.loc (e.c : Thread nD τ) ↦[e.a7.view.set]{fullShare} f7) ∗ (e.a8.view.loc (e.c : Thread nD τ) ↦[e.a8.view.set]{fullShare} f8)
        ∗ Tmp e anyP anyP ∗ Flying e (i 0).val ((i 0).val % 24) 0 ∗ ∃ W, owes (e.c : Thread nD τ) 0 W) : sProp 𝕄G)
      ⊢ iprop((∀ v3 v4, iprop((e.a7.view.loc (e.c : Thread nD τ) ↦[e.a7.view.set]{fullShare} f7) ∗ (e.a8.view.loc (e.c : Thread nD τ) ↦[e.a8.view.set]{fullShare} f8)
            ∗ Tmp e (shiftQ e (i 0).val) (scaleQ e (i 0).val) ∗ Flying e (i 0).val ((i 0).val % 24) (8 * NR e) ∗ ∃ W, owes (e.c : Thread nD τ) 0 W) -∗
            wp frame (wpE (defs₀ (F := F)) 𝒱 (e.c : Thread nD τ) bd) Set.univ (rest (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val) v3 v4) Q)
        -∗ wp frame (wpE (defs₀ (F := F)) 𝒱 (e.c : Thread nD τ) bd) Set.univ (prog (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q) := by
  have hi : (i 0).val < 128 := (i 0).isLt
  unfold prog Tmp
  simp only [k0_part45_eq_skeleton, k0_part47_eq_skeleton]
  iintro ⟨H7, H8, ⟨H14, H15⟩, HF, ⟨%W, HO⟩⟩ Hk
  ihave H14 := (held_mono e.c e.a14 (A := Finset.univ) (P := anyP) (Q := upTo 0 (shiftQ e (i 0).val)) (fun x _ v _ h => absurd h (Nat.not_lt_zero _))) $$ H14
  ihave H15 := (held_mono e.c e.a15 (A := Finset.univ) (P := anyP) (Q := upTo 0 (scaleQ e (i 0).val)) (fun x _ v _ h => absurd h (Nat.not_lt_zero _))) $$ H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 0 0 0 rfl (by decide) (shiftQ e (i 0).val)
    (shift_row (hf.word (n := 16 * (i 0).val + 0) (by omega) (k0_off65_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 0 0 0 rfl (by decide) (scaleQ e (i 0).val)
    (scale_row (hf.word (n := 16 * (i 0).val + 0) (by omega) (k0_off65_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 1 1 0 rfl (by decide) (shiftQ e (i 0).val)
    (shift_row (hf.word (n := 16 * (i 0).val + 1) (by omega) (k0_off67_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 1 1 0 rfl (by decide) (scaleQ e (i 0).val)
    (scale_row (hf.word (n := 16 * (i 0).val + 1) (by omega) (k0_off67_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 2 0 1 rfl (by decide) (shiftQ e (i 0).val)
    (shift_row (hf.word (n := 16 * (i 0).val + 2) (by omega) (k0_off69_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 2 0 1 rfl (by decide) (scaleQ e (i 0).val)
    (scale_row (hf.word (n := 16 * (i 0).val + 2) (by omega) (k0_off69_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 3 1 1 rfl (by decide) (shiftQ e (i 0).val)
    (shift_row (hf.word (n := 16 * (i 0).val + 3) (by omega) (k0_off71_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 3 1 1 rfl (by decide) (scaleQ e (i 0).val)
    (scale_row (hf.word (n := 16 * (i 0).val + 3) (by omega) (k0_off71_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 4 0 2 rfl (by decide) (shiftQ e (i 0).val)
    (shift_row (hf.word (n := 16 * (i 0).val + 4) (by omega) (k0_off73_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 4 0 2 rfl (by decide) (scaleQ e (i 0).val)
    (scale_row (hf.word (n := 16 * (i 0).val + 4) (by omega) (k0_off73_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 5 1 2 rfl (by decide) (shiftQ e (i 0).val)
    (shift_row (hf.word (n := 16 * (i 0).val + 5) (by omega) (k0_off75_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 5 1 2 rfl (by decide) (scaleQ e (i 0).val)
    (scale_row (hf.word (n := 16 * (i 0).val + 5) (by omega) (k0_off75_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 6 0 3 rfl (by decide) (shiftQ e (i 0).val)
    (shift_row (hf.word (n := 16 * (i 0).val + 6) (by omega) (k0_off77_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 6 0 3 rfl (by decide) (scaleQ e (i 0).val)
    (scale_row (hf.word (n := 16 * (i 0).val + 6) (by omega) (k0_off77_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 7 1 3 rfl (by decide) (shiftQ e (i 0).val)
    (shift_row (hf.word (n := 16 * (i 0).val + 7) (by omega) (k0_off79_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 7 1 3 rfl (by decide) (scaleQ e (i 0).val)
    (scale_row (hf.word (n := 16 * (i 0).val + 7) (by omega) (k0_off79_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 8 0 4 rfl (by decide) (shiftQ e (i 0).val)
    (shift_row (hf.word (n := 16 * (i 0).val + 8) (by omega) (k0_off81_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 8 0 4 rfl (by decide) (scaleQ e (i 0).val)
    (scale_row (hf.word (n := 16 * (i 0).val + 8) (by omega) (k0_off81_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 9 1 4 rfl (by decide) (shiftQ e (i 0).val)
    (shift_row (hf.word (n := 16 * (i 0).val + 9) (by omega) (k0_off83_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 9 1 4 rfl (by decide) (scaleQ e (i 0).val)
    (scale_row (hf.word (n := 16 * (i 0).val + 9) (by omega) (k0_off83_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 10 0 5 rfl (by decide) (shiftQ e (i 0).val)
    (shift_row (hf.word (n := 16 * (i 0).val + 10) (by omega) (k0_off85_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 10 0 5 rfl (by decide) (scaleQ e (i 0).val)
    (scale_row (hf.word (n := 16 * (i 0).val + 10) (by omega) (k0_off85_eq i) _) hg _ rfl (fun _ => rfl))) $$ H15
  iintro H15
  sl_exec (disch := exact scale_of (hf.lt _))
  dsimp only [Prog.bind]
  try sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 11 1 5 rfl (by decide) (shiftQ e (i 0).val)
    (shift_row (hf.word (n := 16 * (i 0).val + 11) (by omega) (k0_off87_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 11 1 5 rfl (by decide) (scaleQ e (i 0).val)
    (scale_row (hf.word (n := 16 * (i 0).val + 11) (by omega) (k0_off87_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 12 0 6 rfl (by decide) (shiftQ e (i 0).val)
    (shift_row (hf.word (n := 16 * (i 0).val + 12) (by omega) (k0_off89_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 12 0 6 rfl (by decide) (scaleQ e (i 0).val)
    (scale_row (hf.word (n := 16 * (i 0).val + 12) (by omega) (k0_off89_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 13 1 6 rfl (by decide) (shiftQ e (i 0).val)
    (shift_row (hf.word (n := 16 * (i 0).val + 13) (by omega) (k0_off91_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 13 1 6 rfl (by decide) (scaleQ e (i 0).val)
    (scale_row (hf.word (n := 16 * (i 0).val + 13) (by omega) (k0_off91_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 14 0 7 rfl (by decide) (shiftQ e (i 0).val)
    (shift_row (hf.word (n := 16 * (i 0).val + 14) (by omega) (k0_off93_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 14 0 7 rfl (by decide) (scaleQ e (i 0).val)
    (scale_row (hf.word (n := 16 * (i 0).val + 14) (by omega) (k0_off93_eq i) _) hg _ rfl (fun _ => rfl))) $$ H15
  iintro H15
  sl_exec (disch := exact scale_of (hf.lt _))
  dsimp only [Prog.bind]
  try sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 15 1 7 rfl (by decide) (shiftQ e (i 0).val)
    (shift_row (hf.word (n := 16 * (i 0).val + 15) (by omega) (k0_off95_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 15 1 7 rfl (by decide) (scaleQ e (i 0).val)
    (scale_row (hf.word (n := 16 * (i 0).val + 15) (by omega) (k0_off95_eq i) _) hg _ rfl (fun _ => rfl))) $$ H15
  iintro H15
  try sl_exec
  iapply (wait_half (defs := defs₀ (F := F)) e 𝒱 bd (i 0).val ((i 0).val % 24) hN (by rw [k0_off97_eq]; simp)) $$ [HF HO]
  · isplitl [HF]
    · iexact HF
    · iexact HO
  iintro ⟨HF, HO⟩
  ihave H14 := (held_mono e.c e.a14 (A := Finset.univ) (P := upTo 16 (shiftQ e (i 0).val)) (Q := shiftQ e (i 0).val) (fun x _ v h => h (tok_lt x))) $$ H14
  ihave H15 := (held_mono e.c e.a15 (A := Finset.univ) (P := upTo 16 (scaleQ e (i 0).val)) (Q := scaleQ e (i 0).val) (fun x _ v h => h (tok_lt x))) $$ H15
  dsimp only [Prog.bind]
  iapply (ret_ok (defs := defs₀ (F := F)) 𝒱 e.c bd PUnit.unit)
  iapply Hk $$ %_ %_ [H7 H8 H14 H15 HF HO]
  iframe
  iexists _
  iexact HO

end Cert.Kernel.Hand
-- ==== Proof.KRest.lean ====
module

public import proofs.«01_k».proof.Proof.Gen.Kernel.Skeleton
public import proofs.«01_k».proof.Proof.Gen.Kernel.Loops
public import proofs.«01_k».proof.Proof.Gen.Kernel.Frame
public import proofs.«01_k».proof.Proof.KFirst
public import Idealize.ShloMosaic.Lib.Exec
public import Idealize.ShloMosaic.Lib.Tactic
public import Idealize.ShloMosaic.Lib.VecWindow

/-!
The rest of a step up to its two loops.
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

/-- The wait for the second half of the block's rows. -/
def second (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) {α : Type} (k : Prog (TpuEff nD τ sig (Elt F) Λ₀ .tc) α) : Prog (TpuEff nD τ sig (Elt F) Λ₀ .tc) α := do
  let v284 : Memref sig .tc .vmem S1x1x8x8192 .i32 := arg11.slice (Rect.unit (s := S24x2x8x8192) (k0_off99 i) S1x1x8x8192.size (k0_off99_inb i)) (fun _ => rfl)
  let v285 : Memref sig .tc .vmem S8x8192 .i32 := v284.squeeze S8x8192 squeezes_S1x1x8x8192_S8x8192
  let v286 : Memref sig .tc .hbm S8x8192 .i32 := arg2.slice (Rect.unit (s := S8128x8192) ![0, 0] S8x8192.size inb_S8128x8192_S8x8192_0_0) (fun _ => rfl)
  let v282 : DmaSems sig S1 := arg17.slice (Rect.unit (s := S24) (k0_off97 i) S1.size (k0_off97_inb i))
  let v283 : DmaSems sig S_ := v282.squeeze S_ squeezes_S1_S_
  Prog.lift (.waitDma2 v283.sem v286 v285 (View.wordExact_bits rfl) ((View.wordExact_bits rfl).reshape _ _))
  k

/-- The wait for the results of eight steps before. -/
def outs (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (k0_h2 : k0_cond2 i = 1#1) {α : Type} (k : Prog (TpuEff nD τ sig (Elt F) Λ₀ .tc) α) : Prog (TpuEff nD τ sig (Elt F) Λ₀ .tc) α := do
  let v343 : DmaSems sig S1 := arg18.slice (Rect.unit (s := S8) (k0_off100 i) S1.size (k0_off100_inb i k0_h2))
  let v344 : DmaSems sig S_ := v343.squeeze S_ squeezes_S1_S_
  let v345 : Memref sig .tc .hbm S16x8192 .bf16 := arg5.slice (Rect.unit (s := S2048x8192) (k0_off101 i) S16x8192.size (k0_off101_inb i k0_h2)) (fun _ => rfl)
  let v346 : Memref sig .tc .vmem S1x16x8192 .bf16 := arg12.slice (Rect.unit (s := S8x16x8192) (k0_off102 i) S1x16x8192.size (k0_off102_inb i k0_h2)) (fun _ => rfl)
  let v347 : Memref sig .tc .vmem S16x8192 .bf16 := v346.squeeze S16x8192 squeezes_S1x16x8192_S16x8192
  Prog.lift (.waitDma2 v344.sem v347 v345 ((harg12.wordExact_slice rfl _ (k0_off102_wordsbf16 i k0_h2)).reshape _ _) (harg5.wordExact_slice rfl _ (k0_off101_wordsbf16 i k0_h2)))
  let v348 : DmaSems sig S1 := arg19.slice (Rect.unit (s := S8) (k0_off100 i) S1.size (k0_off100_inb i k0_h2))
  let v349 : DmaSems sig S_ := v348.squeeze S_ squeezes_S1_S_
  let v350 : Memref sig .tc .hbm S16x8192 .bf16 := arg6.slice (Rect.unit (s := S2048x8192) (k0_off101 i) S16x8192.size (k0_off101_inb i k0_h2)) (fun _ => rfl)
  let v351 : Memref sig .tc .vmem S1x16x8192 .bf16 := arg13.slice (Rect.unit (s := S8x16x8192) (k0_off102 i) S1x16x8192.size (k0_off102_inb i k0_h2)) (fun _ => rfl)
  let v352 : Memref sig .tc .vmem S16x8192 .bf16 := v351.squeeze S16x8192 squeezes_S1x16x8192_S16x8192
  Prog.lift (.waitDma2 v349.sem v352 v350 ((harg13.wordExact_slice rfl _ (k0_off102_wordsbf16 i k0_h2)).reshape _ _) (harg6.wordExact_slice rfl _ (k0_off101_wordsbf16 i k0_h2)))
  k

/-- The gathered block and its sums of squares. -/
def sums (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) :
    Prog (TpuEff nD τ sig (Elt F) Λ₀ .tc) (Σ' (v311 : FVec F S8x1 .f32) (v315 : FVec F S8x1 .f32), F .f32) := do
  let v290 : Vec F S1x8x128 .i32 ← Prog.lift (.load arg14 (Rect.unit (s := S2x8x128) ![0, 0, 0] S1x8x128.size inb_S2x8x128_S1x8x128_0_0_0).toLoadRect (View.loadsAt_vmem h_S1x8x128))
  let v292 : Vec F S1x8x128 .i32 ← Prog.lift (.load arg14 (Rect.unit (s := S2x8x128) ![1, 0, 0] S1x8x128.size inb_S2x8x128_S1x8x128_1_0_0).toLoadRect (View.loadsAt_vmem h_S1x8x128))
  let v294 : Vec F S1x8x128 .f32 ← Prog.lift (.load arg15 (Rect.unit (s := S2x8x128) ![0, 0, 0] S1x8x128.size inb_S2x8x128_S1x8x128_0_0_0).toLoadRect (View.loadsAt_vmem h_S1x8x128))
  let v298 : Vec F S1x8x128 .f32 ← Prog.lift (.load arg15 (Rect.unit (s := S2x8x128) ![1, 0, 0] S1x8x128.size inb_S2x8x128_S1x8x128_1_0_0).toLoadRect (View.loadsAt_vmem h_S1x8x128))
  let (v304_0, v304_1) ← Scf.Loop.for k0_t2_loop k0_t2_ok (k0_pay150 (F := F), k0_pay150 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 v290 v292 v294 v298)
  have cst_203 : F .f32 := Scalar.ofBits .f32 0x358637BD#32
  pure ⟨k0_pay155 v304_0, k0_pay156 v304_1, cst_203⟩

theorem mid_pos (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) (h : k0_cond2 i = 1#1) :
    k0_part48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 = second (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (outs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 h (sums (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4)) := by
  rw [k0_part48_eq_skeleton]
  unfold k0_part48_skel second outs sums
  simp only [dif_pos h]

theorem mid_neg (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) (h : ¬ k0_cond2 i = 1#1) :
    k0_part48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 = second (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (sums (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4) := by
  rw [k0_part48_eq_skeleton]
  unfold k0_part48_skel second sums
  simp only [dif_neg h]

section
variable (e : Env nD τ sig F) (𝒱 : Variants) (bd : Option 𝒱.V) (i : grid0.Coords)

/-- What a trip of the first loop keeps. -/
def I2 (k : ℕ) (acc : FVec F S8x128 .f32 × FVec F S8x128 .f32) : sProp 𝕄G :=
  iprop(held e.c e.a11 (slotR ((i 0).val % 24)).set (wordsOf e (i 0).val)
    ∗ held e.c e.a13 (outR ((i 0).val % 8)).set (cols (2048 * k) (blockIs e.QE (i 0).val)) ∗ ⌜e.ACC (i 0).val k acc.1 acc.2⌝)

/-- What a trip of the second loop keeps. -/
def I3 (k : ℕ) : sProp 𝕄G :=
  iprop(held e.c e.a13 (outR ((i 0).val % 8)).set (blockIs e.QE (i 0).val) ∗ held e.c e.a10 Finset.univ e.QG
    ∗ held e.c e.a12 (outR ((i 0).val % 8)).set (cols (2048 * k) (blockIs e.QO (i 0).val)))

/-- The first loop's trips. -/
def Trips2 : Prop := ∀ (arg0 v3 v4 : BitVec 32) (w0 w1 : Vec F S1x8x128 .i32) (s0 s1 : Vec F S1x8x128 .f32),
  (∀ y, shiftQ e (i 0).val ((Rect.unit (s := S2x8x128) ![0, 0, 0] S1x8x128.size inb_S2x8x128_S1x8x128_0_0_0).emb y) (w0 y)) →
  (∀ y, shiftQ e (i 0).val ((Rect.unit (s := S2x8x128) ![1, 0, 0] S1x8x128.size inb_S2x8x128_S1x8x128_1_0_0).emb y) (w1 y)) →
  (∀ y, scaleQ e (i 0).val ((Rect.unit (s := S2x8x128) ![0, 0, 0] S1x8x128.size inb_S2x8x128_S1x8x128_0_0_0).emb y) (s0 y)) →
  (∀ y, scaleQ e (i 0).val ((Rect.unit (s := S2x8x128) ![1, 0, 0] S1x8x128.size inb_S2x8x128_S1x8x128_1_0_0).emb y) (s1 y)) →
  ∀ k acc, (I2 e i k.val acc : sProp 𝕄G)
    ⊢ wp frame (wpE (defs₀ (F := F)) 𝒱 (e.c : Thread nD τ) bd) Set.univ (k0_t2_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 w0 w1 s0 s1 k acc) (fun r => I2 e i (k.val + 1) r)

/-- The second loop's trips. -/
def Trips3 : Prop := ∀ (v4 : BitVec 32) (m0 m1 : FVec F S8x1 .f32) (u : F .f32), e.SUM (i 0).val m0 m1 u →
  ∀ k acc, (I3 e i k.val : sProp 𝕄G)
    ⊢ wp frame (wpE (defs₀ (F := F)) 𝒱 (e.c : Thread nD τ) bd) Set.univ (k0_t3_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 v4 m0 m1 u k acc) (fun _ => I3 e i (k.val + 1))

/-- What a step's arithmetic is to do. -/
structure Good : Prop where
  acc0 : e.ACC (i 0).val 0 (k0_pay150 (F := F)) (k0_pay150 (F := F))
  sum : ∀ a b, e.ACC (i 0).val 4 a b → e.SUM (i 0).val (k0_pay155 a) (k0_pay156 b) (Scalar.ofBits .f32 0x358637BD#32)
  t2 : Trips2 e 𝒱 bd i
  t3 : Trips3 e 𝒱 bd i

variable {e 𝒱 bd i}

theorem sums_ok (hG : Good e 𝒱 bd i) (arg0 v3 v4 : BitVec 32) :
    (iprop(Tmp e (shiftQ e (i 0).val) (scaleQ e (i 0).val) ∗ held e.c e.a11 (slotR ((i 0).val % 24)).set (wordsOf e (i 0).val)
        ∗ held e.c e.a13 (outR ((i 0).val % 8)).set anyP) : sProp 𝕄G)
      ⊢ wp frame (wpE (defs₀ (F := F)) 𝒱 (e.c : Thread nD τ) bd) Set.univ (sums (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4)
        (fun r => iprop(⌜e.SUM (i 0).val r.1 r.2.1 r.2.2⌝ ∗ Tmp e anyP anyP ∗ held e.c e.a11 (slotR ((i 0).val % 24)).set anyP
          ∗ held e.c e.a13 (outR ((i 0).val % 8)).set (blockIs e.QE (i 0).val))) := by
  unfold sums Tmp
  iintro ⟨⟨H14, H15⟩, H11, H13⟩
  iapply (held_load (defs := defs₀ (F := F)) 𝒱 e.c bd Finset.univ _ (Finset.subset_univ _)) $$ H14
  iintro %w0 %hw0 H14
  iapply (held_load (defs := defs₀ (F := F)) 𝒱 e.c bd Finset.univ _ (Finset.subset_univ _)) $$ H14
  iintro %w1 %hw1 H14
  iapply (held_load (defs := defs₀ (F := F)) 𝒱 e.c bd Finset.univ _ (Finset.subset_univ _)) $$ H15
  iintro %s0 %hs0 H15
  iapply (held_load (defs := defs₀ (F := F)) 𝒱 e.c bd Finset.univ _ (Finset.subset_univ _)) $$ H15
  iintro %s1 %hs1 H15
  iapply (seq (defs := defs₀ (F := F)) 𝒱 e.c bd (loop_ok (defs := defs₀ (F := F)) 𝒱 e.c bd k0_t2_loop k0_t2_ok _ _ (I2 e i) (hG.t2 arg0 v3 v4 w0 w1 s0 s1 hw0 hw1 hs0 hs1))) $$ [H11 H13]
  · unfold I2
    isplitl [H11]
    · iexact H11
    isplitl [H13]
    · iapply (held_mono e.c e.a13 (fun x _ v _ => fun h => absurd h (Nat.not_lt_zero _))) $$ H13
    · ipureintro
      exact hG.acc0
  iintro %acc HI
  rw [show k0_t2_loop.trips = 4 by decide]
  unfold I2
  icases HI with ⟨H11, H13, %hacc⟩
  dsimp only
  iapply (ret_ok (defs := defs₀ (F := F)) 𝒱 e.c bd _)
  isplitr
  · ipureintro
    exact hG.sum _ _ hacc
  isplitl [H14 H15]
  · isplitl [H14]
    · iapply (held_mono e.c e.a14 (fun x _ v _ => trivial)) $$ H14
    · iapply (held_mono e.c e.a15 (fun x _ v _ => trivial)) $$ H15
  isplitl [H11]
  · iapply (held_mono e.c e.a11 (fun x _ v _ => trivial)) $$ H11
  · iapply (held_mono e.c e.a13 (fun x _ v h => h (x 2).isLt)) $$ H13

theorem second_ok (hN : sig.dmaCredit .tc (Kind.tc.table .vmem) e.a11.view.buf ⟨2, ![8, 8192]⟩ .i32 = 8 * NR e) (hN0 : 0 < NR e)
    (g : Buf (Elt F) (e.a11.view.loc (e.c : Thread nD τ))) {α : Type} (k : Prog (TpuEff nD τ sig (Elt F) Λ₀ .tc) α) {Q : α → sProp 𝕄G} :
    (iprop(Flying e (i 0).val ((i 0).val % 24) (8 * NR e) ∗ ∃ W, owes (e.c : Thread nD τ) 0 W) : sProp 𝕄G)
      ⊢ iprop((iprop(Landed e (i 0).val ((i 0).val % 24) ∗ ∃ W, owes (e.c : Thread nD τ) 0 W) -∗ wp frame (wpE (defs₀ (F := F)) 𝒱 (e.c : Thread nD τ) bd) Set.univ k Q)
        -∗ wp frame (wpE (defs₀ (F := F)) 𝒱 (e.c : Thread nD τ) bd) Set.univ (second (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 k) Q) := by
  unfold second
  iintro ⟨HF, ⟨%W, HO⟩⟩ Hk
  iapply (wait_rest (defs := defs₀ (F := F)) e 𝒱 bd g (i 0).val ((i 0).val % 24) hN hN0 (by rw [k0_off97_eq]; simp)) $$ [HF HO]
  · isplitl [HF]
    · iexact HF
    · iexact HO
  iintro ⟨HF, HO⟩
  iapply Hk
  isplitl [HF]
  · iexact HF
  · iexists _
    iexact HO

theorem outs_ok (h2 : k0_cond2 i = 1#1) (hNHA : 0 < NO e.a5) (hNHB : 0 < NO e.a6) {α : Type} (k : Prog (TpuEff nD τ sig (Elt F) Λ₀ .tc) α) {Q : α → sProp 𝕄G} :
    (iprop(Outs e ((i 0).val - 8) (i 0).val ∗ ∃ W, owes (e.c : Thread nD τ) 0 W) : sProp 𝕄G)
      ⊢ iprop((iprop(Outs e ((i 0).val - 8 + 1) (i 0).val ∗ ∃ W, owes (e.c : Thread nD τ) 0 W) -∗ wp frame (wpE (defs₀ (F := F)) 𝒱 (e.c : Thread nD τ) bd) Set.univ k Q)
        -∗ wp frame (wpE (defs₀ (F := F)) 𝒱 (e.c : Thread nD τ) bd) Set.univ (outs (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h2 k) Q) := by
  have h8 := (cond2_iff i).mp h2
  have hi : (i 0).val < 128 := (i 0).isLt
  have h100 : k0_off100 i = ![((i 0).val - 8) % 8] := by
    rw [k0_off100_eq i, show (i 0).val % 8 = ((i 0).val - 8) % 8 by omega]
  unfold outs Outs
  iintro ⟨⟨HA, HB⟩, HO⟩ Hk
  iapply (out_wait (defs := defs₀ (F := F)) e.c e.a12 e.a5 e.a18 e.QO 𝒱 bd ((i 0).val - 8) (i 0).val (by omega) (by omega) (by omega) hNHA h100 (W := ∅)) $$ [HA HO]
  · isplitl [HA]
    · iexact HA
    · iexact HO
  iintro ⟨HA, HO⟩
  iapply (out_wait (defs := defs₀ (F := F)) e.c e.a13 e.a6 e.a19 e.QE 𝒱 bd ((i 0).val - 8) (i 0).val (by omega) (by omega) (by omega) hNHB h100 (W := ∅)) $$ [HB HO]
  · isplitl [HB]
    · iexact HB
    · iexact HO
  iintro ⟨HB, HO⟩
  iapply Hk
  isplitl [HA HB]
  · isplitl [HA]
    · iexact HA
    · iexact HB
  · iexact HO

end

end Cert.Kernel.Hand
-- ==== Proof.KStep.lean ====
module

public import proofs.«01_k».proof.Proof.Gen.Kernel.Skeleton
public import proofs.«01_k».proof.Proof.Gen.Kernel.Loops
public import proofs.«01_k».proof.Proof.Gen.Kernel.Frame
public import proofs.«01_k».proof.Proof.KRest
public import Idealize.ShloMosaic.Lib.Exec
public import Idealize.ShloMosaic.Lib.Tactic
public import Idealize.ShloMosaic.Lib.VecWindow

/-!
One step of the kernel.
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

variable {e : Env nD τ sig F} {𝒱 : Variants} {bd : Option 𝒱.V} {i : grid0.Coords}

/-- The sizes of the transfers. -/
structure Sizes (e : Env nD τ sig F) : Prop where
  hN : sig.dmaCredit .tc (Kind.tc.table .vmem) e.a11.view.buf ⟨2, ![8, 8192]⟩ .i32 = 8 * NR e
  hN0 : 0 < NR e
  hA : 0 < NO e.a5
  hB : 0 < NO e.a6

theorem mid_ok (hS : Sizes e) (g : Buf (Elt F) (e.a11.view.loc (e.c : Thread nD τ))) (arg0 v3 v4 : BitVec 32)
    {α : Type} (k : _ → Prog (TpuEff nD τ sig (Elt F) Λ₀ .tc) α) {Q : α → sProp 𝕄G} :
    (iprop(Flying e (i 0).val ((i 0).val % 24) (8 * NR e) ∗ Outs e (loAt (i 0).val) (i 0).val ∗ ∃ W, owes (e.c : Thread nD τ) 0 W) : sProp 𝕄G)
      ⊢ iprop((iprop(Landed e (i 0).val ((i 0).val % 24) ∗ Outs e ((i 0).val + 1 - 8) (i 0).val ∗ ∃ W, owes (e.c : Thread nD τ) 0 W) -∗
            wp frame (wpE (defs₀ (F := F)) 𝒱 (e.c : Thread nD τ) bd) Set.univ (sums (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4) (fun r => wp frame (wpE (defs₀ (F := F)) 𝒱 (e.c : Thread nD τ) bd) Set.univ (k r) Q))
        -∗ wp frame (wpE (defs₀ (F := F)) 𝒱 (e.c : Thread nD τ) bd) Set.univ (k0_part48 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 >>= k) Q) := by
  have hi : (i 0).val < 128 := (i 0).isLt
  have hlo : loAt (i 0).val = (i 0).val - 8 := if_neg (by omega)
  rw [wp_bind, hlo]
  iintro ⟨HF, HO, HW⟩ Hk
  by_cases h : k0_cond2 i = 1#1
  · have h8 := (cond2_iff i).mp h
    rw [mid_pos i _ _ _ _ _ _ _ _ _ _ _ _ _ _ _ _ _ _ _ _ _ _ _ _ _ _ _ _ _ _ _ _ _ _ arg0 v3 v4 h]
    iapply (second_ok hS.hN hS.hN0 g _) $$ [HF HW]
    · isplitl [HF]
      · iexact HF
      · iexact HW
    iintro ⟨HF, HW⟩
    iapply (outs_ok h hS.hA hS.hB _) $$ [HO HW]
    · isplitl [HO]
      · iexact HO
      · iexact HW
    iintro ⟨HO, HW⟩
    rw [show (i 0).val - 8 + 1 = (i 0).val + 1 - 8 by omega]
    iapply Hk
    iframe
  · have h8 : ¬ 8 ≤ (i 0).val := fun h' => h ((cond2_iff i).mpr h')
    rw [mid_neg i _ _ _ _ _ _ _ _ _ _ _ _ _ _ _ _ _ _ _ _ _ _ _ _ _ _ _ _ _ _ _ _ _ _ arg0 v3 v4 h]
    iapply (second_ok hS.hN hS.hN0 g _) $$ [HF HW]
    · isplitl [HF]
      · iexact HF
      · iexact HW
    iintro ⟨HF, HW⟩
    rw [show (i 0).val - 8 = (i 0).val + 1 - 8 by omega]
    iapply Hk
    iframe

/-- The last step is the 127th. -/
theorem last_iff : ∀ i : grid0.Coords, Scalar.cmpi .ne (Scalar.extui (Scalar.cmpi .eq (BitVec.ofNat 32 (i 0).val) 127#32)) 0#32 = 1#1 ↔ (i 0).val = 127 := by
  decide +kernel

theorem tail_ok (hS : Sizes e) {Q : PUnit → sProp 𝕄G} :
    (iprop(Outs e ((i 0).val + 1 - 8) ((i 0).val + 1) ∗ ∃ W, owes (e.c : Thread nD τ) 0 W) : sProp 𝕄G)
      ⊢ iprop((iprop(Outs e (loAt ((i 0).val + 1)) ((i 0).val + 1) ∗ ∃ W, owes (e.c : Thread nD τ) 0 W) -∗ Q ⟨⟩)
        -∗ wp frame (wpE (defs₀ (F := F)) 𝒱 (e.c : Thread nD τ) bd) Set.univ (tail2 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val)) Q) := by
  have hi : (i 0).val < 128 := (i 0).isLt
  unfold tail2
  dsimp only
  by_cases h : Scalar.cmpi .ne (Scalar.extui (Scalar.cmpi .eq (BitVec.ofNat 32 (i 0).val) 127#32)) 0#32 = 1#1
  · have h1 := (last_iff i).mp h
    rw [dif_pos h, h1, show loAt (127 + 1) = 128 from rfl, show 127 + 1 = 128 from rfl, show 128 - 8 = 120 from rfl]
    iintro H Hk
    iapply (drain_ok e 𝒱 bd i hS.hA hS.hB _) $$ H
    iintro H
    iapply (ret_ok (defs := defs₀ (F := F)) 𝒱 e.c bd _)
    iapply Hk $$ H
  · have h1 : (i 0).val ≠ 127 := fun h' => h ((last_iff i).mpr h')
    rw [dif_neg h, show loAt ((i 0).val + 1) = (i 0).val + 1 - 8 from if_neg (by omega)]
    iintro H Hk
    iapply (ret_ok (defs := defs₀ (F := F)) 𝒱 e.c bd _)
    iapply Hk $$ H

theorem rest_ok (hG : Good e 𝒱 bd i) (hS : Sizes e) (g : Buf (Elt F) (e.a11.view.loc (e.c : Thread nD τ))) (v3 v4 : BitVec 32)
    {Q : PUnit → sProp 𝕄G} {f7} (hf : IdsAre e f7) :
    (iprop((e.a7.view.loc (e.c : Thread nD τ) ↦[e.a7.view.set]{fullShare} f7) ∗ Tmp e (shiftQ e (i 0).val) (scaleQ e (i 0).val)
        ∗ Flying e (i 0).val ((i 0).val % 24) (8 * NR e) ∗ held e.c e.a10 Finset.univ e.QG
        ∗ (Free e ((i 0).val % 24) -∗ In e ((i 0).val + 1) (hiAt (i 0).val)) ∗ Outs e (loAt (i 0).val) (i 0).val ∗ ∃ W, owes (e.c : Thread nD τ) 0 W) : sProp 𝕄G)
      ⊢ iprop((iprop((e.a7.view.loc (e.c : Thread nD τ) ↦[e.a7.view.set]{fullShare} f7) ∗ Tmp e anyP anyP
            ∗ held e.c e.a10 Finset.univ e.QG ∗ In e ((i 0).val + 1) (hiAt ((i 0).val + 1)) ∗ Outs e (loAt ((i 0).val + 1)) ((i 0).val + 1)
            ∗ ∃ W, owes (e.c : Thread nD τ) 0 W) -∗ Q ⟨⟩)
        -∗ wp frame (wpE (defs₀ (F := F)) 𝒱 (e.c : Thread nD τ) bd) Set.univ (rest (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val) v3 v4) Q) := by
  have hi : (i 0).val < 128 := (i 0).isLt
  unfold rest
  iintro ⟨H7, HT, HF, H10, HIn, HOut, HW⟩ Hk
  iapply (mid_ok hS g _ v3 v4 _) $$ [HF HOut HW]
  · iframe
  iintro ⟨HL, HOut, HW⟩
  unfold Landed Outs
  icases HL with ⟨Hs, H11, Ht⟩
  icases HOut with ⟨HA, HB⟩
  ihave HA := (out_next e.c e.a12 e.a5 e.a18 e.QO ((i 0).val + 1 - 8) (i 0).val (by omega) (by omega) hi) $$ HA
  ihave HB := (out_next e.c e.a13 e.a6 e.a19 e.QE ((i 0).val + 1 - 8) (i 0).val (by omega) (by omega) hi) $$ HB
  icases HA with ⟨⟨HsA, HvA, HhA⟩, HA⟩
  icases HB with ⟨⟨HsB, HvB, HhB⟩, HB⟩
  iapply (seqEnd (defs := defs₀ (F := F)) 𝒱 e.c bd (sums_ok hG _ v3 v4)) $$ [HT H11 HvB]
  · iframe
  iintro %r ⟨%hr, HT, H11, HvB⟩
  dsimp only
  iapply (seq (defs := defs₀ (F := F)) 𝒱 e.c bd (loop_ok (defs := defs₀ (F := F)) 𝒱 e.c bd k0_t3_loop k0_t3_ok _ _ (fun k _ => I3 e i k) (hG.t3 v4 _ _ _ hr))) $$ [HvB H10 HvA]
  · unfold I3
    isplitl [HvB]
    · iexact HvB
    isplitl [H10]
    · iexact H10
    · iapply (held_mono e.c e.a12 (fun x _ v _ => fun h => absurd h (Nat.not_lt_zero _))) $$ HvA
  iintro %_ HI
  rw [show k0_t3_loop.trips = 4 by decide]
  unfold I3
  icases HI with ⟨HvB, H10, HvA⟩
  ihave HvA := (held_mono e.c e.a12 (Q := blockIs e.QO (i 0).val) (fun x _ v h => h (x 2).isLt)) $$ HvA
  iapply (out_put (defs := defs₀ (F := F)) e.c e.a12 e.a5 e.a18 e.QO 𝒱 bd (i 0).val ((i 0).val % 8) hi (by rw [k0_off110_eq]; simp) (by rw [k0_off109_eq, Nat.mod_eq_of_lt hi]) (by rw [k0_off108_eq]; simp)) $$ [HsA HvA HhA]
  · iframe
  iintro HFA
  iapply (out_put (defs := defs₀ (F := F)) e.c e.a13 e.a6 e.a19 e.QE 𝒱 bd (i 0).val ((i 0).val % 8) hi (by rw [k0_off110_eq]; simp) (by rw [k0_off109_eq, Nat.mod_eq_of_lt hi]) (by rw [k0_off108_eq]; simp)) $$ [HsB HvB HhB]
  · iframe
  iintro HFB
  ihave HA := HA $$ HFA
  ihave HB := HB $$ HFB
  ihave HIn := HIn $$ [Hs H11 Ht]
  · unfold Free
    iframe
  by_cases h3 : k0_cond3 i = 1#1
  · have h4 := (cond3_iff i).mp h3
    rw [dif_pos h3, show hiAt (i 0).val = (i 0).val + 24 from if_pos h4]
    unfold In
    ihave HIn := (queue_put (K := 24) (fun u s => Flying e u s 0) (Free e) (by decide) (by omega) (by omega)) $$ HIn
    icases HIn with ⟨HF, HIn⟩
    iapply Idealize.SL.Sem.fupd_wp
    imod (fetch_start e ((i 0).val + 24) (((i 0).val + 24) % 24)) $$ HF with HF
    imodintro
    iapply (fetch_ok e 𝒱 bd i _ h3 _ hf) $$ [H7 HF]
    · iframe
    iintro ⟨H7, HF⟩
    ihave HIn := HIn $$ HF
    iapply (tail_ok hS) $$ [HA HB HW]
    · unfold Outs
      iframe
    iintro ⟨HO, HW⟩
    iapply Hk
    rw [show hiAt ((i 0).val + 1) = (i 0).val + 24 + 1 by unfold hiAt; split <;> omega]
    unfold Outs
    iframe
  · have h4 : ¬ (i 0).val < 104 := fun h => h3 ((cond3_iff i).mpr h)
    rw [dif_neg h3, show hiAt (i 0).val = 128 from if_neg h4]
    iapply (tail_ok hS) $$ [HA HB HW]
    · unfold Outs
      iframe
    iintro ⟨HO, HW⟩
    iapply Hk
    rw [show hiAt ((i 0).val + 1) = 128 from if_neg (by omega)]
    unfold Outs
    iframe

/-- The program as these lemmas read it. -/
theorem program_eq (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) : cc0_embed_rmsnorm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
    = cc0_embed_rmsnorm_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 := by rw [cc0_embed_rmsnorm_eq_skeleton]

/-- One step. -/
theorem step_ok (hG : Good e 𝒱 bd i) (hS : Sizes e) (g : Buf (Elt F) (e.a11.view.loc (e.c : Thread nD τ)))
    (hQG : ∀ w : Vec F S1x8192 .bf16, (∀ y, w y = e.a4.view.read (Elt F) e.X4 y) → ∀ y, e.QG y (k0_pay110 w y)) :
    (iprop(St e (i 0).val ∗ ∃ W, owes (e.c : Thread nD τ) 0 W) : sProp 𝕄G)
      ⊢ wp frame (wpE (defs₀ (F := F)) 𝒱 (e.c : Thread nD τ) bd) Set.univ (cc0_embed_rmsnorm (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19)
        (fun _ => iprop(St e ((i 0).val + 1) ∗ ∃ W, owes (e.c : Thread nD τ) 0 W)) := by
  have hi : (i 0).val < 128 := (i 0).isLt
  rw [cc0_embed_rmsnorm_eq_skeleton]
  unfold cc0_embed_rmsnorm_skel
  rw [wp_bind]
  iintro H
  iapply (start_ok e 𝒱 bd i hQG) $$ H
  iintro ⟨HM, HW⟩
  rw [← wp_bind]
  unfold Mid Ids Scs In
  icases HM with ⟨⟨%f7, %hf, H7⟩, ⟨%f8, %hg, H8⟩, H10, Hb, HT, HIn, HO⟩
  have hlt : (i 0).val < hiAt (i 0).val := by unfold hiAt; split <;> omega
  have hle : hiAt (i 0).val ≤ (i 0).val + 24 := by unfold hiAt; split <;> omega
  ihave HIn := (queue_take (K := 24) (fun u s => Flying e u s 0) (Free e) (by decide) hlt hle) $$ HIn
  icases HIn with ⟨HF, HIn⟩
  iapply (first_ok e 𝒱 bd i hS.hN hf hg) $$ [H7 H8 HT HF HW]
  · iframe
  iintro %v3 %v4 ⟨H7, H8, HT, HF, HW⟩
  iapply (rest_ok hG hS g v3 v4 hf) $$ [H7 HT HF H10 HIn HO HW]
  · unfold In
    iframe
  iintro ⟨H7, HT, H10, HIn, HO, HW⟩
  unfold St
  rw [if_neg (by omega)]
  unfold Mid Ids Scs
  iframe
  isplitl [H7]
  · iexists f7
    isplitr
    · ipureintro; exact hf
    · iexact H7
  · iexists f8
    isplitr
    · ipureintro; exact hg
    · iexact H8

end Cert.Kernel.Hand
-- ==== Proof.Ends.lean ====
module

public import proofs.«01_k».proof.Proof.Steps
public import Idealize.ShloMosaic.Lib.PageRing.Basic
public import Idealize.ShloMosaic.Lib.Ring

/-!
Before the first step and after the last: what the launch gives is what the first step holds, and what the last step leaves is
what the launch takes back.
-/

@[expose] public section

set_option maxRecDepth 8192

noncomputable section

namespace Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type}

local notation "𝕄" => MT nD τ sig Unit (Elt F) ℕ (Pipeline.UD sig nD τ) ℕ

section
variable (c : Dev nD) {cs : Space} {s : Shape} {t : EltTy} (m : Memref sig .tc cs s t)

/-- A whole buffer, whatever it holds, -/
theorem held_of (h : m.IsWhole) : (iprop(∃ f, m.view.loc (c : Thread nD τ) ↦{fullShare} f) : sProp 𝕄) ⊢ held c m Finset.univ anyP := by
  unfold held
  rw [show m.view.setOn Finset.univ = m.view.set from rfl, h.set_eq_univ]
  iintro ⟨%f, H⟩
  iexists f
  isplitr
  · ipureintro; exact fun _ _ => trivial
  · iexact H

/-- and back, with what is known of it. -/
theorem of_held (h : m.IsWhole) (P : s.Idx → Elt F t → Prop) :
    (held c m Finset.univ P : sProp 𝕄) ⊢ iprop(∃ f, ⌜∀ x, P x (m.view.read (Elt F) f x)⌝ ∗ (m.view.loc (c : Thread nD τ) ↦{fullShare} f)) := by
  unfold held
  rw [show m.view.setOn Finset.univ = m.view.set from rfl, h.set_eq_univ]
  iintro ⟨%f, %hf, H⟩
  iexists f
  isplitr
  · ipureintro; exact fun x => hf x (Finset.mem_univ x)
  · iexact H

theorem some_held (h : m.IsWhole) (P : s.Idx → Elt F t → Prop) :
    (held c m Finset.univ P : sProp 𝕄) ⊢ iprop(∃ f, m.view.loc (c : Thread nD τ) ↦{fullShare} f) := by
  refine (of_held c m h P).trans ?_
  iintro ⟨%f, -, H⟩
  iexists f
  iexact H

end

/-- What a step's sums, the widened gain and the two results are to be. -/
structure Goals (F : FTy → Type) where
  ACC : ℕ → ℕ → ((⟨2, ![8, 128]⟩ : Shape).Idx → Elt F .f32) → ((⟨2, ![8, 128]⟩ : Shape).Idx → Elt F .f32) → Prop
  SUM : ℕ → ((⟨2, ![8, 1]⟩ : Shape).Idx → Elt F .f32) → ((⟨2, ![8, 1]⟩ : Shape).Idx → Elt F .f32) → F .f32 → Prop
  QG : (⟨2, ![8, 8192]⟩ : Shape).Idx → Elt F .f32 → Prop
  QO : (⟨2, ![2048, 8192]⟩ : Shape).Idx → Elt F .bf16 → Prop
  QE : (⟨2, ![2048, 8192]⟩ : Shape).Idx → Elt F .bf16 → Prop

/-- Nothing is asked of them. -/
def noGoals : Goals F where
  ACC _ _ _ _ := True
  SUM _ _ _ _ := True
  QG := anyP
  QO := anyP
  QE := anyP

variable (e : Env nD τ sig F)

/-- The tokens of the table, one for every transfer that can be on its way. -/
theorem toks_eq : bigSep (Finset.range 384) (fun n => e.a2.view.loc (e.c : Thread nD τ) ↦{Transfers.shareTokN fullShare n} e.T)
    = (bigSep Finset.univ fun o : Fin 24 => bigSep Finset.univ fun t : Fin 16 => tokAll e o.val t.val : sProp 𝕄) := by
  rw [show 384 = 24 * 16 from rfl, PageRing.bigSep_range_mul,
    Ring.bigSep_fin_eq_range 24 _ (fun o => bigSep Finset.univ fun t : Fin 16 => (tokAll e o t.val : sProp 𝕄)) fun _ _ => rfl]
  refine BI.bigSep_congr fun o _ => ?_
  rw [Ring.bigSep_fin_eq_range 16 _ (fun t => (tokAll e o t : sProp 𝕄)) fun _ _ => rfl]
  rfl

/-- The buffers and semaphores a step works in. -/
def Own : sProp 𝕄 := iprop(
  (∃ f, e.a7.view.loc (e.c : Thread nD τ) ↦{fullShare} f) ∗ (∃ f, e.a8.view.loc (e.c : Thread nD τ) ↦{fullShare} f)
  ∗ (∃ f, e.a9.view.loc (e.c : Thread nD τ) ↦{fullShare} f) ∗ (∃ f, e.a10.view.loc (e.c : Thread nD τ) ↦{fullShare} f)
  ∗ (∃ f, e.a11.view.loc (e.c : Thread nD τ) ↦{fullShare} f) ∗ (∃ f, e.a12.view.loc (e.c : Thread nD τ) ↦{fullShare} f)
  ∗ (∃ f, e.a13.view.loc (e.c : Thread nD τ) ↦{fullShare} f) ∗ (∃ f, e.a14.view.loc (e.c : Thread nD τ) ↦{fullShare} f)
  ∗ (∃ f, e.a15.view.loc (e.c : Thread nD τ) ↦{fullShare} f)
  ∗ semVal ((e.c : Thread nD τ), .dma (semA e 0 (by decide))) 0
  ∗ semVal ((e.c : Thread nD τ), .dma (semA e 1 (by decide))) 0
  ∗ semVal ((e.c : Thread nD τ), .dma (semA e 2 (by decide))) 0
  ∗ (bigSep Finset.univ fun o : Fin 24 => semVal ((e.c : Thread nD τ), .dma (semI e o.val)) 0)
  ∗ (bigSep Finset.univ fun o : Fin 8 => semVal ((e.c : Thread nD τ), .dma (semO e.a18 o.val)) 0)
  ∗ (bigSep Finset.univ fun o : Fin 8 => semVal ((e.c : Thread nD τ), .dma (semO e.a19 o.val)) 0))

/-- The inputs a step reads. -/
def Inputs : sProp 𝕄 := iprop(
  (e.a1.view.loc (e.c : Thread nD τ) ↦{fullShare} e.X1) ∗ (e.a2.view.loc (e.c : Thread nD τ) ↦{fullShare} e.T)
  ∗ (e.a3.view.loc (e.c : Thread nD τ) ↦{fullShare} e.X3) ∗ (e.a4.view.loc (e.c : Thread nD τ) ↦{fullShare} e.X4))

/-- The launch gives what the first step holds. -/
theorem launch_start : iprop(Own e ∗ Inputs e ∗ (∃ f, e.a5.view.loc (e.c : Thread nD τ) ↦{fullShare} f)
      ∗ (∃ f, e.a6.view.loc (e.c : Thread nD τ) ↦{fullShare} f)) ⊢ (St e 0 : sProp 𝕄) := by
  unfold St; rw [if_pos rfl]
  unfold Own Inputs Start Base Tmp In Outs
  rw [queue_empty (K := 24) _ _ (Nat.le_refl 0)]
  unfold Free
  rw [bigSep_sep', bigSep_sep', ← toks_eq e]
  rw [e.h1.set_eq_univ, e.h3.set_eq_univ, e.h4.set_eq_univ, e.h7.set_eq_univ, e.h8.set_eq_univ, e.h9.set_eq_univ]
  iintro ⟨⟨H7, H8, H9, H10, H11, H12, H13, H14, H15, S0, S1, S2, SI, SO, SE⟩, ⟨H1, H2, H3, H4⟩, H5, H6⟩
  ihave ⟨H2, HT⟩ := (Transfers.pointsTo_toks_range fullShare 384).1 $$ H2
  isplitl [H7]; · iexact H7
  isplitl [H8]; · iexact H8
  isplitl [H10]; · iapply (held_of e.c e.a10 e.h10) $$ H10
  isplitl [H1 H3 H4 H9 S0 S1 S2 H2]
  · iframe
  isplitl [H14 H15]
  · isplitl [H14]
    · iapply (held_of e.c e.a14 e.h14) $$ H14
    · iapply (held_of e.c e.a15 e.h15) $$ H15
  isplitl [SI H11 HT]
  · isplitl [SI]; · iexact SI
    isplitl [H11]
    · ihave H11 := (held_of e.c e.a11 e.h11) $$ H11
      iapply (held_split e.c e.a11 (fun o : Fin 24 => (slotR o.val).set) slots_disjoint slots_union anyP) $$ H11
    · iexact HT
  isplitl [SO H12 H5]
  · iapply (out_start e.c e.a12 e.a5 e.a18 e.QO)
    isplitl [SO]; · iexact SO
    isplitl [H12]
    · iapply (held_of e.c e.a12 e.h12) $$ H12
    · iapply (held_of e.c e.a5 e.h5) $$ H5
  · iapply (out_start e.c e.a13 e.a6 e.a19 e.QE)
    isplitl [SE]; · iexact SE
    isplitl [H13]
    · iapply (held_of e.c e.a13 e.h13) $$ H13
    · iapply (held_of e.c e.a6 e.h6) $$ H6

/-- The last step leaves what the launch takes back, the results being what they are to be. -/
theorem launch_end (g5 : Buf (Elt F) (e.a5.view.loc (e.c : Thread nD τ))) (g6 : Buf (Elt F) (e.a6.view.loc (e.c : Thread nD τ)))
    (g11 : Buf (Elt F) (e.a11.view.loc (e.c : Thread nD τ))) (g12 : Buf (Elt F) (e.a12.view.loc (e.c : Thread nD τ)))
    (g13 : Buf (Elt F) (e.a13.view.loc (e.c : Thread nD τ))) :
    (St e 128 : sProp 𝕄) ⊢ iprop(Own e ∗ Inputs e
      ∗ (∃ f, ⌜∀ x, e.QO x (e.a5.view.read (Elt F) f x)⌝ ∗ (e.a5.view.loc (e.c : Thread nD τ) ↦{fullShare} f))
      ∗ (∃ f, ⌜∀ x, e.QE x (e.a6.view.read (Elt F) f x)⌝ ∗ (e.a6.view.loc (e.c : Thread nD τ) ↦{fullShare} f))) := by
  unfold St; rw [if_neg (by decide), show loAt 128 = 128 from rfl, show hiAt 128 = 128 from rfl]
  unfold Own Inputs Mid Ids Scs Base Tmp In Outs
  rw [queue_empty (K := 24) _ _ (Nat.le_refl 128)]
  unfold Free
  rw [bigSep_sep', bigSep_sep', ← toks_eq e]
  rw [e.h1.set_eq_univ, e.h3.set_eq_univ, e.h4.set_eq_univ, e.h7.set_eq_univ, e.h8.set_eq_univ, e.h9.set_eq_univ]
  iintro ⟨⟨%f7, -, H7⟩, ⟨%f8, -, H8⟩, H10, ⟨H1, H3, H4, H9, S0, S1, S2, H2⟩, ⟨H14, H15⟩, ⟨SI, H11, HT⟩, HO, HE⟩
  ihave H2 := (Transfers.pointsTo_toks_range fullShare 384).2 $$ [H2 HT]
  · iframe
  ihave ⟨SO, H12, H5⟩ := (out_end e.c e.a12 e.a5 e.a18 e.QO g12 g5) $$ HO
  ihave ⟨SE, H13, H6⟩ := (out_end e.c e.a13 e.a6 e.a19 e.QE g13 g6) $$ HE
  ihave H11 := (held_join e.c e.a11 (fun o : Fin 24 => (slotR o.val).set) g11 slots_disjoint slots_union anyP) $$ H11
  ihave H10 := (some_held e.c e.a10 e.h10 e.QG) $$ H10
  ihave H11 := (some_held e.c e.a11 e.h11 anyP) $$ H11
  ihave H12 := (some_held e.c e.a12 e.h12 anyP) $$ H12
  ihave H13 := (some_held e.c e.a13 e.h13 anyP) $$ H13
  ihave H14 := (some_held e.c e.a14 e.h14 anyP) $$ H14
  ihave H15 := (some_held e.c e.a15 e.h15 anyP) $$ H15
  ihave H5 := (of_held e.c e.a5 e.h5 e.QO) $$ H5
  ihave H6 := (of_held e.c e.a6 e.h6 e.QE) $$ H6
  isplitl [H7 H8 H9 H10 H11 H12 H13 H14 H15 S0 S1 S2 SI SO SE]
  · isplitl [H7]; · iexists f7; iexact H7
    isplitl [H8]; · iexists f8; iexact H8
    iframe
  · iframe

end Cert.Hand
-- ==== Proof.KLaunch.lean ====
module

public import proofs.«01_k».proof.Proof.Gen.Kernel.Skeleton
public import proofs.«01_k».proof.Proof.Gen.Kernel.Loops
public import proofs.«01_k».proof.Proof.Gen.Kernel.Frame
public import proofs.«01_k».proof.Proof.KStep
public import proofs.«01_k».proof.Proof.Ends
public import proofs.«01_k».proof.Proof.Gen.Kernel.Launch
public import proofs.«01_k».proof.Proof.Gen.Kernel.Points
public import Idealize.ShloMosaic.Lib.Pipeline.FrameBody
public import Idealize.ShloMosaic.Lib.Pipeline.FrameSuffixV
public import Idealize.ShloMosaic.Lib.Exec
public import Idealize.ShloMosaic.Lib.Tactic
public import Idealize.ShloMosaic.Lib.VecWindow

/-!
The launch: what the region finds and leaves, and the run of the whole program.
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the region finds -/

/-- Every index is a row of the table. -/
def InTable : Prop := ∀ (c : Dev nD) (x : S1x2048.Idx),
  ((Memref.whole main_arg0 : Memref sig .tc .hbm S1x2048 .i32).view.read (Elt F) (V m c main_arg0) x : BitVec 32).toNat < 32512

variable (hm : InTable m) (G : Dev nD → Goals F)

/-- What a step on core `c` is about. -/
def env (c : Dev nD) : Env nD τ sig F where
  c := c
  a1 := Memref.whole main_arg0
  h1 := Memref.isWhole_whole _
  a2 := Memref.whole main_v2
  h2 := Memref.isWhole_whole _
  a3 := Memref.whole main_arg2
  h3 := Memref.isWhole_whole _
  a4 := Memref.whole main_v3
  h4 := Memref.isWhole_whole _
  a5 := Memref.whole main_v4_0
  h5 := Memref.isWhole_whole _
  a6 := Memref.whole main_v4_1
  h6 := Memref.isWhole_whole _
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _
  a16 := cc0_scratch9
  a17 := cc0_scratch10
  a18 := cc0_scratch11
  a19 := cc0_scratch12
  T := V m c main_v2
  ids := (Memref.whole main_arg0 : Memref sig .tc .hbm S1x2048 .i32).view.read (Elt F) (V m c main_arg0)
  hids := hm c
  scales := (Memref.whole main_arg2 : Memref sig .tc .hbm S32512 .f32).view.read (Elt F) (V m c main_arg2)
  X1 := V m c main_arg0
  hX1 _ := rfl
  X3 := V m c main_arg2
  hX3 _ := rfl
  X4 := V m c main_v3
  QS _ _ _ := True
  QC _ _ _ := True
  ACC := (G c).ACC
  SUM := (G c).SUM
  QG := (G c).QG
  QO := (G c).QO
  QE := (G c).QE

/-- What the transfers credit. -/
theorem sizes (c : Dev nD) : Sizes (env m hm G c) where
  hN := rfl
  hN0 := show 0 < sig.dmaCredit .tc (Kind.tc.table .vmem) (Memref.whole cc0_scratch4).view.buf ⟨2, ![1, 8192]⟩ .i32 by decide
  hA := show 0 < sig.dmaCredit .tc (Kind.tc.table .hbm) (Memref.whole main_v4_0).view.buf ⟨2, ![16, 8192]⟩ .bf16 by decide
  hB := show 0 < sig.dmaCredit .tc (Kind.tc.table .hbm) (Memref.whole main_v4_1).view.buf ⟨2, ![16, 8192]⟩ .bf16 by decide

/-! ## The body's semaphores and buffers -/

/-- The body's DMA cells: of the first loads, of the fetched blocks, of the two rings of results. -/
def osem0 : Fin 3 ⊕ Fin 24 ⊕ Fin 8 ⊕ Fin 8 → SemLoc sig
  | .inl j => .dma ⟨j.val, by have := j.isLt; show j.val < 43; omega⟩
  | .inr (.inl j) => .dma ⟨3 + j.val, by have := j.isLt; show 3 + j.val < 43; omega⟩
  | .inr (.inr (.inl j)) => .dma ⟨27 + j.val, by have := j.isLt; show 27 + j.val < 43; omega⟩
  | .inr (.inr (.inr j)) => .dma ⟨35 + j.val, by have := j.isLt; show 35 + j.val < 43; omega⟩

theorem ownSemFacts0 : Pipeline.OwnSemFacts (cfgs 0).spec osem0 := by decide

theorem semI_eq (c : Dev nD) (j : Fin 24) : osem0 (.inr (.inl j)) = .dma (semI (env m hm G c) j.val) := by
  fin_cases j <;> rfl
theorem semO_eq (c : Dev nD) (j : Fin 8) : osem0 (.inr (.inr (.inl j))) = .dma (semO (env m hm G c).a18 j.val) := by
  fin_cases j <;> rfl
theorem semE_eq (c : Dev nD) (j : Fin 8) : osem0 (.inr (.inr (.inr j))) = .dma (semO (env m hm G c).a19 j.val) := by
  fin_cases j <;> rfl

theorem ownSems0_eq (c : Dev nD) :
    (Pipeline.ownSems0 (Ix := Unit) (Name := ℕ) (U := Pipeline.UD sig nD τ) (Lvl := ℕ) (Val := Elt F) (τ := τ) osem0 c : sProp 𝕄G)
      = iprop((semVal ((c : Thread nD τ), .dma (semA (env m hm G c) 0 (by decide))) 0
          ∗ semVal ((c : Thread nD τ), .dma (semA (env m hm G c) 1 (by decide))) 0
          ∗ semVal ((c : Thread nD τ), .dma (semA (env m hm G c) 2 (by decide))) 0)
        ∗ (bigSep Finset.univ fun o : Fin 24 => semVal ((c : Thread nD τ), .dma (semI (env m hm G c) o.val)) 0)
        ∗ (bigSep Finset.univ fun o : Fin 8 => semVal ((c : Thread nD τ), .dma (semO (env m hm G c).a18 o.val)) 0)
        ∗ (bigSep Finset.univ fun o : Fin 8 => semVal ((c : Thread nD τ), .dma (semO (env m hm G c).a19 o.val)) 0)) := by
  unfold Pipeline.ownSems0
  rw [BI.bigSep_univ_sum, BI.bigSep_univ_sum, BI.bigSep_univ_sum]
  have hI : (bigSep Finset.univ fun o : Fin 24 => semVal ((c : Thread nD τ), osem0 (.inr (.inl o))) 0 : sProp 𝕄G)
      = bigSep Finset.univ fun o : Fin 24 => semVal ((c : Thread nD τ), .dma (semI (env m hm G c) o.val)) 0 := BI.bigSep_congr fun j _ => by rw [semI_eq m hm G c j]
  have hO : (bigSep Finset.univ fun o : Fin 8 => semVal ((c : Thread nD τ), osem0 (.inr (.inr (.inl o)))) 0 : sProp 𝕄G)
      = bigSep Finset.univ fun o : Fin 8 => semVal ((c : Thread nD τ), .dma (semO (env m hm G c).a18 o.val)) 0 := BI.bigSep_congr fun j _ => by rw [semO_eq m hm G c j]
  have hE : (bigSep Finset.univ fun o : Fin 8 => semVal ((c : Thread nD τ), osem0 (.inr (.inr (.inr o)))) 0 : sProp 𝕄G)
      = bigSep Finset.univ fun o : Fin 8 => semVal ((c : Thread nD τ), .dma (semO (env m hm G c).a19 o.val)) 0 := BI.bigSep_congr fun j _ => by rw [semE_eq m hm G c j]
  rw [hI, hO, hE]
  rw [BI.bigSep_eq_bigSepL_of_eq [(0 : Fin 3), 1, 2] (by decide) (by decide)]
  rfl

theorem own_of (c : Dev nD) :
    (iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem0 c) : sProp 𝕄G)
    ⊢ Own (env m hm G c) := by
  rw [ownSems0_eq m hm G c]
  refine (sep_mono_left (Entails.of_eq (scopedRest0_eq c))).trans ?_
  unfold Own
  iintro ⟨⟨H9, H10, H11, H12, H13, H14, H15, H7, H8⟩, ⟨S0, S1, S2⟩, SI, SO, SE⟩
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [SI]; · iexact SI
  isplitl [SO]; · iexact SO
  iexact SE

theorem of_own (c : Dev nD) :
    (Own (env m hm G c) : sProp 𝕄G)
    ⊢ iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem0 c) := by
  rw [ownSems0_eq m hm G c]
  refine BIBase.Entails.trans ?_ (sep_mono_left (Entails.of_eq (scopedRest0_eq c).symm))
  unfold Own
  iintro ⟨H7, H8, H9, H10, H11, H12, H13, H14, H15, S0, S1, S2, SI, SO, SE⟩
  isplitr [S0 S1 S2 SI SO SE]
  · isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H7]; · iexact H7
    iexact H8
  · isplitl [S0 S1 S2]
    · isplitl [S0]; · iexact S0
      isplitl [S1]; · iexact S1
      iexact S2
    isplitl [SI]; · iexact SI
    isplitl [SO]; · iexact SO
    iexact SE

/-- The buffers in HBM the body reads, -/
def H0 : Finset (Ref sig .tc) := {main_arg0, main_v2, main_arg2, main_v3}
/-- those it writes, -/
def R0 : Finset (Ref sig .tc) := {main_v4_0, main_v4_1}
/-- and those the host writes afterwards. -/
def T0 : Finset (Ref sig .tc) := {main_v5, main_v6}
theorem H0_sub : H0 ⊆ Pipeline.restRefs sig spec0 := by decide
theorem R0_sub : R0 ⊆ Pipeline.restRefs sig spec0 \ H0 := by decide

theorem inputs_eq (c : Dev nD) :
    (bigSep H0 (fun b => ((c : Thread nD τ).loc b) ↦{fullShare} V m c b) : sProp 𝕄G) = Inputs (env m hm G c) := by
  unfold H0
  rw [BI.bigSep_eq_bigSepL_of_eq [main_arg0, main_v2, main_arg2, main_v3] (by decide) (by decide)]
  rfl

theorem results_eq (Φ : Ref sig .tc → sProp 𝕄G) : bigSep R0 Φ = iprop(Φ main_v4_0 ∗ Φ main_v4_1) := by
  unfold R0
  rw [BI.bigSep_eq_bigSepL_of_eq [main_v4_0, main_v4_1] (by decide) (by decide)]
  rfl

theorem owned_eq (c : Dev nD) : (Pipeline.owned (Val := Elt F) R0 c : sProp 𝕄G)
    = iprop((∃ f : Buf (Elt F) ((c : Thread nD τ).loc main_v4_0), ((c : Thread nD τ).loc main_v4_0) ↦{fullShare} f)
      ∗ (∃ f : Buf (Elt F) ((c : Thread nD τ).loc main_v4_1), ((c : Thread nD τ).loc main_v4_1) ↦{fullShare} f)) := by
  unfold Pipeline.owned
  exact results_eq _

/-! ## The pipeline -/

/-- The one pipeline: no windows, the invariant `St`, nothing owed. -/
def dats (_ : Fin 1) (c : Dev nD) : Dat τ (Elt F) Unit ℕ (Pipeline.UD sig nD τ) ℕ cfg0 c where
  A w := w.elim0
  after w _ := w.elim0
  Φ t := iprop(St (env m hm G c) t.val ∗ ∃ r, prngReg c r)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem coords_val (t : Fin cfg0.N) : ((grid0.coords t) 0).val = t.val := by
  revert t; decide +kernel

/-- What a step's arithmetic and the widened gain are to do, on every core and at every step. -/
structure AllGood : Prop where
  good : ∀ c i, Good (env m hm G c) Variants.none none i
  gain : ∀ c (w : Vec F S1x8192 .bf16), (∀ y, w y = (env m hm G c).a4.view.read (Elt F) (env m hm G c).X4 y) → ∀ y, (G c).QG y (k0_pay110 w y)

variable {m hm G}

theorem sound_body (hG : AllGood m hm G) (c : Dev nD) (t : Fin cfg0.N) :
    (iprop((dats m hm G 0 c).Φ t.castSucc ∗ (dats m hm G 0 c).owesAt () t.castSucc) : sProp 𝕄G)
      ⊢ wp frame (wpE (defs₀ (F := F)) Variants.none (c : Thread nD τ) none) Set.univ (bodyAt0 t)
        (fun _ => iprop((dats m hm G 0 c).Φ t.succ ∗ (dats m hm G 0 c).owesAt () t.succ)) := by
  have hs := step_ok (i := grid0.coords t) (hG.good c (grid0.coords t)) (sizes m hm G c) (V m c cc0_scratch4) (hG.gain c)
  rw [coords_val] at hs
  unfold Dat.owesAt Pipeline.owesWithin
  rw [show (dats m hm G 0 c).owed t.castSucc = 0 from rfl, show (dats m hm G 0 c).owed t.succ = 0 from rfl]
  rw [show (dats m hm G 0 c).Φ t.castSucc = iprop(St (env m hm G c) t.val ∗ ∃ r, prngReg c r) from rfl,
    show (dats m hm G 0 c).Φ t.succ = iprop(St (env m hm G c) (t.val + 1) ∗ ∃ r, prngReg c r) from rfl]
  iintro ⟨⟨HS, HX⟩, ⟨%W, -, HW⟩⟩
  ihave Hw := hs $$ [HS HW]
  · isplitl [HS]
    · iexact HS
    · iexists W; iexact HW
  iapply (wp_wand _ _ _) $$ Hw
  iintro %u ⟨HS, ⟨%W', HW'⟩⟩
  isplitl [HS HX]
  · isplitl [HS]
    · iexact HS
    · iexact HX
  · iexists W'
    isplitr
    · ipureintro; exact fun _ _ => Or.inl trivial
    · iexact HW'

theorem body_obligation (hG : AllGood m hm G) (c : Dev nD) : BodyObligation (dats m hm G 0 c) (defs₀ (F := F)) Variants.none () Set.univ := fun t => by
  rw [defs₀_row]
  refine BIBase.Entails.trans ?_ ((sound_body hG c t).trans (wp_mono _ _ _ fun _ => ?_))
  · iintro ⟨H1, H2, -⟩
    isplitl [H1]; · iexact H1
    iexact H2
  · iintro ⟨H1, H2⟩
    isplitl [H1]; · iexact H1
    isplitl [H2]; · iexact H2
    rw [show (Finset.univ : Finset (Fin cfg0.W)) = ∅ from rfl, BI.bigSep_empty]
    iempintro

theorem hmain : Pipeline.HMainK (Ix := Unit) (Name := ℕ) (U := Pipeline.UD sig nD τ) (Lvl := ℕ) cfgs 0 defs₀ Variants.none m (main (F := F))
    (fun c b => V0 m c (Proc.devRef .tc b)) (fun _ => Pipeline.chain ([hostOps1 (F := F)].map StableHlo.seq)) :=
  Pipeline.hmain_around cfgs 0 defs₀ Variants.none m main [hostOps0] [hostOps1]
    (by simp only [List.Forall]; exact hostOps0_sub) (by simp only [List.Forall]; exact hostOps0_fresh) main_chain

theorem tail_writes : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [List.mem_cons, List.mem_nil_iff, or_false] at hop
  rcases hop with rfl | rfl <;>
    (rw [StableHlo.reshape_writes, Finset.mem_singleton] at hb; cases Proc.devRef_injective _ hb; decide)

set_option backward.isDefEq.respectTransparency.types false in
theorem run_main (hG : AllGood m hm G) : θ_run defs (onTc (τ := τ) (main (F := F))) (s₀ m ρ)
    (fun r => Pipeline.FramePostR cfgs (dats m hm G) 0 (R0 ∪ T0) (V m) r ∧ r.2.sem = fun _ => 0) :=
  Pipeline.θ_run_frame_dmaR_around (Q' := _) cfgs (dats m hm G) (0 : Fin 1) launch0 osem0 defs₀ Variants.none ownSemFacts0 H0 R0 T0 H0_sub R0_sub m ρ main
    (hbody := fun c => (body_obligation hG c).loose) (hshare := fun c => (dats m hm G 0 c).share_full fun _ => rfl)
    (howed := fun _ _ => rfl) (V₀ := V0 m) (opss := [hostOps1]) sfx_sub sfx_fresh sfx_keeps tail_writes (hmain := hmain) (hA := fun _ w => w.elim0)
    (hin := fun c => by
      rw [Pipeline.ΦDR_eq, inputs_eq m hm G c]
      show _ ⊢ iprop(St (env m hm G c) 0 ∗ ∃ r, prngReg c r)
      rw [owned_eq c]
      iintro ⟨HS, HP, HO, HI, H5, H6⟩
      isplitr [HP]
      · iapply (launch_start (env m hm G c))
        isplitl [HS HO]
        · iapply (own_of m hm G c)
          isplitl [HS]; · iexact HS
          iexact HO
        isplitl [HI]; · iexact HI
        isplitl [H5]; · iexact H5
        iexact H6
      · iexact HP)
    (hout := fun c => by
      rw [Pipeline.ΦDR_eq, inputs_eq m hm G c]
      show iprop(St (env m hm G c) 128 ∗ ∃ r, prngReg c r) ⊢ _
      rw [owned_eq c]
      iintro ⟨HS, HP⟩
      ihave ⟨HO, HI, ⟨%f5, -, H5⟩, ⟨%f6, -, H6⟩⟩ := (launch_end (env m hm G c) (V m c main_v4_0) (V m c main_v4_1) (V m c cc0_scratch4) (V m c cc0_scratch5) (V m c cc0_scratch6)) $$ HS
      ihave ⟨HS, HO⟩ := (of_own m hm G c) $$ HO
      isplitl [HS]; · iexact HS
      isplitl [HP]; · iexact HP
      isplitl [HO]; · iexact HO
      isplitl [HI]; · iexact HI
      isplitl [H5]; · iexists f5; iexact H5
      iexists f6; iexact H6)

/-- The frame. -/
theorem frame (hG : AllGood m hm G) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main ρ hG)

end Cert.Kernel.Hand
-- ==== Proof.KAny.lean ====
module

public import proofs.«01_k».proof.Proof.Gen.Kernel.Skeleton
public import proofs.«01_k».proof.Proof.Gen.Kernel.Loops
public import proofs.«01_k».proof.Proof.Gen.Kernel.Frame
public import proofs.«01_k».proof.Proof.KRest
public import Idealize.ShloMosaic.Lib.Exec
public import Idealize.ShloMosaic.Lib.Tactic
public import Idealize.ShloMosaic.Lib.VecWindow

/-!
The two loops, whatever the buffers hold.
-/

@[expose] public section

set_option maxRecDepth 8192
set_option maxHeartbeats 4000000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

variable {e : Env nD τ sig F} {𝒱 : Variants} {bd : Option 𝒱.V} {i : grid0.Coords}

theorem slot_set (s : ℕ) : (slotR (s % 24)).set = (slotR s).set := by
  ext x; rw [mem_slotR, mem_slotR, Nat.mod_mod]

theorem out_set (s : ℕ) : (outR (s % 8)).set = (outR s).set := by
  ext x; rw [mem_outR, mem_outR, Nat.mod_mod]

theorem held_any {cs : CoreSpace} {s : Shape} {t : EltTy} (c : Dev nD) (m : Memref sig .tc cs s t) (A : Finset s.Idx) (f : Buf (Elt F) (m.view.loc (c : Thread nD τ))) :
    (m.view.loc (c : Thread nD τ) ↦[m.view.setOn A]{fullShare} f : sProp 𝕄G)
      ⊢ iprop(∃ g, ⌜∀ x ∈ A, anyP x (m.view.read (Elt F) g x)⌝ ∗ (m.view.loc (c : Thread nD τ) ↦[m.view.setOn A]{fullShare} g)) := by
  iintro H
  iexists f
  isplitr
  · ipureintro; exact fun _ _ => trivial
  · iexact H

theorem held_all {cs : CoreSpace} {s : Shape} {t : EltTy} (c : Dev nD) (m : Memref sig .tc cs s t) (f : Buf (Elt F) (m.view.loc (c : Thread nD τ))) :
    (m.view.loc (c : Thread nD τ) ↦[m.view.set]{fullShare} f : sProp 𝕄G)
      ⊢ iprop(∃ g, ⌜∀ x ∈ Finset.univ, anyP x (m.view.read (Elt F) g x)⌝ ∗ (m.view.loc (c : Thread nD τ) ↦[m.view.set]{fullShare} g)) :=
  held_any c m Finset.univ f

/-- A trip of the first loop touches the block's words and its slot of the ring of results, whatever they hold; the words stay. -/
theorem trip2_any (P : WS.Idx → Elt F .i32 → Prop) (arg0 v3 v4 : BitVec 32) (w0 w1 : Vec F S1x8x128 .i32) (s0 s1 : Vec F S1x8x128 .f32) (k acc) :
    (iprop(held e.c e.a11 (slotR ((i 0).val % 24)).set P ∗ held e.c e.a13 (outR ((i 0).val % 8)).set anyP) : sProp 𝕄G)
      ⊢ wp frame (wpE (defs₀ (F := F)) 𝒱 (e.c : Thread nD τ) bd) Set.univ (k0_t2_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 w0 w1 s0 s1 k acc)
        (fun _ => iprop(held e.c e.a11 (slotR ((i 0).val % 24)).set P ∗ held e.c e.a13 (outR ((i 0).val % 8)).set anyP)) := by
  have hk : k.val < 4 := Nat.lt_of_lt_of_le k.isLt k0_t2_abs.2.1
  rw [slot_set, out_set]
  unfold k0_t2_body held
  iintro ⟨⟨%X, %hX, HR⟩, ⟨%Y, %_, HW⟩⟩
  sl_exec
  sl_step
  isplitl [HR]
  · iexists X
    isplitr
    · ipureintro; exact hX
    · iexact HR
  · iapply (held_any e.c e.a13 _ _) $$ HW

/-- A trip of the second loop likewise. -/
theorem trip3_any (P : OS.Idx → Elt F .bf16 → Prop) (Q : S8x8192.Idx → Elt F .f32 → Prop) (v4 : BitVec 32) (m0 m1 : FVec F S8x1 .f32) (u : F .f32) (k acc) :
    (iprop(held e.c e.a13 (outR ((i 0).val % 8)).set P ∗ held e.c e.a10 Finset.univ Q ∗ held e.c e.a12 (outR ((i 0).val % 8)).set anyP) : sProp 𝕄G)
      ⊢ wp frame (wpE (defs₀ (F := F)) 𝒱 (e.c : Thread nD τ) bd) Set.univ (k0_t3_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 v4 m0 m1 u k acc)
        (fun _ => iprop(held e.c e.a13 (outR ((i 0).val % 8)).set P ∗ held e.c e.a10 Finset.univ Q ∗ held e.c e.a12 (outR ((i 0).val % 8)).set anyP)) := by
  have hk : k.val < 4 := Nat.lt_of_lt_of_le k.isLt k0_t3_abs.2.1
  rw [out_set]
  unfold k0_t3_body held
  rw [show e.a10.view.setOn Finset.univ = e.a10.view.set from rfl]
  iintro ⟨⟨%X, %hX, HR⟩, ⟨%Y, %hY, HG⟩, ⟨%Z, %_, HW⟩⟩
  sl_exec
  sl_step
  isplitl [HR]
  · iexists X
    isplitr
    · ipureintro; exact hX
    · iexact HR
  isplitl [HG]
  · iexists Y
    isplitr
    · ipureintro; exact hY
    · iexact HG
  · iapply (held_any e.c e.a12 _ _) $$ HW

end Cert.Kernel.Hand
-- ==== Proof.KGood.lean ====
module

public import proofs.«01_k».proof.Proof.Gen.Kernel.Skeleton
public import proofs.«01_k».proof.Proof.Gen.Kernel.Loops
public import proofs.«01_k».proof.Proof.Gen.Kernel.Frame
public import proofs.«01_k».proof.Proof.KLaunch
public import proofs.«01_k».proof.Proof.KAny
public import Idealize.ShloMosaic.Lib.Exec
public import Idealize.ShloMosaic.Lib.Tactic
public import Idealize.ShloMosaic.Lib.VecWindow

/-!
The step with nothing asked of its arithmetic.
-/

@[expose] public section

set_option maxRecDepth 8192
set_option maxHeartbeats 400000

noncomputable section

namespace Cert.Kernel.Hand
open Cert.Kernel Cert.Kernel.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the launch. -/
local notation "𝕄G" => MT nD τ sig Unit (Elt F) ℕ (Pipeline.UD sig nD τ) ℕ

theorem good_any {e : Env nD τ sig F} {𝒱 : Variants} {bd : Option 𝒱.V} {i : grid0.Coords} (hA : ∀ p k a b, e.ACC p k a b) (hS : ∀ p a b u, e.SUM p a b u)
    (hE : ∀ x v, e.QE x v) (hO : ∀ x v, e.QO x v) : Good e 𝒱 bd i where
  acc0 := hA _ _ _ _
  sum _ _ _ := hS _ _ _ _
  t2 arg0 v3 v4 w0 w1 s0 s1 _ _ _ _ k acc := by
    unfold I2
    iintro ⟨H11, H13, -⟩
    ihave Hw := (trip2_any (e := e) (𝒱 := 𝒱) (bd := bd) (i := i) (wordsOf e (i 0).val) arg0 v3 v4 w0 w1 s0 s1 k acc) $$ [H11 H13]
    · isplitl [H11]
      · iexact H11
      · iapply (held_mono e.c e.a13 (fun x _ v _ => trivial)) $$ H13
    iapply (wp_wand _ _ _) $$ Hw
    iintro %r ⟨H11, H13⟩
    isplitl [H11]
    · iexact H11
    isplitl [H13]
    · iapply (held_mono e.c e.a13 (fun x _ v _ => fun _ => hE _ _)) $$ H13
    · ipureintro; exact hA _ _ _ _
  t3 v4 m0 m1 u _ k acc := by
    unfold I3
    iintro ⟨H13, H10, H12⟩
    ihave Hw := (trip3_any (e := e) (𝒱 := 𝒱) (bd := bd) (i := i) (blockIs e.QE (i 0).val) e.QG v4 m0 m1 u k acc) $$ [H13 H10 H12]
    · isplitl [H13]
      · iexact H13
      isplitl [H10]
      · iexact H10
      · iapply (held_mono e.c e.a12 (fun x _ v _ => trivial)) $$ H12
    iapply (wp_wand _ _ _) $$ Hw
    iintro %r ⟨H13, H10, H12⟩
    isplitl [H13]
    · iexact H13
    isplitl [H10]
    · iexact H10
    · iapply (held_mono e.c e.a12 (fun x _ v _ => fun _ => hO _ _)) $$ H12

variable {m : (ℓ : Loc nD τ sig) → Buf (Elt F) ℓ} (hm : InTable m)

theorem all_good : AllGood m hm fun _ => noGoals where
  good c i := good_any (fun _ _ _ _ => trivial) (fun _ _ _ _ => trivial) (fun _ _ => trivial) (fun _ _ => trivial)
  gain c w _ y := trivial

end Cert.Kernel.Hand
-- ==== Proof.IPrime.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Rows
public import Idealize.ShloMosaic.Lib.Exec
public import Idealize.ShloMosaic.Lib.Tactic

/-!
# The first blocks are fetched
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- A trip of the first step's loop fetches the sixteen rows of block `k` into slot `k`. -/
theorem prime_trip (e : Env nD τ sig F) (𝒱 : Variants) (bd : Option 𝒱.V) (i : grid0.Coords) (h1 : k0_cond1 i = 1#1)
    {f : Buf (Elt F) (e.a7.view.loc (e.c : Thread nD τ))} (hf : IdsAre e f) (k : Fin k0_t1_loop.trips) (acc : Unit) :
    (iprop((e.a7.view.loc (e.c : Thread nD τ) ↦[e.a7.view.set]{fullShare} f) ∗ Fetching e k.val k.val 0) : sProp 𝕄G)
      ⊢ wp frame (wpE (defs₀ (F := F)) 𝒱 (e.c : Thread nD τ) bd) Set.univ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k acc)
          (fun _ => iprop((e.a7.view.loc (e.c : Thread nD τ) ↦[e.a7.view.set]{fullShare} f) ∗ Flying e k.val k.val 0)) := by
  have hk : k.val < 24 := Nat.lt_of_lt_of_le k.isLt k0_t1_abs.2.1
  unfold k0_t1_body
  iintro ⟨HX, HF⟩
  sl_exec (disch := exact fun _ => chk_of _ (hf.lt _))
  iapply (issue_row e 𝒱 bd k.val k.val 0 (by decide) ((k0_off3_eq k).trans (by simp [Nat.mod_eq_of_lt hk]))
    (hf.off (n := 16 * k.val + 0) (by omega) (k0_off1_eq k) _ rfl) ((k0_off2_eq k).trans (by simp [Nat.mod_eq_of_lt hk]))) $$ HF
  iintro HF
  sl_exec (disch := exact fun _ => chk_of _ (hf.lt _))
  iapply (issue_row e 𝒱 bd k.val k.val 1 (by decide) ((k0_off7_eq k).trans (by simp [Nat.mod_eq_of_lt hk]))
    (hf.off (n := 16 * k.val + 1) (by omega) (k0_off5_eq k) _ rfl) ((k0_off6_eq k).trans (by simp [Nat.mod_eq_of_lt hk]))) $$ HF
  iintro HF
  sl_exec (disch := exact fun _ => chk_of _ (hf.lt _))
  iapply (issue_row e 𝒱 bd k.val k.val 2 (by decide) ((k0_off11_eq k).trans (by simp [Nat.mod_eq_of_lt hk]))
    (hf.off (n := 16 * k.val + 2) (by omega) (k0_off9_eq k) _ rfl) ((k0_off10_eq k).trans (by simp [Nat.mod_eq_of_lt hk]))) $$ HF
  iintro HF
  sl_exec (disch := exact fun _ => chk_of _ (hf.lt _))
  iapply (issue_row e 𝒱 bd k.val k.val 3 (by decide) ((k0_off15_eq k).trans (by simp [Nat.mod_eq_of_lt hk]))
    (hf.off (n := 16 * k.val + 3) (by omega) (k0_off13_eq k) _ rfl) ((k0_off14_eq k).trans (by simp [Nat.mod_eq_of_lt hk]))) $$ HF
  iintro HF
  sl_exec (disch := exact fun _ => chk_of _ (hf.lt _))
  iapply (issue_row e 𝒱 bd k.val k.val 4 (by decide) ((k0_off19_eq k).trans (by simp [Nat.mod_eq_of_lt hk]))
    (hf.off (n := 16 * k.val + 4) (by omega) (k0_off17_eq k) _ rfl) ((k0_off18_eq k).trans (by simp [Nat.mod_eq_of_lt hk]))) $$ HF
  iintro HF
  sl_exec (disch := exact fun _ => chk_of _ (hf.lt _))
  iapply (issue_row e 𝒱 bd k.val k.val 5 (by decide) ((k0_off23_eq k).trans (by simp [Nat.mod_eq_of_lt hk]))
    (hf.off (n := 16 * k.val + 5) (by omega) (k0_off21_eq k) _ rfl) ((k0_off22_eq k).trans (by simp [Nat.mod_eq_of_lt hk]))) $$ HF
  iintro HF
  sl_exec (disch := exact fun _ => chk_of _ (hf.lt _))
  iapply (issue_row e 𝒱 bd k.val k.val 6 (by decide) ((k0_off27_eq k).trans (by simp [Nat.mod_eq_of_lt hk]))
    (hf.off (n := 16 * k.val + 6) (by omega) (k0_off25_eq k) _ rfl) ((k0_off26_eq k).trans (by simp [Nat.mod_eq_of_lt hk]))) $$ HF
  iintro HF
  sl_exec (disch := exact fun _ => chk_of _ (hf.lt _))
  iapply (issue_row e 𝒱 bd k.val k.val 7 (by decide) ((k0_off31_eq k).trans (by simp [Nat.mod_eq_of_lt hk]))
    (hf.off (n := 16 * k.val + 7) (by omega) (k0_off29_eq k) _ rfl) ((k0_off30_eq k).trans (by simp [Nat.mod_eq_of_lt hk]))) $$ HF
  iintro HF
  sl_exec (disch := exact fun _ => chk_of _ (hf.lt _))
  iapply (issue_row e 𝒱 bd k.val k.val 8 (by decide) ((k0_off35_eq k).trans (by simp [Nat.mod_eq_of_lt hk]))
    (hf.off (n := 16 * k.val + 8) (by omega) (k0_off33_eq k) _ rfl) ((k0_off34_eq k).trans (by simp [Nat.mod_eq_of_lt hk]))) $$ HF
  iintro HF
  sl_exec (disch := exact fun _ => chk_of _ (hf.lt _))
  iapply (issue_row e 𝒱 bd k.val k.val 9 (by decide) ((k0_off39_eq k).trans (by simp [Nat.mod_eq_of_lt hk]))
    (hf.off (n := 16 * k.val + 9) (by omega) (k0_off37_eq k) _ rfl) ((k0_off38_eq k).trans (by simp [Nat.mod_eq_of_lt hk]))) $$ HF
  iintro HF
  sl_exec (disch := exact fun _ => chk_of _ (hf.lt _))
  iapply (issue_row e 𝒱 bd k.val k.val 10 (by decide) ((k0_off43_eq k).trans (by simp [Nat.mod_eq_of_lt hk]))
    (hf.off (n := 16 * k.val + 10) (by omega) (k0_off41_eq k) _ rfl) ((k0_off42_eq k).trans (by simp [Nat.mod_eq_of_lt hk]))) $$ HF
  iintro HF
  sl_exec (disch := exact fun _ => chk_of _ (hf.lt _))
  iapply (issue_row e 𝒱 bd k.val k.val 11 (by decide) ((k0_off47_eq k).trans (by simp [Nat.mod_eq_of_lt hk]))
    (hf.off (n := 16 * k.val + 11) (by omega) (k0_off45_eq k) _ rfl) ((k0_off46_eq k).trans (by simp [Nat.mod_eq_of_lt hk]))) $$ HF
  iintro HF
  sl_exec (disch := exact fun _ => chk_of _ (hf.lt _))
  iapply (issue_row e 𝒱 bd k.val k.val 12 (by decide) ((k0_off51_eq k).trans (by simp [Nat.mod_eq_of_lt hk]))
    (hf.off (n := 16 * k.val + 12) (by omega) (k0_off49_eq k) _ rfl) ((k0_off50_eq k).trans (by simp [Nat.mod_eq_of_lt hk]))) $$ HF
  iintro HF
  sl_exec (disch := exact fun _ => chk_of _ (hf.lt _))
  iapply (issue_row e 𝒱 bd k.val k.val 13 (by decide) ((k0_off55_eq k).trans (by simp [Nat.mod_eq_of_lt hk]))
    (hf.off (n := 16 * k.val + 13) (by omega) (k0_off53_eq k) _ rfl) ((k0_off54_eq k).trans (by simp [Nat.mod_eq_of_lt hk]))) $$ HF
  iintro HF
  sl_exec (disch := exact fun _ => chk_of _ (hf.lt _))
  iapply (issue_row e 𝒱 bd k.val k.val 14 (by decide) ((k0_off59_eq k).trans (by simp [Nat.mod_eq_of_lt hk]))
    (hf.off (n := 16 * k.val + 14) (by omega) (k0_off57_eq k) _ rfl) ((k0_off58_eq k).trans (by simp [Nat.mod_eq_of_lt hk]))) $$ HF
  iintro HF
  sl_exec (disch := exact fun _ => chk_of _ (hf.lt _))
  iapply (issue_row e 𝒱 bd k.val k.val 15 (by decide) ((k0_off63_eq k).trans (by simp [Nat.mod_eq_of_lt hk]))
    (hf.off (n := 16 * k.val + 15) (by omega) (k0_off61_eq k) _ rfl) ((k0_off62_eq k).trans (by simp [Nat.mod_eq_of_lt hk]))) $$ HF
  iintro HF
  sl_exec
  sl_step
  isplitl [HX]
  · iexact HX
  · iapply (fetch_end e k.val k.val) $$ HF

end Cert.KernelIdeal.Hand
-- ==== Proof.IFetch.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Steps
public import Idealize.ShloMosaic.Lib.Exec
public import Idealize.ShloMosaic.Lib.Tactic
public import Idealize.ShloMosaic.Lib.VecWindow

/-!
# The block 24 steps ahead is fetched
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The guards, as conditions on the step. -/
theorem cond1_iff : ∀ i : grid0.Coords, k0_cond1 i = 1#1 ↔ (i 0).val = 0 := by decide +kernel
theorem cond2_iff : ∀ i : grid0.Coords, k0_cond2 i = 1#1 ↔ 8 ≤ (i 0).val := by decide +kernel
theorem cond3_iff : ∀ i : grid0.Coords, k0_cond3 i = 1#1 ↔ (i 0).val < 104 := by decide +kernel

/-- The fetch of the block 24 steps ahead. -/
def fetch (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 : BitVec 32) (k0_h3 : k0_cond3 i = 1#1) {α : Type} (k : Prog (TpuEff nD τ sig (Elt F) Λ₀ .tc) α) : Prog (TpuEff nD τ sig (Elt F) Λ₀ .tc) α := do
  let ⟨v342, v366, k0_hw35⟩ : Σ' (v342 : BitVec 32) (v366 : Elt F .i32), k0_chk35 i v366 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 k0_h3
  let ⟨v396, k0_hw38⟩ : Σ' (v396 : Elt F .i32), k0_chk38 i v396 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v366 k0_hw35
  let ⟨v426, k0_hw41⟩ : Σ' (v426 : Elt F .i32), k0_chk41 i v426 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v396 k0_hw38
  let ⟨v456, k0_hw44⟩ : Σ' (v456 : Elt F .i32), k0_chk44 i v456 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v426 k0_hw41
  let ⟨v486, k0_hw47⟩ : Σ' (v486 : Elt F .i32), k0_chk47 i v486 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h3 v342 v456 k0_hw44
  let v492 : Memref sig .tc .hbm S1x8192 .i32 := arg2.slice (Rect.unit (s := S8128x8192) (k0_off170 v486) S1x8192.size (k0_off170_inb i v486 k0_hw47 k0_h3)) (fun _ => rfl)
  let v488 : DmaSems sig S1 := arg17.slice (Rect.unit (s := S24) (k0_off168 i) S1.size (k0_off168_inb i k0_h3))
  let v489 : DmaSems sig S_ := v488.squeeze S_ squeezes_S1_S_
  let v490 : Memref sig .tc .vmem S1x1x1x8192 .i32 := arg11.slice (Rect.unit (s := S24x2x8x8192) (k0_off169 i) S1x1x1x8192.size (k0_off169_inb i k0_h3)) (fun _ => rfl)
  let v491 : Memref sig .tc .vmem S1x8192 .i32 := v490.squeeze S1x8192 squeezes_S1x1x1x8192_S1x8192
  Prog.lift (.enqueueDma v492 (.here v491) (.dma v489.sem) (View.wordExact_bits rfl) ((View.wordExact_bits rfl).reshape _ _) ⟨Or.inl rfl, trivial⟩)
  let v496 : Elt F .i32 ← smemLoad arg7 (Rect.unit (s := S1x2048) (k0_off171 i) S1x1.size (k0_off171_inb i k0_h3)) numel1_S1x1 rfl
  have k0_hw48 : k0_chk48 i v496 := (← Prog.lift (TpuEff.assume (k0_chk48 i v496) (k0_chk48.dec i v496))).down
  let v498 : DmaSems sig S1 := arg17.slice (Rect.unit (s := S24) (k0_off172 i) S1.size (k0_off172_inb i k0_h3))
  let v499 : DmaSems sig S_ := v498.squeeze S_ squeezes_S1_S_
  let v500 : Memref sig .tc .vmem S1x1x1x8192 .i32 := arg11.slice (Rect.unit (s := S24x2x8x8192) (k0_off173 i) S1x1x1x8192.size (k0_off173_inb i k0_h3)) (fun _ => rfl)
  let v501 : Memref sig .tc .vmem S1x8192 .i32 := v500.squeeze S1x8192 squeezes_S1x1x1x8192_S1x8192
  let v502 : Memref sig .tc .hbm S1x8192 .i32 := arg2.slice (Rect.unit (s := S8128x8192) (k0_off174 v496) S1x8192.size (k0_off174_inb i v496 k0_hw48 k0_h3)) (fun _ => rfl)
  Prog.lift (.enqueueDma v502 (.here v501) (.dma v499.sem) (View.wordExact_bits rfl) ((View.wordExact_bits rfl).reshape _ _) ⟨Or.inl rfl, trivial⟩)
  k

/-- It puts the block in flight. -/
theorem fetch_ok (e : Env nD τ sig F) (𝒱 : Variants) (bd : Option 𝒱.V) (i : grid0.Coords) (arg0 : BitVec 32) (h3 : k0_cond3 i = 1#1) {α : Type}
    (k : Prog (TpuEff nD τ sig (Elt F) Λ₀ .tc) α) {Q : α → sProp 𝕄G}
    {f : Buf (Elt F) (e.a7.view.loc (e.c : Thread nD τ))} (hf : IdsAre e f) :
    (iprop((e.a7.view.loc (e.c : Thread nD τ) ↦[e.a7.view.set]{fullShare} f) ∗ Fetching e ((i 0).val + 24) (((i 0).val + 24) % 24) 0) : sProp 𝕄G)
      ⊢ iprop((iprop((e.a7.view.loc (e.c : Thread nD τ) ↦[e.a7.view.set]{fullShare} f) ∗ Flying e ((i 0).val + 24) (((i 0).val + 24) % 24) 0) -∗
            wp frame (wpE (defs₀ (F := F)) 𝒱 (e.c : Thread nD τ) bd) Set.univ k Q)
        -∗ wp frame (wpE (defs₀ (F := F)) 𝒱 (e.c : Thread nD τ) bd) Set.univ (fetch (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 h3 k) Q) := by
  have hi := (cond3_iff i).mp h3
  unfold fetch
  iintro ⟨HX, HF⟩ Hk
  sl_exec (disch := exact fun _ => chk_of _ (hf.lt _))
  iapply (issue_row e 𝒱 bd ((i 0).val + 24) (((i 0).val + 24) % 24) 0 (by decide) ((k0_off113_eq i).trans (by simp))
    (hf.off (n := 16 * ((i 0).val + 24) + 0) (by omega) ((k0_off111_eq i).trans (by congr 2)) _ rfl) ((k0_off112_eq i).trans (by simp))) $$ HF
  iintro HF
  sl_exec (disch := exact fun _ => chk_of _ (hf.lt _))
  iapply (issue_row e 𝒱 bd ((i 0).val + 24) (((i 0).val + 24) % 24) 1 (by decide) ((k0_off117_eq i).trans (by simp))
    (hf.off (n := 16 * ((i 0).val + 24) + 1) (by omega) ((k0_off115_eq i).trans (by congr 2)) _ rfl) ((k0_off116_eq i).trans (by simp))) $$ HF
  iintro HF
  sl_exec (disch := exact fun _ => chk_of _ (hf.lt _))
  iapply (issue_row e 𝒱 bd ((i 0).val + 24) (((i 0).val + 24) % 24) 2 (by decide) ((k0_off121_eq i).trans (by simp))
    (hf.off (n := 16 * ((i 0).val + 24) + 2) (by omega) ((k0_off119_eq i).trans (by congr 2)) _ rfl) ((k0_off120_eq i).trans (by simp))) $$ HF
  iintro HF
  sl_exec (disch := exact fun _ => chk_of _ (hf.lt _))
  iapply (issue_row e 𝒱 bd ((i 0).val + 24) (((i 0).val + 24) % 24) 3 (by decide) ((k0_off125_eq i).trans (by simp))
    (hf.off (n := 16 * ((i 0).val + 24) + 3) (by omega) ((k0_off123_eq i).trans (by congr 2)) _ rfl) ((k0_off124_eq i).trans (by simp))) $$ HF
  iintro HF
  sl_exec (disch := exact fun _ => chk_of _ (hf.lt _))
  iapply (issue_row e 𝒱 bd ((i 0).val + 24) (((i 0).val + 24) % 24) 4 (by decide) ((k0_off129_eq i).trans (by simp))
    (hf.off (n := 16 * ((i 0).val + 24) + 4) (by omega) ((k0_off127_eq i).trans (by congr 2)) _ rfl) ((k0_off128_eq i).trans (by simp))) $$ HF
  iintro HF
  sl_exec (disch := exact fun _ => chk_of _ (hf.lt _))
  iapply (issue_row e 𝒱 bd ((i 0).val + 24) (((i 0).val + 24) % 24) 5 (by decide) ((k0_off133_eq i).trans (by simp))
    (hf.off (n := 16 * ((i 0).val + 24) + 5) (by omega) ((k0_off131_eq i).trans (by congr 2)) _ rfl) ((k0_off132_eq i).trans (by simp))) $$ HF
  iintro HF
  sl_exec (disch := exact fun _ => chk_of _ (hf.lt _))
  iapply (issue_row e 𝒱 bd ((i 0).val + 24) (((i 0).val + 24) % 24) 6 (by decide) ((k0_off137_eq i).trans (by simp))
    (hf.off (n := 16 * ((i 0).val + 24) + 6) (by omega) ((k0_off135_eq i).trans (by congr 2)) _ rfl) ((k0_off136_eq i).trans (by simp))) $$ HF
  iintro HF
  sl_exec (disch := exact fun _ => chk_of _ (hf.lt _))
  iapply (issue_row e 𝒱 bd ((i 0).val + 24) (((i 0).val + 24) % 24) 7 (by decide) ((k0_off141_eq i).trans (by simp))
    (hf.off (n := 16 * ((i 0).val + 24) + 7) (by omega) ((k0_off139_eq i).trans (by congr 2)) _ rfl) ((k0_off140_eq i).trans (by simp))) $$ HF
  iintro HF
  sl_exec (disch := exact fun _ => chk_of _ (hf.lt _))
  iapply (issue_row e 𝒱 bd ((i 0).val + 24) (((i 0).val + 24) % 24) 8 (by decide) ((k0_off145_eq i).trans (by simp))
    (hf.off (n := 16 * ((i 0).val + 24) + 8) (by omega) ((k0_off143_eq i).trans (by congr 2)) _ rfl) ((k0_off144_eq i).trans (by simp))) $$ HF
  iintro HF
  sl_exec (disch := exact fun _ => chk_of _ (hf.lt _))
  iapply (issue_row e 𝒱 bd ((i 0).val + 24) (((i 0).val + 24) % 24) 9 (by decide) ((k0_off149_eq i).trans (by simp))
    (hf.off (n := 16 * ((i 0).val + 24) + 9) (by omega) ((k0_off147_eq i).trans (by congr 2)) _ rfl) ((k0_off148_eq i).trans (by simp))) $$ HF
  iintro HF
  sl_exec (disch := exact fun _ => chk_of _ (hf.lt _))
  iapply (issue_row e 𝒱 bd ((i 0).val + 24) (((i 0).val + 24) % 24) 10 (by decide) ((k0_off153_eq i).trans (by simp))
    (hf.off (n := 16 * ((i 0).val + 24) + 10) (by omega) ((k0_off151_eq i).trans (by congr 2)) _ rfl) ((k0_off152_eq i).trans (by simp))) $$ HF
  iintro HF
  sl_exec (disch := exact fun _ => chk_of _ (hf.lt _))
  iapply (issue_row e 𝒱 bd ((i 0).val + 24) (((i 0).val + 24) % 24) 11 (by decide) ((k0_off157_eq i).trans (by simp))
    (hf.off (n := 16 * ((i 0).val + 24) + 11) (by omega) ((k0_off155_eq i).trans (by congr 2)) _ rfl) ((k0_off156_eq i).trans (by simp))) $$ HF
  iintro HF
  sl_exec (disch := exact fun _ => chk_of _ (hf.lt _))
  iapply (issue_row e 𝒱 bd ((i 0).val + 24) (((i 0).val + 24) % 24) 12 (by decide) ((k0_off161_eq i).trans (by simp))
    (hf.off (n := 16 * ((i 0).val + 24) + 12) (by omega) ((k0_off159_eq i).trans (by congr 2)) _ rfl) ((k0_off160_eq i).trans (by simp))) $$ HF
  iintro HF
  sl_exec (disch := exact fun _ => chk_of _ (hf.lt _))
  iapply (issue_row e 𝒱 bd ((i 0).val + 24) (((i 0).val + 24) % 24) 13 (by decide) ((k0_off165_eq i).trans (by simp))
    (hf.off (n := 16 * ((i 0).val + 24) + 13) (by omega) ((k0_off163_eq i).trans (by congr 2)) _ rfl) ((k0_off164_eq i).trans (by simp))) $$ HF
  iintro HF
  sl_exec (disch := exact fun _ => chk_of _ (hf.lt _))
  iapply (issue_row e 𝒱 bd ((i 0).val + 24) (((i 0).val + 24) % 24) 14 (by decide) ((k0_off169_eq i).trans (by simp))
    (hf.off (n := 16 * ((i 0).val + 24) + 14) (by omega) ((k0_off167_eq i).trans (by congr 2)) _ rfl) ((k0_off168_eq i).trans (by simp))) $$ HF
  iintro HF
  sl_exec (disch := exact fun _ => chk_of _ (hf.lt _))
  iapply (issue_row e 𝒱 bd ((i 0).val + 24) (((i 0).val + 24) % 24) 15 (by decide) ((k0_off173_eq i).trans (by simp))
    (hf.off (n := 16 * ((i 0).val + 24) + 15) (by omega) ((k0_off171_eq i).trans (by congr 2)) _ rfl) ((k0_off172_eq i).trans (by simp))) $$ HF
  iintro HF
  iapply Hk
  isplitl [HX]
  · iexact HX
  · iapply (fetch_end e ((i 0).val + 24) (((i 0).val + 24) % 24)) $$ HF

end Cert.KernelIdeal.Hand
-- ==== Proof.IInit.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IPrime
public import proofs.«01_k».proof.Proof.IFetch
public import proofs.«01_k».proof.Proof.Queue
public import Idealize.ShloMosaic.Lib.Exec
public import Idealize.ShloMosaic.Lib.Tactic
public import Idealize.ShloMosaic.Lib.VecWindow

/-!
# The first step loads the inputs
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The first step's loads. -/
def init (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (k0_h1 : k0_cond1 i = 1#1) {α : Type} (k : Prog (TpuEff nD τ sig (Elt F) Λ₀ .tc) α) : Prog (TpuEff nD τ sig (Elt F) Λ₀ .tc) α := do
  let v342 : DmaSems sig S1 := arg16.slice (Rect.unit (s := S3) ![0] S1.size inb_S3_S1_0)
  let v343 : DmaSems sig S_ := v342.squeeze S_ squeezes_S1_S_
  Prog.lift (.enqueueDma arg1 (.here arg7) (.dma v343.sem) harg1.wordExact harg7.wordExact ⟨Or.inl rfl, trivial⟩)
  let v344 : DmaSems sig S1 := arg16.slice (Rect.unit (s := S3) ![1] S1.size inb_S3_S1_1)
  let v345 : DmaSems sig S_ := v344.squeeze S_ squeezes_S1_S_
  Prog.lift (.enqueueDma arg3 (.here arg8) (.dma v345.sem) harg3.wordExact harg8.wordExact ⟨Or.inl rfl, trivial⟩)
  let v346 : DmaSems sig S1 := arg16.slice (Rect.unit (s := S3) ![2] S1.size inb_S3_S1_2)
  let v347 : DmaSems sig S_ := v346.squeeze S_ squeezes_S1_S_
  Prog.lift (.enqueueDma arg4 (.here arg9) (.dma v347.sem) harg4.wordExact harg9.wordExact ⟨Or.inl rfl, trivial⟩)
  let v348 : DmaSems sig S1 := arg16.slice (Rect.unit (s := S3) ![0] S1.size inb_S3_S1_0)
  let v349 : DmaSems sig S_ := v348.squeeze S_ squeezes_S1_S_
  Prog.lift (.waitDma2 v349.sem arg1 arg7 harg1.wordExact harg7.wordExact)
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 k0_h1)
  let v351 : DmaSems sig S1 := arg16.slice (Rect.unit (s := S3) ![1] S1.size inb_S3_S1_1)
  let v352 : DmaSems sig S_ := v351.squeeze S_ squeezes_S1_S_
  Prog.lift (.waitDma2 v352.sem arg3 arg8 harg3.wordExact harg8.wordExact)
  let v353 : DmaSems sig S1 := arg16.slice (Rect.unit (s := S3) ![2] S1.size inb_S3_S1_2)
  let v354 : DmaSems sig S_ := v353.squeeze S_ squeezes_S1_S_
  Prog.lift (.waitDma2 v354.sem arg4 arg9 harg4.wordExact harg9.wordExact)
  let v355 : Vec F S1x8192 .bf16 ← Prog.lift (.load arg9 (Rect.unit (s := S1x8192) ![0, 0] S1x8192.size inb_S1x8192_S1x8192_0_0).toLoadRect (View.loadsAt_vmem h_S1x8192))
  let v359 : Vec F S8x8192 .f32 ← Prog.lift (.load arg10 (Rect.unit (s := S8x8192) ![0, 0] S8x8192.size inb_S8x8192_S8x8192_0_0).toLoadRect (View.loadsAt_vmem h_S8x8192))
  Prog.lift (.store arg10 (Rect.unit (s := S8x8192) ![0, 0] S8x8192.size inb_S8x8192_S8x8192_0_0) (k0_pay118 v355) Finset.univ (View.stores_vmem_bits_univ h_S8x8192 rfl) (.inl rfl))
  k

/-- One trip of the loop that fetches the first blocks. -/
theorem trip (e : Env nD τ sig F) (𝒱 : Variants) (bd : Option 𝒱.V) (i : grid0.Coords) (h1 : k0_cond1 i = 1#1)
    {f : Buf (Elt F) (e.a7.view.loc (e.c : Thread nD τ))} (hf : IdsAre e f) (k : Fin k0_t1_loop.trips) (acc : PUnit) :
    (iprop((e.a7.view.loc (e.c : Thread nD τ) ↦[e.a7.view.set]{fullShare} f) ∗ In e 0 k.val) : sProp 𝕄G)
      ⊢ wp frame (wpE (defs₀ (F := F)) 𝒱 (e.c : Thread nD τ) bd) Set.univ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k acc)
          (fun _ => iprop((e.a7.view.loc (e.c : Thread nD τ) ↦[e.a7.view.set]{fullShare} f) ∗ In e 0 (k.val + 1))) := by
  have hk : k.val < 24 := Nat.lt_of_lt_of_le k.isLt k0_t1_abs.2.1
  iintro ⟨H7, HIn⟩
  unfold In
  ihave HIn := (queue_put (fun u s => Flying e u s 0) (Free e) (by decide) (Nat.zero_le k.val) (by omega)) $$ HIn
  icases HIn with ⟨HF, Hk⟩
  rw [Nat.mod_eq_of_lt hk]
  iapply Idealize.SL.Sem.fupd_wp
  imod (fetch_start e k.val k.val) $$ HF with HF
  imodintro
  iapply (seqEnd (defs := defs₀ (F := F)) 𝒱 e.c bd (prime_trip e 𝒱 bd i h1 hf k acc)) $$ [H7 HF]
  · isplitl [H7]
    · iexact H7
    · iexact HF
  iintro %a ⟨H7, HF⟩
  isplitl [H7]
  · iexact H7
  · iapply Hk $$ HF

/-- They load the inputs and fetch the first 24 blocks. -/
theorem init_ok (e : Env nD τ sig F) (𝒱 : Variants) (bd : Option 𝒱.V) (i : grid0.Coords) (h1 : k0_cond1 i = 1#1)
    (hQG : ∀ w : Vec F S1x8192 .bf16, (∀ y, w y = e.a4.view.read (Elt F) e.X4 y) → ∀ y, e.QG y (k0_pay118 w y)) {α : Type}
    (k : Prog (TpuEff nD τ sig (Elt F) Λ₀ .tc) α) {Q : α → sProp 𝕄G} :
    (iprop(Start e ∗ ∃ W, owes (e.c : Thread nD τ) 0 W) : sProp 𝕄G)
      ⊢ iprop((iprop(Mid e 0 0 24 ∗ ∃ W, owes (e.c : Thread nD τ) 0 W) -∗
            wp frame (wpE (defs₀ (F := F)) 𝒱 (e.c : Thread nD τ) bd) Set.univ k Q)
        -∗ wp frame (wpE (defs₀ (F := F)) 𝒱 (e.c : Thread nD τ) bd) Set.univ (init (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1 k) Q) := by
  unfold init Start Base semA Tmp
  iintro ⟨⟨⟨%f7, H7⟩, ⟨%f8, H8⟩, H10, ⟨H1, H3, H4, ⟨%f9, H9⟩, Hs0, Hs1, Hs2, HT⟩, ⟨H14, H15⟩, HIn, HOut⟩, ⟨%W, HO⟩⟩ Hk
  sl_exec
  have hf7 := View.read_writes_whole (Val := Elt F) e.a7.view e.a7.view.junk (init_ok.sl.dma0 e)
  generalize View.writes _ _ _ _ = f7' at hf7 ⊢
  have hf : IdsAre e f7' := fun x => (congrFun hf7 x).trans (e.hX1 x)
  iapply (seq 𝒱 e.c bd (loop_ok (defs := defs₀ (F := F)) 𝒱 e.c bd k0_t1_loop (k0_t1_ok i h1) ⟨⟩ (k0_t1_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h1)
    (fun k _ => iprop((e.a7.view.loc (e.c : Thread nD τ) ↦[e.a7.view.set]{fullShare} f7') ∗ In e 0 k)) (trip e 𝒱 bd i h1 hf))) $$ [H7 HIn]
  · isplitl [H7]
    · iexact H7
    · iexact HIn
  iintro %u ⟨H7, HIn⟩
  sl_exec
  generalize hW8 : e.a8.view.writes (Elt F) _ _ = f8'
  have hf8 : ∀ x, e.a8.view.read (Elt F) f8' x = e.scales x := fun x => by
    rw [← hW8]
    exact (congrFun (View.read_writes_whole (Val := Elt F) e.a8.view _ _) x).trans (e.hX3 x)
  iapply (held_load (defs := defs₀ (F := F)) 𝒱 e.c bd Finset.univ anyP (Finset.subset_univ _)) $$ H10
  iintro %w10 %h10 H10
  iapply (held_store (defs := defs₀ (F := F)) 𝒱 e.c bd Finset.univ anyP e.QG (Finset.subset_univ _) (fun y => ?_) (fun x _ hx v _ => ?_)) $$ H10
  · rw [whole2]
    refine hQG _ (fun y => ?_) y
    refine (congrFun (View.readAt_full (Val := Elt F) e.a9.view _ inb_S1x8192_S1x8192_0_0) y).trans ?_
    exact congrFun (View.read_writes_whole (Val := Elt F) e.a9.view _ _) y
  · refine (hx ?_).elim
    rw [← whole2 x (h := inb_S8x8192_S8x8192_0_0)]
    exact emb_mem _ _
  iintro H10
  iapply Hk
  unfold Mid Base Tmp semA
  isplitr [HO]
  · isplitl [H7]
    · unfold Ids
      iexists f7'
      isplitr
      · ipureintro
        exact hf
      · iexact H7
    isplitl [H8]
    · unfold Scs
      iexists f8'
      isplitr
      · ipureintro
        exact hf8
      · iexact H8
    isplitl [H10]
    · iexact H10
    isplitl [H1 H3 H4 H9 Hs0 Hs1 Hs2 HT]
    · iframe
      iexists _
      iexact H9
    isplitl [H14 H15]
    · iframe
    · rw [show k0_t1_loop.trips = 24 by decide]
      iframe
  · iexists _
    iexact HO

end Cert.KernelIdeal.Hand
-- ==== Proof.IDrain.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Steps
public import Idealize.ShloMosaic.Lib.Exec
public import Idealize.ShloMosaic.Lib.Tactic
public import Idealize.ShloMosaic.Lib.VecWindow

/-!
# The last step waits for the results
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The waits that the last step ends with. -/
def drain (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) {α : Type} (k : Prog (TpuEff nD τ sig (Elt F) Λ₀ .tc) α) : Prog (TpuEff nD τ sig (Elt F) Λ₀ .tc) α := do
  k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  let v417 : DmaSems sig S1 := arg19.slice (Rect.unit (s := S8) ![7] S1.size inb_S8_S1_7)
  let v418 : DmaSems sig S_ := v417.squeeze S_ squeezes_S1_S_
  let v419 : Memref sig .tc .hbm S16x8192 .bf16 := arg6.slice (Rect.unit (s := S2048x8192) ![112, 0] S16x8192.size inb_S2048x8192_S16x8192_112_0) (fun _ => rfl)
  let v420 : Memref sig .tc .vmem S1x16x8192 .bf16 := arg13.slice (Rect.unit (s := S8x16x8192) ![7, 0, 0] S1x16x8192.size inb_S8x16x8192_S1x16x8192_7_0_0) (fun _ => rfl)
  let v421 : Memref sig .tc .vmem S16x8192 .bf16 := v420.squeeze S16x8192 squeezes_S1x16x8192_S16x8192
  Prog.lift (.waitDma2 v418.sem v421 v419 ((harg13.wordExact_slice rfl _ wordsbf16_S8x16x8192_S1x16x8192_7_0_0).reshape _ _) (harg6.wordExact_slice rfl _ wordsbf16_S2048x8192_S16x8192_112_0))
  k

/-- They bring the last eight blocks of both results home. -/
theorem drain_ok (e : Env nD τ sig F) (𝒱 : Variants) (bd : Option 𝒱.V) (i : grid0.Coords)
    (hNHA : 0 < NO e.a5) (hNHB : 0 < NO e.a6) {α : Type}
    (k : Prog (TpuEff nD τ sig (Elt F) Λ₀ .tc) α) {Q : α → sProp 𝕄G} :
    (iprop(Outs e 120 128 ∗ ∃ W, owes (e.c : Thread nD τ) 0 W) : sProp 𝕄G)
      ⊢ iprop((iprop(Outs e 128 128 ∗ ∃ W, owes (e.c : Thread nD τ) 0 W) -∗
            wp frame (wpE (defs₀ (F := F)) 𝒱 (e.c : Thread nD τ) bd) Set.univ k Q)
        -∗ wp frame (wpE (defs₀ (F := F)) 𝒱 (e.c : Thread nD τ) bd) Set.univ (drain (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 k) Q) := by
  unfold drain Outs
  iintro ⟨⟨HA, HB⟩, HO⟩ Hk
  rw [k0_part37_eq_skeleton, k0_part38_eq_skeleton, k0_part39_eq_skeleton]
  unfold k0_part37_skel k0_part38_skel k0_part39_skel
  simp only [Prog.bind_assoc]
  try sl_exec
  iapply (out_wait (defs := defs₀ (F := F)) e.c e.a12 e.a5 e.a18 e.QO 𝒱 bd 120 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 120 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 121 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 121 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 122 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 122 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 123 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 123 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 124 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 124 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 125 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 125 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 126 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 126 128 (by decide) (by decide) (by decide) hNHB rfl (W := ∅)) $$ [HB HO]
  · isplitl [HB]
    · iexact HB
    · iexact HO
  iintro ⟨HB, HO⟩
  try sl_exec
  iapply (out_wait (defs := defs₀ (F := F)) e.c e.a12 e.a5 e.a18 e.QO 𝒱 bd 127 128 (by decide) (by decide) (by decide) hNHA rfl (W := ∅)) $$ [HA HO]
  · isplitl [HA]
    · iexact HA
    · iexact HO
  iintro ⟨HA, HO⟩
  try sl_exec
  iapply (out_wait (defs := defs₀ (F := F)) e.c e.a13 e.a6 e.a19 e.QE 𝒱 bd 127 128 (by decide) (by decide) (by decide) hNHB rfl (W := ∅)) $$ [HB HO]
  · isplitl [HB]
    · iexact HB
    · iexact HO
  iintro ⟨HB, HO⟩
  iapply Hk
  iframe

end Cert.KernelIdeal.Hand
-- ==== Proof.IFirst.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IInit
public import proofs.«01_k».proof.Proof.IFetch
public import proofs.«01_k».proof.Proof.IDrain
public import proofs.«01_k».proof.Proof.Pass
public import Idealize.ShloMosaic.Lib.Exec
public import Idealize.ShloMosaic.Lib.Tactic
public import Idealize.ShloMosaic.Lib.VecWindow

/-!
# The pass over the indices of a block
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The end of a step. -/
def tail2 (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 : BitVec 32) : Prog (TpuEff nD τ sig (Elt F) Λ₀ .tc) PUnit := do
  let v339 : BitVec 1 := Scalar.cmpi .eq arg0 127#32
  let v340 : BitVec 32 := Scalar.extui v339
  let v341 : BitVec 1 := Scalar.cmpi .ne v340 0#32
  if k0_h4 : v341 = 1#1 then drain i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (pure ⟨⟩) else pure ⟨⟩

/-- The start of the pass over the block's indices. -/
def pass1 (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) :
    Prog (TpuEff nD τ sig (Elt F) Λ₀ .tc) (Σ' (arg0 : BitVec 32) (v3 : BitVec 32) (v4 : BitVec 32) (v25 : Elt F .i32) (k0_hw18 : k0_chk18 v25), IVec S1x128 32) := do
  let arg0 : BitVec 32 := BitVec.ofNat 32 (i 0).val
  let v3 : BitVec 32 := Scalar.remsi arg0 24#32
  let v4 : BitVec 32 := Scalar.remsi arg0 8#32
  let v8 : Elt F .i32 ← smemLoad arg7 (Rect.unit (s := S1x2048) (k0_off65 i) S1x1.size (k0_off65_inb i)) numel1_S1x1 rfl
  have k0_hw17 : k0_chk17 v8 := (← Prog.lift (TpuEff.assume (k0_chk17 v8) (k0_chk17.dec v8))).down
  let v13 : Vec F S1x1x128 .i32 ← Prog.lift (.load arg14 (Rect.unit (s := S2x8x128) ![0, 0, 0] S1x1x128.size inb_S2x8x128_S1x1x128_0_0_0).toLoadRect (View.loadsAt_vmem h_S1x1x128))
  Prog.lift (.store arg14 (Rect.unit (s := S2x8x128) ![0, 0, 0] S1x1x128.size inb_S2x8x128_S1x1x128_0_0_0) (k0_pay119 v8) Finset.univ (View.stores_vmem_bits_univ h_S1x1x128 rfl) (.inl rfl))
  let v17 : Elt F .f32 ← smemLoad arg8 (Rect.unit (s := S32512) (k0_off66 v8) S1.size (k0_off66_inb v8 k0_hw17)) numel1_S1 rfl
  let v19 : Vec F S1x1x128 .f32 ← Prog.lift (.load arg15 (Rect.unit (s := S2x8x128) ![0, 0, 0] S1x1x128.size inb_S2x8x128_S1x1x128_0_0_0).toLoadRect (View.loadsAt_vmem h_S1x1x128))
  Prog.lift (.store arg15 (Rect.unit (s := S2x8x128) ![0, 0, 0] S1x1x128.size inb_S2x8x128_S1x1x128_0_0_0) (k0_pay120 v17) Finset.univ (View.stores_vmem_bits_univ h_S1x1x128 rfl) (.inl rfl))
  let v25 : Elt F .i32 ← smemLoad arg7 (Rect.unit (s := S1x2048) (k0_off67 i) S1x1.size (k0_off67_inb i)) numel1_S1x1 rfl
  have k0_hw18 : k0_chk18 v25 := (← Prog.lift (TpuEff.assume (k0_chk18 v25) (k0_chk18.dec v25))).down
  pure ⟨arg0, v3, v4, v25, k0_hw18, k0_pay121 v25⟩

/-- What follows the pass over the block's indices. -/
def rest (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) : Prog (TpuEff nD τ sig (Elt F) Λ₀ .tc) PUnit := do
  let ⟨v311, v315, cst_203⟩ : Σ' (v311 : FVec F S8x1 .f32) (v315 : FVec F S8x1 .f32), F .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4
  Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v4 v311 v315 cst_203)
  let v325 : DmaSems sig S1 := arg18.slice (Rect.unit (s := S8) (k0_off108 i) S1.size (k0_off108_inb i))
  let v326 : DmaSems sig S_ := v325.squeeze S_ squeezes_S1_S_
  let v327 : Memref sig .tc .hbm S16x8192 .bf16 := arg5.slice (Rect.unit (s := S2048x8192) (k0_off109 i) S16x8192.size (k0_off109_inb i)) (fun _ => rfl)
  let v328 : Memref sig .tc .vmem S1x16x8192 .bf16 := arg12.slice (Rect.unit (s := S8x16x8192) (k0_off110 i) S1x16x8192.size (k0_off110_inb i)) (fun _ => rfl)
  let v329 : Memref sig .tc .vmem S16x8192 .bf16 := v328.squeeze S16x8192 squeezes_S1x16x8192_S16x8192
  Prog.lift (.enqueueDma v329 (.here v327) (.dma v326.sem) ((harg12.wordExact_slice rfl _ (k0_off110_wordsbf16 i)).reshape _ _) (harg5.wordExact_slice rfl _ (k0_off109_wordsbf16 i)) ⟨Or.inl rfl, trivial⟩)
  let v330 : DmaSems sig S1 := arg19.slice (Rect.unit (s := S8) (k0_off108 i) S1.size (k0_off108_inb i))
  let v331 : DmaSems sig S_ := v330.squeeze S_ squeezes_S1_S_
  let v332 : Memref sig .tc .hbm S16x8192 .bf16 := arg6.slice (Rect.unit (s := S2048x8192) (k0_off109 i) S16x8192.size (k0_off109_inb i)) (fun _ => rfl)
  let v333 : Memref sig .tc .vmem S1x16x8192 .bf16 := arg13.slice (Rect.unit (s := S8x16x8192) (k0_off110 i) S1x16x8192.size (k0_off110_inb i)) (fun _ => rfl)
  let v334 : Memref sig .tc .vmem S16x8192 .bf16 := v333.squeeze S16x8192 squeezes_S1x16x8192_S16x8192
  Prog.lift (.enqueueDma v334 (.here v332) (.dma v331.sem) ((harg13.wordExact_slice rfl _ (k0_off110_wordsbf16 i)).reshape _ _) (harg6.wordExact_slice rfl _ (k0_off109_wordsbf16 i)) ⟨Or.inl rfl, trivial⟩)
  if k0_h3 : k0_cond3 i = 1#1 then fetch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 k0_h3 (tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0) else tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0

/-- The pass over the block's indices, and what follows. -/
def prog (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) : Prog (TpuEff nD τ sig (Elt F) Λ₀ .tc) PUnit := do
  let ⟨arg0, v3, v4, v25, k0_hw18, v29⟩ : Σ' (arg0 : BitVec 32) (v3 : BitVec 32) (v4 : BitVec 32) (v25 : Elt F .i32) (k0_hw18 : k0_chk18 v25), IVec S1x128 32 ← pass1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
  let ⟨v59, k0_hw20, v61, c24_i32_36⟩ : Σ' (v59 : Elt F .i32) (k0_hw20 : k0_chk20 v59) (v61 : BitVec 32), BitVec 32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v25 k0_hw18 v29
  let ⟨v93, k0_hw22, c3_i32_55⟩ : Σ' (v93 : Elt F .i32) (k0_hw22 : k0_chk22 v93), BitVec 32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v59 k0_hw20 v61 c24_i32_36
  let v125 : BitVec 32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v93 k0_hw22 c3_i32_55
  let c16_i32_96 : BitVec 32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v125
  let ⟨v188, v189⟩ : Σ' (v188 : FVec F S1x128 .f32), Vec F S1x1x128 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 c16_i32_96
  let v222 : FVec F S1x128 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v188 v189
  let ⟨v246, k0_hw31, v253⟩ : Σ' (v246 : Elt F .i32) (k0_hw31 : k0_chk31 v246), IVec S1x1x128 32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v222
  k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v246 k0_hw31 v253
  rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4

/-- The index's row of the scales is there. -/
theorem scale_of {v : BitVec 32} (h : v.toNat < 32512) (a : Fin 1) : (![v.toNat] : Fin 1 → ℕ) a + (![1] : Fin 1 → ℕ) a ≤ (![32512] : Fin 1 → ℕ) a := by
  fin_cases a
  simp
  omega

/-- The first step begins with its loads, -/
theorem part_pos (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (h1 : k0_cond1 i = 1#1) :
    k0_part40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 h1 (pass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) := by
  rw [k0_part40_eq_skeleton]
  unfold k0_part40_skel init pass1
  rw [dif_pos h1]

/-- the others do not. -/
theorem part_neg (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (h1 : ¬ k0_cond1 i = 1#1) :
    k0_part40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = pass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 := by
  rw [k0_part40_eq_skeleton]
  unfold k0_part40_skel pass1
  rw [dif_neg h1]

/-- The first step's loads, where they are due. -/
theorem start_ok (e : Env nD τ sig F) (𝒱 : Variants) (bd : Option 𝒱.V) (i : grid0.Coords)
    (hQG : ∀ w : Vec F S1x8192 .bf16, (∀ y, w y = e.a4.view.read (Elt F) e.X4 y) → ∀ y, e.QG y (k0_pay118 w y))
    {Q} :
    (iprop(St e (i 0).val ∗ ∃ W, owes (e.c : Thread nD τ) 0 W) : sProp 𝕄G)
      ⊢ iprop((iprop(Mid e (loAt (i 0).val) (i 0).val (hiAt (i 0).val) ∗ ∃ W, owes (e.c : Thread nD τ) 0 W) -∗
            wp frame (wpE (defs₀ (F := F)) 𝒱 (e.c : Thread nD τ) bd) Set.univ (pass1 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q)
        -∗ wp frame (wpE (defs₀ (F := F)) 𝒱 (e.c : Thread nD τ) bd) Set.univ (k0_part40 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q) := by
  by_cases h1 : k0_cond1 i = 1#1
  · have h0 := (cond1_iff i).mp h1
    rw [part_pos i _ _ _ _ _ _ _ _ _ _ _ _ _ _ _ _ _ _ _ _ _ _ _ _ _ _ _ _ _ _ _ _ _ _ h1, show St e (i 0).val = Start e by rw [h0]; rfl,
      show Mid e (loAt (i 0).val) (i 0).val (hiAt (i 0).val) = Mid e 0 0 24 by rw [h0]; rfl]
    exact init_ok e 𝒱 bd i h1 hQG (pass1 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19)
  · have h0 : (i 0).val ≠ 0 := fun h => h1 ((cond1_iff i).mpr h)
    rw [part_neg i _ _ _ _ _ _ _ _ _ _ _ _ _ _ _ _ _ _ _ _ _ _ _ _ _ _ _ _ _ _ _ _ _ _ h1]
    unfold St
    rw [if_neg h0]
    iintro H Hk
    iapply Hk $$ H

/-- The pass over the block's indices and the wait for the first half of its rows. -/
theorem first_ok (e : Env nD τ sig F) (𝒱 : Variants) (bd : Option 𝒱.V) (i : grid0.Coords)
    (hN : sig.dmaCredit .tc (Kind.tc.table .vmem) e.a11.view.buf ⟨2, ![8, 8192]⟩ .i32 = 8 * NR e)
    {Q : PUnit → sProp 𝕄G} {f7 f8} (hf : IdsAre e f7) (hg : ∀ x, e.a8.view.read (Elt F) f8 x = e.scales x) :
    (iprop((e.a7.view.loc (e.c : Thread nD τ) ↦[e.a7.view.set]{fullShare} f7) ∗ (e.a8.view.loc (e.c : Thread nD τ) ↦[e.a8.view.set]{fullShare} f8)
        ∗ Tmp e anyP anyP ∗ Flying e (i 0).val ((i 0).val % 24) 0 ∗ ∃ W, owes (e.c : Thread nD τ) 0 W) : sProp 𝕄G)
      ⊢ iprop((∀ v3 v4, iprop((e.a7.view.loc (e.c : Thread nD τ) ↦[e.a7.view.set]{fullShare} f7) ∗ (e.a8.view.loc (e.c : Thread nD τ) ↦[e.a8.view.set]{fullShare} f8)
            ∗ Tmp e (shiftQ e (i 0).val) (scaleQ e (i 0).val) ∗ Flying e (i 0).val ((i 0).val % 24) (8 * NR e) ∗ ∃ W, owes (e.c : Thread nD τ) 0 W) -∗
            wp frame (wpE (defs₀ (F := F)) 𝒱 (e.c : Thread nD τ) bd) Set.univ (rest (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val) v3 v4) Q)
        -∗ wp frame (wpE (defs₀ (F := F)) 𝒱 (e.c : Thread nD τ) bd) Set.univ (prog (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19) Q) := by
  have hi : (i 0).val < 128 := (i 0).isLt
  unfold prog Tmp
  simp only [k0_part46_eq_skeleton, k0_part48_eq_skeleton]
  iintro ⟨H7, H8, ⟨H14, H15⟩, HF, ⟨%W, HO⟩⟩ Hk
  ihave H14 := (held_mono e.c e.a14 (A := Finset.univ) (P := anyP) (Q := upTo 0 (shiftQ e (i 0).val)) (fun x _ v _ h => absurd h (Nat.not_lt_zero _))) $$ H14
  ihave H15 := (held_mono e.c e.a15 (A := Finset.univ) (P := anyP) (Q := upTo 0 (scaleQ e (i 0).val)) (fun x _ v _ h => absurd h (Nat.not_lt_zero _))) $$ H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 0 0 0 rfl (by decide) (shiftQ e (i 0).val)
    (shift_row (hf.word (n := 16 * (i 0).val + 0) (by omega) (k0_off65_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 0 0 0 rfl (by decide) (scaleQ e (i 0).val)
    (scale_row (hf.word (n := 16 * (i 0).val + 0) (by omega) (k0_off65_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 1 1 0 rfl (by decide) (shiftQ e (i 0).val)
    (shift_row (hf.word (n := 16 * (i 0).val + 1) (by omega) (k0_off67_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 1 1 0 rfl (by decide) (scaleQ e (i 0).val)
    (scale_row (hf.word (n := 16 * (i 0).val + 1) (by omega) (k0_off67_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 2 0 1 rfl (by decide) (shiftQ e (i 0).val)
    (shift_row (hf.word (n := 16 * (i 0).val + 2) (by omega) (k0_off69_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 2 0 1 rfl (by decide) (scaleQ e (i 0).val)
    (scale_row (hf.word (n := 16 * (i 0).val + 2) (by omega) (k0_off69_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 3 1 1 rfl (by decide) (shiftQ e (i 0).val)
    (shift_row (hf.word (n := 16 * (i 0).val + 3) (by omega) (k0_off71_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 3 1 1 rfl (by decide) (scaleQ e (i 0).val)
    (scale_row (hf.word (n := 16 * (i 0).val + 3) (by omega) (k0_off71_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 4 0 2 rfl (by decide) (shiftQ e (i 0).val)
    (shift_row (hf.word (n := 16 * (i 0).val + 4) (by omega) (k0_off73_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 4 0 2 rfl (by decide) (scaleQ e (i 0).val)
    (scale_row (hf.word (n := 16 * (i 0).val + 4) (by omega) (k0_off73_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 5 1 2 rfl (by decide) (shiftQ e (i 0).val)
    (shift_row (hf.word (n := 16 * (i 0).val + 5) (by omega) (k0_off75_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 5 1 2 rfl (by decide) (scaleQ e (i 0).val)
    (scale_row (hf.word (n := 16 * (i 0).val + 5) (by omega) (k0_off75_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 6 0 3 rfl (by decide) (shiftQ e (i 0).val)
    (shift_row (hf.word (n := 16 * (i 0).val + 6) (by omega) (k0_off77_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 6 0 3 rfl (by decide) (scaleQ e (i 0).val)
    (scale_row (hf.word (n := 16 * (i 0).val + 6) (by omega) (k0_off77_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 7 1 3 rfl (by decide) (shiftQ e (i 0).val)
    (shift_row (hf.word (n := 16 * (i 0).val + 7) (by omega) (k0_off79_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 7 1 3 rfl (by decide) (scaleQ e (i 0).val)
    (scale_row (hf.word (n := 16 * (i 0).val + 7) (by omega) (k0_off79_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 8 0 4 rfl (by decide) (shiftQ e (i 0).val)
    (shift_row (hf.word (n := 16 * (i 0).val + 8) (by omega) (k0_off81_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 8 0 4 rfl (by decide) (scaleQ e (i 0).val)
    (scale_row (hf.word (n := 16 * (i 0).val + 8) (by omega) (k0_off81_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 9 1 4 rfl (by decide) (shiftQ e (i 0).val)
    (shift_row (hf.word (n := 16 * (i 0).val + 9) (by omega) (k0_off83_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 9 1 4 rfl (by decide) (scaleQ e (i 0).val)
    (scale_row (hf.word (n := 16 * (i 0).val + 9) (by omega) (k0_off83_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 10 0 5 rfl (by decide) (shiftQ e (i 0).val)
    (shift_row (hf.word (n := 16 * (i 0).val + 10) (by omega) (k0_off85_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 10 0 5 rfl (by decide) (scaleQ e (i 0).val)
    (scale_row (hf.word (n := 16 * (i 0).val + 10) (by omega) (k0_off85_eq i) _) hg _ rfl (fun _ => rfl))) $$ H15
  iintro H15
  sl_exec (disch := exact scale_of (hf.lt _))
  dsimp only [Prog.bind]
  try sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 11 1 5 rfl (by decide) (shiftQ e (i 0).val)
    (shift_row (hf.word (n := 16 * (i 0).val + 11) (by omega) (k0_off87_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 11 1 5 rfl (by decide) (scaleQ e (i 0).val)
    (scale_row (hf.word (n := 16 * (i 0).val + 11) (by omega) (k0_off87_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 12 0 6 rfl (by decide) (shiftQ e (i 0).val)
    (shift_row (hf.word (n := 16 * (i 0).val + 12) (by omega) (k0_off89_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 12 0 6 rfl (by decide) (scaleQ e (i 0).val)
    (scale_row (hf.word (n := 16 * (i 0).val + 12) (by omega) (k0_off89_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 13 1 6 rfl (by decide) (shiftQ e (i 0).val)
    (shift_row (hf.word (n := 16 * (i 0).val + 13) (by omega) (k0_off91_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 13 1 6 rfl (by decide) (scaleQ e (i 0).val)
    (scale_row (hf.word (n := 16 * (i 0).val + 13) (by omega) (k0_off91_eq i) _) hg _ rfl (fun _ => rfl))) $$ H15
  iintro H15
  sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 14 0 7 rfl (by decide) (shiftQ e (i 0).val)
    (shift_row (hf.word (n := 16 * (i 0).val + 14) (by omega) (k0_off93_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 14 0 7 rfl (by decide) (scaleQ e (i 0).val)
    (scale_row (hf.word (n := 16 * (i 0).val + 14) (by omega) (k0_off93_eq i) _) hg _ rfl (fun _ => rfl))) $$ H15
  iintro H15
  sl_exec (disch := exact scale_of (hf.lt _))
  dsimp only [Prog.bind]
  try sl_exec (disch := exact scale_of (hf.lt _))
  iapply (held_load (defs := defs₀ (F := F)) 𝒱 e.c bd Finset.univ _ (Finset.subset_univ _)) $$ H14
  iintro %_ %_ H14
  try sl_exec (disch := exact scale_of (hf.lt _))
  iapply (row_store (defs := defs₀ (F := F)) 𝒱 e.c bd 15 1 7 rfl (by decide) (shiftQ e (i 0).val)
    (shift_row (hf.word (n := 16 * (i 0).val + 15) (by omega) (k0_off95_eq i) _) _ (fun _ => rfl))) $$ H14
  iintro H14
  sl_exec (disch := exact scale_of (hf.lt _))
  iapply (held_load (defs := defs₀ (F := F)) 𝒱 e.c bd Finset.univ _ (Finset.subset_univ _)) $$ H15
  iintro %_ %_ H15
  try sl_exec (disch := exact scale_of (hf.lt _))
  iapply (row_store (defs := defs₀ (F := F)) 𝒱 e.c bd 15 1 7 rfl (by decide) (scaleQ e (i 0).val)
    (scale_row (hf.word (n := 16 * (i 0).val + 15) (by omega) (k0_off95_eq i) _) hg _ rfl (fun _ => rfl))) $$ H15
  iintro H15
  try sl_exec
  iapply (wait_half (defs := defs₀ (F := F)) e 𝒱 bd (i 0).val ((i 0).val % 24) hN (by rw [k0_off97_eq]; simp)) $$ [HF HO]
  · isplitl [HF]
    · iexact HF
    · iexact HO
  iintro ⟨HF, HO⟩
  ihave H14 := (held_mono e.c e.a14 (A := Finset.univ) (P := upTo 16 (shiftQ e (i 0).val)) (Q := shiftQ e (i 0).val) (fun x _ v h => h (tok_lt x))) $$ H14
  ihave H15 := (held_mono e.c e.a15 (A := Finset.univ) (P := upTo 16 (scaleQ e (i 0).val)) (Q := scaleQ e (i 0).val) (fun x _ v h => h (tok_lt x))) $$ H15
  dsimp only [Prog.bind]
  iapply (ret_ok (defs := defs₀ (F := F)) 𝒱 e.c bd PUnit.unit)
  iapply Hk $$ %_ %_ [H7 H8 H14 H15 HF HO]
  iframe
  iexists _
  iexact HO

end Cert.KernelIdeal.Hand
-- ==== Proof.IRest.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IFirst
public import Idealize.ShloMosaic.Lib.Exec
public import Idealize.ShloMosaic.Lib.Tactic
public import Idealize.ShloMosaic.Lib.VecWindow

/-!
The rest of a step up to its two loops.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The wait for the second half of the block's rows. -/
def second (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) {α : Type} (k : Prog (TpuEff nD τ sig (Elt F) Λ₀ .tc) α) : Prog (TpuEff nD τ sig (Elt F) Λ₀ .tc) α := do
  let v284 : Memref sig .tc .vmem S1x1x8x8192 .i32 := arg11.slice (Rect.unit (s := S24x2x8x8192) (k0_off99 i) S1x1x8x8192.size (k0_off99_inb i)) (fun _ => rfl)
  let v285 : Memref sig .tc .vmem S8x8192 .i32 := v284.squeeze S8x8192 squeezes_S1x1x8x8192_S8x8192
  let v286 : Memref sig .tc .hbm S8x8192 .i32 := arg2.slice (Rect.unit (s := S8128x8192) ![0, 0] S8x8192.size inb_S8128x8192_S8x8192_0_0) (fun _ => rfl)
  let v282 : DmaSems sig S1 := arg17.slice (Rect.unit (s := S24) (k0_off97 i) S1.size (k0_off97_inb i))
  let v283 : DmaSems sig S_ := v282.squeeze S_ squeezes_S1_S_
  Prog.lift (.waitDma2 v283.sem v286 v285 (View.wordExact_bits rfl) ((View.wordExact_bits rfl).reshape _ _))
  k

/-- The wait for the results of eight steps before. -/
def outs (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (k0_h2 : k0_cond2 i = 1#1) {α : Type} (k : Prog (TpuEff nD τ sig (Elt F) Λ₀ .tc) α) : Prog (TpuEff nD τ sig (Elt F) Λ₀ .tc) α := do
  let v343 : DmaSems sig S1 := arg18.slice (Rect.unit (s := S8) (k0_off100 i) S1.size (k0_off100_inb i k0_h2))
  let v344 : DmaSems sig S_ := v343.squeeze S_ squeezes_S1_S_
  let v345 : Memref sig .tc .hbm S16x8192 .bf16 := arg5.slice (Rect.unit (s := S2048x8192) (k0_off101 i) S16x8192.size (k0_off101_inb i k0_h2)) (fun _ => rfl)
  let v346 : Memref sig .tc .vmem S1x16x8192 .bf16 := arg12.slice (Rect.unit (s := S8x16x8192) (k0_off102 i) S1x16x8192.size (k0_off102_inb i k0_h2)) (fun _ => rfl)
  let v347 : Memref sig .tc .vmem S16x8192 .bf16 := v346.squeeze S16x8192 squeezes_S1x16x8192_S16x8192
  Prog.lift (.waitDma2 v344.sem v347 v345 ((harg12.wordExact_slice rfl _ (k0_off102_wordsbf16 i k0_h2)).reshape _ _) (harg5.wordExact_slice rfl _ (k0_off101_wordsbf16 i k0_h2)))
  let v348 : DmaSems sig S1 := arg19.slice (Rect.unit (s := S8) (k0_off100 i) S1.size (k0_off100_inb i k0_h2))
  let v349 : DmaSems sig S_ := v348.squeeze S_ squeezes_S1_S_
  let v350 : Memref sig .tc .hbm S16x8192 .bf16 := arg6.slice (Rect.unit (s := S2048x8192) (k0_off101 i) S16x8192.size (k0_off101_inb i k0_h2)) (fun _ => rfl)
  let v351 : Memref sig .tc .vmem S1x16x8192 .bf16 := arg13.slice (Rect.unit (s := S8x16x8192) (k0_off102 i) S1x16x8192.size (k0_off102_inb i k0_h2)) (fun _ => rfl)
  let v352 : Memref sig .tc .vmem S16x8192 .bf16 := v351.squeeze S16x8192 squeezes_S1x16x8192_S16x8192
  Prog.lift (.waitDma2 v349.sem v352 v350 ((harg13.wordExact_slice rfl _ (k0_off102_wordsbf16 i k0_h2)).reshape _ _) (harg6.wordExact_slice rfl _ (k0_off101_wordsbf16 i k0_h2)))
  k

/-- The gathered block and its sums of squares. -/
def sums (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) :
    Prog (TpuEff nD τ sig (Elt F) Λ₀ .tc) (Σ' (v311 : FVec F S8x1 .f32) (v315 : FVec F S8x1 .f32), F .f32) := do
  let v290 : Vec F S1x8x128 .i32 ← Prog.lift (.load arg14 (Rect.unit (s := S2x8x128) ![0, 0, 0] S1x8x128.size inb_S2x8x128_S1x8x128_0_0_0).toLoadRect (View.loadsAt_vmem h_S1x8x128))
  let v292 : Vec F S1x8x128 .i32 ← Prog.lift (.load arg14 (Rect.unit (s := S2x8x128) ![1, 0, 0] S1x8x128.size inb_S2x8x128_S1x8x128_1_0_0).toLoadRect (View.loadsAt_vmem h_S1x8x128))
  let v294 : Vec F S1x8x128 .f32 ← Prog.lift (.load arg15 (Rect.unit (s := S2x8x128) ![0, 0, 0] S1x8x128.size inb_S2x8x128_S1x8x128_0_0_0).toLoadRect (View.loadsAt_vmem h_S1x8x128))
  let v298 : Vec F S1x8x128 .f32 ← Prog.lift (.load arg15 (Rect.unit (s := S2x8x128) ![1, 0, 0] S1x8x128.size inb_S2x8x128_S1x8x128_1_0_0).toLoadRect (View.loadsAt_vmem h_S1x8x128))
  let (v304_0, v304_1) ← Scf.Loop.for k0_t2_loop k0_t2_ok (k0_pay158 (F := F), k0_pay158 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 v290 v292 v294 v298)
  have cst_203 : F .f32 := Scalar.ofBits .f32 0x358637BD#32
  pure ⟨k0_pay164 v304_0, k0_pay165 v304_1, cst_203⟩

theorem mid_pos (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) (h : k0_cond2 i = 1#1) :
    k0_part49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 = second (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (outs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 h (sums (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4)) := by
  rw [k0_part49_eq_skeleton]
  unfold k0_part49_skel second outs sums
  simp only [dif_pos h]

theorem mid_neg (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) (arg0 v3 v4 : BitVec 32) (h : ¬ k0_cond2 i = 1#1) :
    k0_part49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4 = second (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (sums (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg0 v3 v4) := by
  rw [k0_part49_eq_skeleton]
  unfold k0_part49_skel second sums
  simp only [dif_neg h]

section
variable (e : Env nD τ sig F) (𝒱 : Variants) (bd : Option 𝒱.V) (i : grid0.Coords)

/-- What a trip of the first loop keeps. -/
def I2 (k : ℕ) (acc : FVec F S8x128 .f32 × FVec F S8x128 .f32) : sProp 𝕄G :=
  iprop(held e.c e.a11 (slotR ((i 0).val % 24)).set (wordsOf e (i 0).val)
    ∗ held e.c e.a13 (outR ((i 0).val % 8)).set (cols (2048 * k) (blockIs e.QE (i 0).val)) ∗ ⌜e.ACC (i 0).val k acc.1 acc.2⌝)

/-- What a trip of the second loop keeps. -/
def I3 (k : ℕ) : sProp 𝕄G :=
  iprop(held e.c e.a13 (outR ((i 0).val % 8)).set (blockIs e.QE (i 0).val) ∗ held e.c e.a10 Finset.univ e.QG
    ∗ held e.c e.a12 (outR ((i 0).val % 8)).set (cols (2048 * k) (blockIs e.QO (i 0).val)))

/-- The first loop's trips. -/
def Trips2 : Prop := ∀ (arg0 v3 v4 : BitVec 32) (w0 w1 : Vec F S1x8x128 .i32) (s0 s1 : Vec F S1x8x128 .f32),
  (∀ y, shiftQ e (i 0).val ((Rect.unit (s := S2x8x128) ![0, 0, 0] S1x8x128.size inb_S2x8x128_S1x8x128_0_0_0).emb y) (w0 y)) →
  (∀ y, shiftQ e (i 0).val ((Rect.unit (s := S2x8x128) ![1, 0, 0] S1x8x128.size inb_S2x8x128_S1x8x128_1_0_0).emb y) (w1 y)) →
  (∀ y, scaleQ e (i 0).val ((Rect.unit (s := S2x8x128) ![0, 0, 0] S1x8x128.size inb_S2x8x128_S1x8x128_0_0_0).emb y) (s0 y)) →
  (∀ y, scaleQ e (i 0).val ((Rect.unit (s := S2x8x128) ![1, 0, 0] S1x8x128.size inb_S2x8x128_S1x8x128_1_0_0).emb y) (s1 y)) →
  ∀ k acc, (I2 e i k.val acc : sProp 𝕄G)
    ⊢ wp frame (wpE (defs₀ (F := F)) 𝒱 (e.c : Thread nD τ) bd) Set.univ (k0_t2_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 w0 w1 s0 s1 k acc) (fun r => I2 e i (k.val + 1) r)

/-- The second loop's trips. -/
def Trips3 : Prop := ∀ (v4 : BitVec 32) (m0 m1 : FVec F S8x1 .f32) (u : F .f32), e.SUM (i 0).val m0 m1 u →
  ∀ k acc, (I3 e i k.val : sProp 𝕄G)
    ⊢ wp frame (wpE (defs₀ (F := F)) 𝒱 (e.c : Thread nD τ) bd) Set.univ (k0_t3_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 v4 m0 m1 u k acc) (fun _ => I3 e i (k.val + 1))

/-- What a step's arithmetic is to do. -/
structure Good : Prop where
  acc0 : e.ACC (i 0).val 0 (k0_pay158 (F := F)) (k0_pay158 (F := F))
  sum : ∀ a b, e.ACC (i 0).val 4 a b → e.SUM (i 0).val (k0_pay164 a) (k0_pay165 b) (Scalar.ofBits .f32 0x358637BD#32)
  t2 : Trips2 e 𝒱 bd i
  t3 : Trips3 e 𝒱 bd i

variable {e 𝒱 bd i}

theorem sums_ok (hG : Good e 𝒱 bd i) (arg0 v3 v4 : BitVec 32) :
    (iprop(Tmp e (shiftQ e (i 0).val) (scaleQ e (i 0).val) ∗ held e.c e.a11 (slotR ((i 0).val % 24)).set (wordsOf e (i 0).val)
        ∗ held e.c e.a13 (outR ((i 0).val % 8)).set anyP) : sProp 𝕄G)
      ⊢ wp frame (wpE (defs₀ (F := F)) 𝒱 (e.c : Thread nD τ) bd) Set.univ (sums (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4)
        (fun r => iprop(⌜e.SUM (i 0).val r.1 r.2.1 r.2.2⌝ ∗ Tmp e anyP anyP ∗ held e.c e.a11 (slotR ((i 0).val % 24)).set anyP
          ∗ held e.c e.a13 (outR ((i 0).val % 8)).set (blockIs e.QE (i 0).val))) := by
  unfold sums Tmp
  iintro ⟨⟨H14, H15⟩, H11, H13⟩
  iapply (held_load (defs := defs₀ (F := F)) 𝒱 e.c bd Finset.univ _ (Finset.subset_univ _)) $$ H14
  iintro %w0 %hw0 H14
  iapply (held_load (defs := defs₀ (F := F)) 𝒱 e.c bd Finset.univ _ (Finset.subset_univ _)) $$ H14
  iintro %w1 %hw1 H14
  iapply (held_load (defs := defs₀ (F := F)) 𝒱 e.c bd Finset.univ _ (Finset.subset_univ _)) $$ H15
  iintro %s0 %hs0 H15
  iapply (held_load (defs := defs₀ (F := F)) 𝒱 e.c bd Finset.univ _ (Finset.subset_univ _)) $$ H15
  iintro %s1 %hs1 H15
  iapply (seq (defs := defs₀ (F := F)) 𝒱 e.c bd (loop_ok (defs := defs₀ (F := F)) 𝒱 e.c bd k0_t2_loop k0_t2_ok _ _ (I2 e i) (hG.t2 arg0 v3 v4 w0 w1 s0 s1 hw0 hw1 hs0 hs1))) $$ [H11 H13]
  · unfold I2
    isplitl [H11]
    · iexact H11
    isplitl [H13]
    · iapply (held_mono e.c e.a13 (fun x _ v _ => fun h => absurd h (Nat.not_lt_zero _))) $$ H13
    · ipureintro
      exact hG.acc0
  iintro %acc HI
  rw [show k0_t2_loop.trips = 4 by decide]
  unfold I2
  icases HI with ⟨H11, H13, %hacc⟩
  dsimp only
  iapply (ret_ok (defs := defs₀ (F := F)) 𝒱 e.c bd _)
  isplitr
  · ipureintro
    exact hG.sum _ _ hacc
  isplitl [H14 H15]
  · isplitl [H14]
    · iapply (held_mono e.c e.a14 (fun x _ v _ => trivial)) $$ H14
    · iapply (held_mono e.c e.a15 (fun x _ v _ => trivial)) $$ H15
  isplitl [H11]
  · iapply (held_mono e.c e.a11 (fun x _ v _ => trivial)) $$ H11
  · iapply (held_mono e.c e.a13 (fun x _ v h => h (x 2).isLt)) $$ H13

theorem second_ok (hN : sig.dmaCredit .tc (Kind.tc.table .vmem) e.a11.view.buf ⟨2, ![8, 8192]⟩ .i32 = 8 * NR e) (hN0 : 0 < NR e)
    (g : Buf (Elt F) (e.a11.view.loc (e.c : Thread nD τ))) {α : Type} (k : Prog (TpuEff nD τ sig (Elt F) Λ₀ .tc) α) {Q : α → sProp 𝕄G} :
    (iprop(Flying e (i 0).val ((i 0).val % 24) (8 * NR e) ∗ ∃ W, owes (e.c : Thread nD τ) 0 W) : sProp 𝕄G)
      ⊢ iprop((iprop(Landed e (i 0).val ((i 0).val % 24) ∗ ∃ W, owes (e.c : Thread nD τ) 0 W) -∗ wp frame (wpE (defs₀ (F := F)) 𝒱 (e.c : Thread nD τ) bd) Set.univ k Q)
        -∗ wp frame (wpE (defs₀ (F := F)) 𝒱 (e.c : Thread nD τ) bd) Set.univ (second (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 k) Q) := by
  unfold second
  iintro ⟨HF, ⟨%W, HO⟩⟩ Hk
  iapply (wait_rest (defs := defs₀ (F := F)) e 𝒱 bd g (i 0).val ((i 0).val % 24) hN hN0 (by rw [k0_off97_eq]; simp)) $$ [HF HO]
  · isplitl [HF]
    · iexact HF
    · iexact HO
  iintro ⟨HF, HO⟩
  iapply Hk
  isplitl [HF]
  · iexact HF
  · iexists _
    iexact HO

theorem outs_ok (h2 : k0_cond2 i = 1#1) (hNHA : 0 < NO e.a5) (hNHB : 0 < NO e.a6) {α : Type} (k : Prog (TpuEff nD τ sig (Elt F) Λ₀ .tc) α) {Q : α → sProp 𝕄G} :
    (iprop(Outs e ((i 0).val - 8) (i 0).val ∗ ∃ W, owes (e.c : Thread nD τ) 0 W) : sProp 𝕄G)
      ⊢ iprop((iprop(Outs e ((i 0).val - 8 + 1) (i 0).val ∗ ∃ W, owes (e.c : Thread nD τ) 0 W) -∗ wp frame (wpE (defs₀ (F := F)) 𝒱 (e.c : Thread nD τ) bd) Set.univ k Q)
        -∗ wp frame (wpE (defs₀ (F := F)) 𝒱 (e.c : Thread nD τ) bd) Set.univ (outs (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 h2 k) Q) := by
  have h8 := (cond2_iff i).mp h2
  have hi : (i 0).val < 128 := (i 0).isLt
  have h100 : k0_off100 i = ![((i 0).val - 8) % 8] := by
    rw [k0_off100_eq i, show (i 0).val % 8 = ((i 0).val - 8) % 8 by omega]
  unfold outs Outs
  iintro ⟨⟨HA, HB⟩, HO⟩ Hk
  iapply (out_wait (defs := defs₀ (F := F)) e.c e.a12 e.a5 e.a18 e.QO 𝒱 bd ((i 0).val - 8) (i 0).val (by omega) (by omega) (by omega) hNHA h100 (W := ∅)) $$ [HA HO]
  · isplitl [HA]
    · iexact HA
    · iexact HO
  iintro ⟨HA, HO⟩
  iapply (out_wait (defs := defs₀ (F := F)) e.c e.a13 e.a6 e.a19 e.QE 𝒱 bd ((i 0).val - 8) (i 0).val (by omega) (by omega) (by omega) hNHB h100 (W := ∅)) $$ [HB HO]
  · isplitl [HB]
    · iexact HB
    · iexact HO
  iintro ⟨HB, HO⟩
  iapply Hk
  isplitl [HA HB]
  · isplitl [HA]
    · iexact HA
    · iexact HB
  · iexact HO

end

end Cert.KernelIdeal.Hand
-- ==== Proof.IStep.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IRest
public import Idealize.ShloMosaic.Lib.Exec
public import Idealize.ShloMosaic.Lib.Tactic
public import Idealize.ShloMosaic.Lib.VecWindow

/-!
One step of the kernel.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

variable {e : Env nD τ sig F} {𝒱 : Variants} {bd : Option 𝒱.V} {i : grid0.Coords}

/-- The sizes of the transfers. -/
structure Sizes (e : Env nD τ sig F) : Prop where
  hN : sig.dmaCredit .tc (Kind.tc.table .vmem) e.a11.view.buf ⟨2, ![8, 8192]⟩ .i32 = 8 * NR e
  hN0 : 0 < NR e
  hA : 0 < NO e.a5
  hB : 0 < NO e.a6

theorem mid_ok (hS : Sizes e) (g : Buf (Elt F) (e.a11.view.loc (e.c : Thread nD τ))) (arg0 v3 v4 : BitVec 32)
    {α : Type} (k : _ → Prog (TpuEff nD τ sig (Elt F) Λ₀ .tc) α) {Q : α → sProp 𝕄G} :
    (iprop(Flying e (i 0).val ((i 0).val % 24) (8 * NR e) ∗ Outs e (loAt (i 0).val) (i 0).val ∗ ∃ W, owes (e.c : Thread nD τ) 0 W) : sProp 𝕄G)
      ⊢ iprop((iprop(Landed e (i 0).val ((i 0).val % 24) ∗ Outs e ((i 0).val + 1 - 8) (i 0).val ∗ ∃ W, owes (e.c : Thread nD τ) 0 W) -∗
            wp frame (wpE (defs₀ (F := F)) 𝒱 (e.c : Thread nD τ) bd) Set.univ (sums (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4) (fun r => wp frame (wpE (defs₀ (F := F)) 𝒱 (e.c : Thread nD τ) bd) Set.univ (k r) Q))
        -∗ wp frame (wpE (defs₀ (F := F)) 𝒱 (e.c : Thread nD τ) bd) Set.univ (k0_part49 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 >>= k) Q) := by
  have hi : (i 0).val < 128 := (i 0).isLt
  have hlo : loAt (i 0).val = (i 0).val - 8 := if_neg (by omega)
  rw [wp_bind, hlo]
  iintro ⟨HF, HO, HW⟩ Hk
  by_cases h : k0_cond2 i = 1#1
  · have h8 := (cond2_iff i).mp h
    rw [mid_pos i _ _ _ _ _ _ _ _ _ _ _ _ _ _ _ _ _ _ _ _ _ _ _ _ _ _ _ _ _ _ _ _ _ _ arg0 v3 v4 h]
    iapply (second_ok hS.hN hS.hN0 g _) $$ [HF HW]
    · isplitl [HF]
      · iexact HF
      · iexact HW
    iintro ⟨HF, HW⟩
    iapply (outs_ok h hS.hA hS.hB _) $$ [HO HW]
    · isplitl [HO]
      · iexact HO
      · iexact HW
    iintro ⟨HO, HW⟩
    rw [show (i 0).val - 8 + 1 = (i 0).val + 1 - 8 by omega]
    iapply Hk
    iframe
  · have h8 : ¬ 8 ≤ (i 0).val := fun h' => h ((cond2_iff i).mpr h')
    rw [mid_neg i _ _ _ _ _ _ _ _ _ _ _ _ _ _ _ _ _ _ _ _ _ _ _ _ _ _ _ _ _ _ _ _ _ _ arg0 v3 v4 h]
    iapply (second_ok hS.hN hS.hN0 g _) $$ [HF HW]
    · isplitl [HF]
      · iexact HF
      · iexact HW
    iintro ⟨HF, HW⟩
    rw [show (i 0).val - 8 = (i 0).val + 1 - 8 by omega]
    iapply Hk
    iframe

/-- The last step is the 127th. -/
theorem last_iff : ∀ i : grid0.Coords, Scalar.cmpi .ne (Scalar.extui (Scalar.cmpi .eq (BitVec.ofNat 32 (i 0).val) 127#32)) 0#32 = 1#1 ↔ (i 0).val = 127 := by
  decide +kernel

theorem tail_ok (hS : Sizes e) {Q : PUnit → sProp 𝕄G} :
    (iprop(Outs e ((i 0).val + 1 - 8) ((i 0).val + 1) ∗ ∃ W, owes (e.c : Thread nD τ) 0 W) : sProp 𝕄G)
      ⊢ iprop((iprop(Outs e (loAt ((i 0).val + 1)) ((i 0).val + 1) ∗ ∃ W, owes (e.c : Thread nD τ) 0 W) -∗ Q ⟨⟩)
        -∗ wp frame (wpE (defs₀ (F := F)) 𝒱 (e.c : Thread nD τ) bd) Set.univ (tail2 (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val)) Q) := by
  have hi : (i 0).val < 128 := (i 0).isLt
  unfold tail2
  dsimp only
  by_cases h : Scalar.cmpi .ne (Scalar.extui (Scalar.cmpi .eq (BitVec.ofNat 32 (i 0).val) 127#32)) 0#32 = 1#1
  · have h1 := (last_iff i).mp h
    rw [dif_pos h, h1, show loAt (127 + 1) = 128 from rfl, show 127 + 1 = 128 from rfl, show 128 - 8 = 120 from rfl]
    iintro H Hk
    iapply (drain_ok e 𝒱 bd i hS.hA hS.hB _) $$ H
    iintro H
    iapply (ret_ok (defs := defs₀ (F := F)) 𝒱 e.c bd _)
    iapply Hk $$ H
  · have h1 : (i 0).val ≠ 127 := fun h' => h ((last_iff i).mpr h')
    rw [dif_neg h, show loAt ((i 0).val + 1) = (i 0).val + 1 - 8 from if_neg (by omega)]
    iintro H Hk
    iapply (ret_ok (defs := defs₀ (F := F)) 𝒱 e.c bd _)
    iapply Hk $$ H

theorem rest_ok (hG : Good e 𝒱 bd i) (hS : Sizes e) (g : Buf (Elt F) (e.a11.view.loc (e.c : Thread nD τ))) (v3 v4 : BitVec 32)
    {Q : PUnit → sProp 𝕄G} {f7} (hf : IdsAre e f7) :
    (iprop((e.a7.view.loc (e.c : Thread nD τ) ↦[e.a7.view.set]{fullShare} f7) ∗ Tmp e (shiftQ e (i 0).val) (scaleQ e (i 0).val)
        ∗ Flying e (i 0).val ((i 0).val % 24) (8 * NR e) ∗ held e.c e.a10 Finset.univ e.QG
        ∗ (Free e ((i 0).val % 24) -∗ In e ((i 0).val + 1) (hiAt (i 0).val)) ∗ Outs e (loAt (i 0).val) (i 0).val ∗ ∃ W, owes (e.c : Thread nD τ) 0 W) : sProp 𝕄G)
      ⊢ iprop((iprop((e.a7.view.loc (e.c : Thread nD τ) ↦[e.a7.view.set]{fullShare} f7) ∗ Tmp e anyP anyP
            ∗ held e.c e.a10 Finset.univ e.QG ∗ In e ((i 0).val + 1) (hiAt ((i 0).val + 1)) ∗ Outs e (loAt ((i 0).val + 1)) ((i 0).val + 1)
            ∗ ∃ W, owes (e.c : Thread nD τ) 0 W) -∗ Q ⟨⟩)
        -∗ wp frame (wpE (defs₀ (F := F)) 𝒱 (e.c : Thread nD τ) bd) Set.univ (rest (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 (BitVec.ofNat 32 (i 0).val) v3 v4) Q) := by
  have hi : (i 0).val < 128 := (i 0).isLt
  unfold rest
  iintro ⟨H7, HT, HF, H10, HIn, HOut, HW⟩ Hk
  iapply (mid_ok hS g _ v3 v4 _) $$ [HF HOut HW]
  · iframe
  iintro ⟨HL, HOut, HW⟩
  unfold Landed Outs
  icases HL with ⟨Hs, H11, Ht⟩
  icases HOut with ⟨HA, HB⟩
  ihave HA := (out_next e.c e.a12 e.a5 e.a18 e.QO ((i 0).val + 1 - 8) (i 0).val (by omega) (by omega) hi) $$ HA
  ihave HB := (out_next e.c e.a13 e.a6 e.a19 e.QE ((i 0).val + 1 - 8) (i 0).val (by omega) (by omega) hi) $$ HB
  icases HA with ⟨⟨HsA, HvA, HhA⟩, HA⟩
  icases HB with ⟨⟨HsB, HvB, HhB⟩, HB⟩
  iapply (seqEnd (defs := defs₀ (F := F)) 𝒱 e.c bd (sums_ok hG _ v3 v4)) $$ [HT H11 HvB]
  · iframe
  iintro %r ⟨%hr, HT, H11, HvB⟩
  dsimp only
  iapply (seq (defs := defs₀ (F := F)) 𝒱 e.c bd (loop_ok (defs := defs₀ (F := F)) 𝒱 e.c bd k0_t3_loop k0_t3_ok _ _ (fun k _ => I3 e i k) (hG.t3 v4 _ _ _ hr))) $$ [HvB H10 HvA]
  · unfold I3
    isplitl [HvB]
    · iexact HvB
    isplitl [H10]
    · iexact H10
    · iapply (held_mono e.c e.a12 (fun x _ v _ => fun h => absurd h (Nat.not_lt_zero _))) $$ HvA
  iintro %_ HI
  rw [show k0_t3_loop.trips = 4 by decide]
  unfold I3
  icases HI with ⟨HvB, H10, HvA⟩
  ihave HvA := (held_mono e.c e.a12 (Q := blockIs e.QO (i 0).val) (fun x _ v h => h (x 2).isLt)) $$ HvA
  iapply (out_put (defs := defs₀ (F := F)) e.c e.a12 e.a5 e.a18 e.QO 𝒱 bd (i 0).val ((i 0).val % 8) hi (by rw [k0_off110_eq]; simp) (by rw [k0_off109_eq, Nat.mod_eq_of_lt hi]) (by rw [k0_off108_eq]; simp)) $$ [HsA HvA HhA]
  · iframe
  iintro HFA
  iapply (out_put (defs := defs₀ (F := F)) e.c e.a13 e.a6 e.a19 e.QE 𝒱 bd (i 0).val ((i 0).val % 8) hi (by rw [k0_off110_eq]; simp) (by rw [k0_off109_eq, Nat.mod_eq_of_lt hi]) (by rw [k0_off108_eq]; simp)) $$ [HsB HvB HhB]
  · iframe
  iintro HFB
  ihave HA := HA $$ HFA
  ihave HB := HB $$ HFB
  ihave HIn := HIn $$ [Hs H11 Ht]
  · unfold Free
    iframe
  by_cases h3 : k0_cond3 i = 1#1
  · have h4 := (cond3_iff i).mp h3
    rw [dif_pos h3, show hiAt (i 0).val = (i 0).val + 24 from if_pos h4]
    unfold In
    ihave HIn := (queue_put (K := 24) (fun u s => Flying e u s 0) (Free e) (by decide) (by omega) (by omega)) $$ HIn
    icases HIn with ⟨HF, HIn⟩
    iapply Idealize.SL.Sem.fupd_wp
    imod (fetch_start e ((i 0).val + 24) (((i 0).val + 24) % 24)) $$ HF with HF
    imodintro
    iapply (fetch_ok e 𝒱 bd i _ h3 _ hf) $$ [H7 HF]
    · iframe
    iintro ⟨H7, HF⟩
    ihave HIn := HIn $$ HF
    iapply (tail_ok hS) $$ [HA HB HW]
    · unfold Outs
      iframe
    iintro ⟨HO, HW⟩
    iapply Hk
    rw [show hiAt ((i 0).val + 1) = (i 0).val + 24 + 1 by unfold hiAt; split <;> omega]
    unfold Outs
    iframe
  · have h4 : ¬ (i 0).val < 104 := fun h => h3 ((cond3_iff i).mpr h)
    rw [dif_neg h3, show hiAt (i 0).val = 128 from if_neg h4]
    iapply (tail_ok hS) $$ [HA HB HW]
    · unfold Outs
      iframe
    iintro ⟨HO, HW⟩
    iapply Hk
    rw [show hiAt ((i 0).val + 1) = 128 from if_neg (by omega)]
    unfold Outs
    iframe

/-- The program as these lemmas read it. -/
theorem program_eq (i : grid0.Coords) (arg1 : Memref sig .tc .hbm S1x2048 .i32) (harg1 : arg1.IsWhole) (arg2 : Memref sig .tc .hbm S8128x8192 .i32) (harg2 : arg2.IsWhole) (arg3 : Memref sig .tc .hbm S32512 .f32) (harg3 : arg3.IsWhole) (arg4 : Memref sig .tc .hbm S1x8192 .bf16) (harg4 : arg4.IsWhole) (arg5 : Memref sig .tc .hbm S2048x8192 .bf16) (harg5 : arg5.IsWhole) (arg6 : Memref sig .tc .hbm S2048x8192 .bf16) (harg6 : arg6.IsWhole) (arg7 : Memref sig .tc .smem S1x2048 .i32) (harg7 : arg7.IsWhole) (arg8 : Memref sig .tc .smem S32512 .f32) (harg8 : arg8.IsWhole) (arg9 : Memref sig .tc .vmem S1x8192 .bf16) (harg9 : arg9.IsWhole) (arg10 : Memref sig .tc .vmem S8x8192 .f32) (harg10 : arg10.IsWhole) (arg11 : Memref sig .tc .vmem S24x2x8x8192 .i32) (harg11 : arg11.IsWhole) (arg12 : Memref sig .tc .vmem S8x16x8192 .bf16) (harg12 : arg12.IsWhole) (arg13 : Memref sig .tc .vmem S8x16x8192 .bf16) (harg13 : arg13.IsWhole) (arg14 : Memref sig .tc .vmem S2x8x128 .i32) (harg14 : arg14.IsWhole) (arg15 : Memref sig .tc .vmem S2x8x128 .f32) (harg15 : arg15.IsWhole) (arg16 : DmaSems sig S3) (arg17 : DmaSems sig S24) (arg18 : DmaSems sig S8) (arg19 : DmaSems sig S8) : cc0_embed_rmsnorm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
    = cc0_embed_rmsnorm_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 := by rw [cc0_embed_rmsnorm_eq_skeleton]

/-- One step. -/
theorem step_ok (hG : Good e 𝒱 bd i) (hS : Sizes e) (g : Buf (Elt F) (e.a11.view.loc (e.c : Thread nD τ)))
    (hQG : ∀ w : Vec F S1x8192 .bf16, (∀ y, w y = e.a4.view.read (Elt F) e.X4 y) → ∀ y, e.QG y (k0_pay118 w y)) :
    (iprop(St e (i 0).val ∗ ∃ W, owes (e.c : Thread nD τ) 0 W) : sProp 𝕄G)
      ⊢ wp frame (wpE (defs₀ (F := F)) 𝒱 (e.c : Thread nD τ) bd) Set.univ (cc0_embed_rmsnorm (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19)
        (fun _ => iprop(St e ((i 0).val + 1) ∗ ∃ W, owes (e.c : Thread nD τ) 0 W)) := by
  have hi : (i 0).val < 128 := (i 0).isLt
  rw [cc0_embed_rmsnorm_eq_skeleton]
  unfold cc0_embed_rmsnorm_skel
  rw [wp_bind]
  iintro H
  iapply (start_ok e 𝒱 bd i hQG) $$ H
  iintro ⟨HM, HW⟩
  rw [← wp_bind]
  unfold Mid Ids Scs In
  icases HM with ⟨⟨%f7, %hf, H7⟩, ⟨%f8, %hg, H8⟩, H10, Hb, HT, HIn, HO⟩
  have hlt : (i 0).val < hiAt (i 0).val := by unfold hiAt; split <;> omega
  have hle : hiAt (i 0).val ≤ (i 0).val + 24 := by unfold hiAt; split <;> omega
  ihave HIn := (queue_take (K := 24) (fun u s => Flying e u s 0) (Free e) (by decide) hlt hle) $$ HIn
  icases HIn with ⟨HF, HIn⟩
  iapply (first_ok e 𝒱 bd i hS.hN hf hg) $$ [H7 H8 HT HF HW]
  · iframe
  iintro %v3 %v4 ⟨H7, H8, HT, HF, HW⟩
  iapply (rest_ok hG hS g v3 v4 hf) $$ [H7 HT HF H10 HIn HO HW]
  · unfold In
    iframe
  iintro ⟨H7, HT, H10, HIn, HO, HW⟩
  unfold St
  rw [if_neg (by omega)]
  unfold Mid Ids Scs
  iframe
  isplitl [H7]
  · iexists f7
    isplitr
    · ipureintro; exact hf
    · iexact H7
  · iexists f8
    isplitr
    · ipureintro; exact hg
    · iexact H8

end Cert.KernelIdeal.Hand
-- ==== Proof.ILaunch.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IStep
public import proofs.«01_k».proof.Proof.Ends
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffixV
public import Idealize.ShloMosaic.Lib.Exec
public import Idealize.ShloMosaic.Lib.Tactic
public import Idealize.ShloMosaic.Lib.VecWindow

/-!
The launch: what the region finds and leaves, and the run of the whole program.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the region finds -/

/-- Every index is a row of the table. -/
def InTable : Prop := ∀ (c : Dev nD) (x : S1x2048.Idx),
  ((Memref.whole main_arg0 : Memref sig .tc .hbm S1x2048 .i32).view.read (Elt F) (V m c main_arg0) x : BitVec 32).toNat < 32512

variable (hm : InTable m) (G : Dev nD → Goals F)

/-- What a step on core `c` is about. -/
def env (c : Dev nD) : Env nD τ sig F where
  c := c
  a1 := Memref.whole main_arg0
  h1 := Memref.isWhole_whole _
  a2 := Memref.whole main_v2
  h2 := Memref.isWhole_whole _
  a3 := Memref.whole main_arg2
  h3 := Memref.isWhole_whole _
  a4 := Memref.whole main_v3
  h4 := Memref.isWhole_whole _
  a5 := Memref.whole main_v4_0
  h5 := Memref.isWhole_whole _
  a6 := Memref.whole main_v4_1
  h6 := Memref.isWhole_whole _
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _
  a16 := cc0_scratch9
  a17 := cc0_scratch10
  a18 := cc0_scratch11
  a19 := cc0_scratch12
  T := V m c main_v2
  ids := (Memref.whole main_arg0 : Memref sig .tc .hbm S1x2048 .i32).view.read (Elt F) (V m c main_arg0)
  hids := hm c
  scales := (Memref.whole main_arg2 : Memref sig .tc .hbm S32512 .f32).view.read (Elt F) (V m c main_arg2)
  X1 := V m c main_arg0
  hX1 _ := rfl
  X3 := V m c main_arg2
  hX3 _ := rfl
  X4 := V m c main_v3
  QS _ _ _ := True
  QC _ _ _ := True
  ACC := (G c).ACC
  SUM := (G c).SUM
  QG := (G c).QG
  QO := (G c).QO
  QE := (G c).QE

/-- What the transfers credit. -/
theorem sizes (c : Dev nD) : Sizes (env m hm G c) where
  hN := rfl
  hN0 := show 0 < sig.dmaCredit .tc (Kind.tc.table .vmem) (Memref.whole cc0_scratch4).view.buf ⟨2, ![1, 8192]⟩ .i32 by decide
  hA := show 0 < sig.dmaCredit .tc (Kind.tc.table .hbm) (Memref.whole main_v4_0).view.buf ⟨2, ![16, 8192]⟩ .bf16 by decide
  hB := show 0 < sig.dmaCredit .tc (Kind.tc.table .hbm) (Memref.whole main_v4_1).view.buf ⟨2, ![16, 8192]⟩ .bf16 by decide

/-! ## The body's semaphores and buffers -/

/-- The body's DMA cells: of the first loads, of the fetched blocks, of the two rings of results. -/
def osem0 : Fin 3 ⊕ Fin 24 ⊕ Fin 8 ⊕ Fin 8 → SemLoc sig
  | .inl j => .dma ⟨j.val, by have := j.isLt; show j.val < 43; omega⟩
  | .inr (.inl j) => .dma ⟨3 + j.val, by have := j.isLt; show 3 + j.val < 43; omega⟩
  | .inr (.inr (.inl j)) => .dma ⟨27 + j.val, by have := j.isLt; show 27 + j.val < 43; omega⟩
  | .inr (.inr (.inr j)) => .dma ⟨35 + j.val, by have := j.isLt; show 35 + j.val < 43; omega⟩

theorem ownSemFacts0 : Pipeline.OwnSemFacts (cfgs 0).spec osem0 := by decide

theorem semI_eq (c : Dev nD) (j : Fin 24) : osem0 (.inr (.inl j)) = .dma (semI (env m hm G c) j.val) := by
  fin_cases j <;> rfl
theorem semO_eq (c : Dev nD) (j : Fin 8) : osem0 (.inr (.inr (.inl j))) = .dma (semO (env m hm G c).a18 j.val) := by
  fin_cases j <;> rfl
theorem semE_eq (c : Dev nD) (j : Fin 8) : osem0 (.inr (.inr (.inr j))) = .dma (semO (env m hm G c).a19 j.val) := by
  fin_cases j <;> rfl

theorem ownSems0_eq (c : Dev nD) :
    (Pipeline.ownSems0 (Ix := Unit) (Name := ℕ) (U := Pipeline.UD sig nD τ) (Lvl := ℕ) (Val := Elt F) (τ := τ) osem0 c : sProp 𝕄G)
      = iprop((semVal ((c : Thread nD τ), .dma (semA (env m hm G c) 0 (by decide))) 0
          ∗ semVal ((c : Thread nD τ), .dma (semA (env m hm G c) 1 (by decide))) 0
          ∗ semVal ((c : Thread nD τ), .dma (semA (env m hm G c) 2 (by decide))) 0)
        ∗ (bigSep Finset.univ fun o : Fin 24 => semVal ((c : Thread nD τ), .dma (semI (env m hm G c) o.val)) 0)
        ∗ (bigSep Finset.univ fun o : Fin 8 => semVal ((c : Thread nD τ), .dma (semO (env m hm G c).a18 o.val)) 0)
        ∗ (bigSep Finset.univ fun o : Fin 8 => semVal ((c : Thread nD τ), .dma (semO (env m hm G c).a19 o.val)) 0)) := by
  unfold Pipeline.ownSems0
  rw [BI.bigSep_univ_sum, BI.bigSep_univ_sum, BI.bigSep_univ_sum]
  have hI : (bigSep Finset.univ fun o : Fin 24 => semVal ((c : Thread nD τ), osem0 (.inr (.inl o))) 0 : sProp 𝕄G)
      = bigSep Finset.univ fun o : Fin 24 => semVal ((c : Thread nD τ), .dma (semI (env m hm G c) o.val)) 0 := BI.bigSep_congr fun j _ => by rw [semI_eq m hm G c j]
  have hO : (bigSep Finset.univ fun o : Fin 8 => semVal ((c : Thread nD τ), osem0 (.inr (.inr (.inl o)))) 0 : sProp 𝕄G)
      = bigSep Finset.univ fun o : Fin 8 => semVal ((c : Thread nD τ), .dma (semO (env m hm G c).a18 o.val)) 0 := BI.bigSep_congr fun j _ => by rw [semO_eq m hm G c j]
  have hE : (bigSep Finset.univ fun o : Fin 8 => semVal ((c : Thread nD τ), osem0 (.inr (.inr (.inr o)))) 0 : sProp 𝕄G)
      = bigSep Finset.univ fun o : Fin 8 => semVal ((c : Thread nD τ), .dma (semO (env m hm G c).a19 o.val)) 0 := BI.bigSep_congr fun j _ => by rw [semE_eq m hm G c j]
  rw [hI, hO, hE]
  rw [BI.bigSep_eq_bigSepL_of_eq [(0 : Fin 3), 1, 2] (by decide) (by decide)]
  rfl

theorem own_of (c : Dev nD) :
    (iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem0 c) : sProp 𝕄G)
    ⊢ Own (env m hm G c) := by
  rw [ownSems0_eq m hm G c]
  refine (sep_mono_left (Entails.of_eq (scopedRest0_eq c))).trans ?_
  unfold Own
  iintro ⟨⟨H9, H10, H11, H12, H13, H14, H15, H7, H8⟩, ⟨S0, S1, S2⟩, SI, SO, SE⟩
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [SI]; · iexact SI
  isplitl [SO]; · iexact SO
  iexact SE

theorem of_own (c : Dev nD) :
    (Own (env m hm G c) : sProp 𝕄G)
    ⊢ iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem0 c) := by
  rw [ownSems0_eq m hm G c]
  refine BIBase.Entails.trans ?_ (sep_mono_left (Entails.of_eq (scopedRest0_eq c).symm))
  unfold Own
  iintro ⟨H7, H8, H9, H10, H11, H12, H13, H14, H15, S0, S1, S2, SI, SO, SE⟩
  isplitr [S0 S1 S2 SI SO SE]
  · isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H7]; · iexact H7
    iexact H8
  · isplitl [S0 S1 S2]
    · isplitl [S0]; · iexact S0
      isplitl [S1]; · iexact S1
      iexact S2
    isplitl [SI]; · iexact SI
    isplitl [SO]; · iexact SO
    iexact SE

/-- The buffers in HBM the body reads, -/
def H0 : Finset (Ref sig .tc) := {main_arg0, main_v2, main_arg2, main_v3}
/-- those it writes, -/
def R0 : Finset (Ref sig .tc) := {main_v4_0, main_v4_1}
/-- and those the host writes afterwards. -/
def T0 : Finset (Ref sig .tc) := {main_v5, main_v6}
theorem H0_sub : H0 ⊆ Pipeline.restRefs sig spec0 := by decide
theorem R0_sub : R0 ⊆ Pipeline.restRefs sig spec0 \ H0 := by decide

theorem inputs_eq (c : Dev nD) :
    (bigSep H0 (fun b => ((c : Thread nD τ).loc b) ↦{fullShare} V m c b) : sProp 𝕄G) = Inputs (env m hm G c) := by
  unfold H0
  rw [BI.bigSep_eq_bigSepL_of_eq [main_arg0, main_v2, main_arg2, main_v3] (by decide) (by decide)]
  rfl

theorem results_eq (Φ : Ref sig .tc → sProp 𝕄G) : bigSep R0 Φ = iprop(Φ main_v4_0 ∗ Φ main_v4_1) := by
  unfold R0
  rw [BI.bigSep_eq_bigSepL_of_eq [main_v4_0, main_v4_1] (by decide) (by decide)]
  rfl

theorem owned_eq (c : Dev nD) : (Pipeline.owned (Val := Elt F) R0 c : sProp 𝕄G)
    = iprop((∃ f : Buf (Elt F) ((c : Thread nD τ).loc main_v4_0), ((c : Thread nD τ).loc main_v4_0) ↦{fullShare} f)
      ∗ (∃ f : Buf (Elt F) ((c : Thread nD τ).loc main_v4_1), ((c : Thread nD τ).loc main_v4_1) ↦{fullShare} f)) := by
  unfold Pipeline.owned
  exact results_eq _

/-! ## The pipeline -/

/-- The one pipeline: no windows, the invariant `St`, nothing owed. -/
def dats (_ : Fin 1) (c : Dev nD) : Dat τ (Elt F) Unit ℕ (Pipeline.UD sig nD τ) ℕ cfg0 c where
  A w := w.elim0
  after w _ := w.elim0
  Φ t := iprop(St (env m hm G c) t.val ∗ emp)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem coords_val (t : Fin cfg0.N) : ((grid0.coords t) 0).val = t.val := by
  revert t; decide +kernel

/-- What a step's arithmetic and the widened gain are to do, on every core and at every step. -/
structure AllGood : Prop where
  good : ∀ c i, Good (env m hm G c) Variants.none none i
  gain : ∀ c (w : Vec F S1x8192 .bf16), (∀ y, w y = (env m hm G c).a4.view.read (Elt F) (env m hm G c).X4 y) → ∀ y, (G c).QG y (k0_pay118 w y)

variable {m hm G}

theorem sound_body (hG : AllGood m hm G) (c : Dev nD) (t : Fin cfg0.N) :
    (iprop((dats m hm G 0 c).Φ t.castSucc ∗ (dats m hm G 0 c).owesAt () t.castSucc) : sProp 𝕄G)
      ⊢ wp frame (wpE (defs₀ (F := F)) Variants.none (c : Thread nD τ) none) Set.univ (bodyAt0 t)
        (fun _ => iprop((dats m hm G 0 c).Φ t.succ ∗ (dats m hm G 0 c).owesAt () t.succ)) := by
  have hs := step_ok (i := grid0.coords t) (hG.good c (grid0.coords t)) (sizes m hm G c) (V m c cc0_scratch4) (hG.gain c)
  rw [coords_val] at hs
  unfold Dat.owesAt Pipeline.owesWithin
  rw [show (dats m hm G 0 c).owed t.castSucc = 0 from rfl, show (dats m hm G 0 c).owed t.succ = 0 from rfl]
  rw [show (dats m hm G 0 c).Φ t.castSucc = iprop(St (env m hm G c) t.val ∗ emp) from rfl,
    show (dats m hm G 0 c).Φ t.succ = iprop(St (env m hm G c) (t.val + 1) ∗ emp) from rfl]
  iintro ⟨⟨HS, HX⟩, ⟨%W, -, HW⟩⟩
  ihave Hw := hs $$ [HS HW]
  · isplitl [HS]
    · iexact HS
    · iexists W; iexact HW
  iapply (wp_wand _ _ _) $$ Hw
  iintro %u ⟨HS, ⟨%W', HW'⟩⟩
  isplitl [HS HX]
  · isplitl [HS]
    · iexact HS
    · iexact HX
  · iexists W'
    isplitr
    · ipureintro; exact fun _ _ => Or.inl trivial
    · iexact HW'

theorem body_obligation (hG : AllGood m hm G) (c : Dev nD) : BodyObligation (dats m hm G 0 c) (defs₀ (F := F)) Variants.none () Set.univ := fun t => by
  rw [defs₀_row]
  refine BIBase.Entails.trans ?_ ((sound_body hG c t).trans (wp_mono _ _ _ fun _ => ?_))
  · iintro ⟨H1, H2, -⟩
    isplitl [H1]; · iexact H1
    iexact H2
  · iintro ⟨H1, H2⟩
    isplitl [H1]; · iexact H1
    isplitl [H2]; · iexact H2
    rw [show (Finset.univ : Finset (Fin cfg0.W)) = ∅ from rfl, BI.bigSep_empty]
    iempintro

theorem hmain : Pipeline.HMainK (Ix := Unit) (Name := ℕ) (U := Pipeline.UD sig nD τ) (Lvl := ℕ) cfgs 0 defs₀ Variants.none m (main (F := F))
    (fun c b => V0 m c (Proc.devRef .tc b)) (fun _ => Pipeline.chain ([hostOps1 (F := F)].map StableHlo.seq)) :=
  Pipeline.hmain_around cfgs 0 defs₀ Variants.none m main [hostOps0] [hostOps1]
    (by simp only [List.Forall]; exact hostOps0_sub) (by simp only [List.Forall]; exact hostOps0_fresh) main_chain

/-- What the two results are to hold. -/
def Gv (e f : Vec F S2048x8192 .bf16) (c : Dev nD) (b : Ref sig .tc) : Buf (Elt F) ((c : Thread nD τ).loc b) :=
  if h : b = main_v4_0 then h ▸ e else if h : b = main_v4_1 then h ▸ f else V m c b

set_option backward.isDefEq.respectTransparency.types false in
/-- The run, when the results' contents are determined: afterwards every buffer but the region's own holds what the host's lines
    make of them. -/
theorem run_main (hG : AllGood m hm G) (ro re : Dev nD → Vec F S2048x8192 .bf16) (ho : ∀ c x v, (G c).QO x v → v = ro c x)
    (he : ∀ c x v, (G c).QE x v → v = re c x) : θ_run defs (onTc (τ := τ) (main (F := F))) (s₀ m ρ)
    (fun r => (∀ c : Dev nD, ∀ b ∈ Pipeline.restRefs sig spec0, r.2.mem ((c.tc : Thread nD τ).loc b)
        = StableHlo.after hostOps1 (Pipeline.withArrays spec0 c (Pipeline.withR (V0 m c) R0 c (Gv (m := m) (ro c) (re c) c)) fun w => w.elim0) (Proc.devRef .tc b))
      ∧ r.2.sem = fun _ => 0) :=
  Pipeline.θ_run_frame_dmaR_aroundV (Q' := _) cfgs (dats m hm G) (0 : Fin 1) launch0 osem0 defs₀ Variants.none ownSemFacts0 H0 R0 H0_sub R0_sub m ρ main
    (hbody := fun c => (body_obligation hG c).loose) (hshare := fun c => (dats m hm G 0 c).share_full fun _ => rfl)
    (howed := fun _ _ => rfl) (V₀ := V0 m) (opss := [hostOps1]) sfx_sub sfx_fresh sfx_keeps (G := fun c => Gv (m := m) (ro c) (re c) c) (hmain := hmain) (hA := fun _ w => w.elim0)
    (hin := fun c => by
      unfold Pipeline.ΦDRV
      rw [inputs_eq m hm G c]
      show _ ⊢ iprop(St (env m hm G c) 0 ∗ emp)
      rw [results_eq]
      iintro ⟨HS, HO, HI, H5, H6⟩
      isplitl
      · iapply (launch_start (env m hm G c))
        isplitl [HS HO]
        · iapply (own_of m hm G c)
          isplitl [HS]; · iexact HS
          iexact HO
        isplitl [HI]; · iexact HI
        isplitl [H5]; · iexists _; iexact H5
        iexists _; iexact H6
      · iempintro)
    (hout := fun c => by
      unfold Pipeline.ΦDRV
      rw [inputs_eq m hm G c]
      show iprop(St (env m hm G c) 128 ∗ emp) ⊢ _
      rw [results_eq]
      iintro ⟨HS, -⟩
      ihave ⟨HO, HI, ⟨%f5, %h5, H5⟩, ⟨%f6, %h6, H6⟩⟩ := (launch_end (env m hm G c) (V m c main_v4_0) (V m c main_v4_1) (V m c cc0_scratch4) (V m c cc0_scratch5) (V m c cc0_scratch6)) $$ HS
      ihave ⟨HS, HO⟩ := (of_own m hm G c) $$ HO
      have e5 : f5 = Gv (m := m) (ro c) (re c) c main_v4_0 := funext fun x => ho c x _ (h5 x)
      have e6 : f6 = Gv (m := m) (ro c) (re c) c main_v4_1 := funext fun x => he c x _ (h6 x)
      isplitl [HS]; · iexact HS
      isplitl [HO]; · iexact HO
      isplitl [HI]; · iexact HI
      isplitl [H5]
      · subst e5; iexact H5
      · subst e6; iexact H6)
    (hQ' := fun r h => ⟨fun c b hb => by
      rw [(h.1 c).2 b hb, show (fun w => (dats m hm G 0 c).arrAt w cfg0.N) = fun w => w.elim0 from funext fun w => w.elim0]
      rfl, h.2⟩)

end Cert.KernelIdeal.Hand
-- ==== Proof.IPasses.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IRest
public import Idealize.ShloMosaic.Lib.Exec
public import Idealize.ShloMosaic.Lib.Tactic
public import Idealize.ShloMosaic.Lib.VecWindow

/-!
The trips of the two loops as passes over 128 columns.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

variable (e : Env nD τ sig F) (i : grid0.Coords)

/-- One pass over 128 columns of the first loop: the two words of each pair of tokens are loaded, the elements stored, their squares added. -/
noncomputable def pass2 (sh0 sh1 : IVec S8x128 32) (sc0 sc1 : FVec F S8x128 .f32) (k : Fin k0_t2_loop.trips) (r : Fin 16)
    (acc : FVec F S8x128 .f32 × FVec F S8x128 .f32) :
    Prog (TpuEff nD τ sig (Elt F) Λ₀ .tc) (FVec F S8x128 .f32 × FVec F S8x128 .f32) := do
  let x : Vec F S1x1x8x128 .i32 ← Prog.lift (.load e.a11 (Rect.unit (s := S24x2x8x8192) (k0_off103 i k (BitVec.ofNat 32 (128 * r.val))) S1x1x8x128.size (k0_off103_inb i k r)).toLoadRect (View.loadsAt_vmem h_S1x1x8x128))
  let y : Vec F S1x1x8x128 .i32 ← Prog.lift (.load e.a11 (Rect.unit (s := S24x2x8x8192) (k0_off104 i k (BitVec.ofNat 32 (128 * r.val))) S1x1x8x128.size (k0_off104_inb i k r)).toLoadRect (View.loadsAt_vmem h_S1x1x8x128))
  let _ : Vec F S1x16x128 .bf16 ← Prog.lift (.load e.a13 (Rect.unit (s := S8x16x8192) (k0_off105 i k (BitVec.ofNat 32 (128 * r.val))) S1x16x128.size (k0_off105_inb i k r)).toLoadRect (View.loadsAt_vmem h_S1x16x128))
  Prog.lift (.store e.a13 (Rect.unit (s := S8x16x8192) (k0_off105 i k (BitVec.ofNat 32 (128 * r.val))) S1x16x128.size (k0_off105_inb i k r)) (k0_pay5 sh0 sh1 sc0 sc1 x y) Finset.univ (View.stores_vmem h_S1x16x128 (e.h13.storeExact_slice rfl _ (k0_off105_packedbf16 i k r)) (fun _ => rfl)) (.inl rfl))
  pure (k0_pay6 sh0 sc0 acc.1 x, k0_pay7 sh1 sc1 acc.2 y)

/-- One pass over 128 columns of the second loop. -/
noncomputable def pass3 (q0 q1 : FVec F S8x128 .f32) (k : Fin k0_t3_loop.trips) (r : Fin 16) : Prog (TpuEff nD τ sig (Elt F) Λ₀ .tc) Unit := do
  let x : Vec F S1x16x128 .bf16 ← Prog.lift (.load e.a13 (Rect.unit (s := S8x16x8192) (k0_off106 i k (BitVec.ofNat 32 (128 * r.val))) S1x16x128.size (k0_off106_inb i k r)).toLoadRect (View.loadsAt_vmem h_S1x16x128))
  let a : Vec F S8x128 .f32 ← Prog.lift (.load e.a10 (Rect.unit (s := S8x8192) (k0_off107 k (BitVec.ofNat 32 (128 * r.val))) S8x128.size (k0_off107_inb k r)).toLoadRect (View.loadsAt_vmem h_S8x128))
  let b : Vec F S8x128 .f32 ← Prog.lift (.load e.a10 (Rect.unit (s := S8x8192) (k0_off107 k (BitVec.ofNat 32 (128 * r.val))) S8x128.size (k0_off107_inb k r)).toLoadRect (View.loadsAt_vmem h_S8x128))
  let _ : Vec F S1x16x128 .bf16 ← Prog.lift (.load e.a12 (Rect.unit (s := S8x16x8192) (k0_off106 i k (BitVec.ofNat 32 (128 * r.val))) S1x16x128.size (k0_off106_inb i k r)).toLoadRect (View.loadsAt_vmem h_S1x16x128))
  Prog.lift (.store e.a12 (Rect.unit (s := S8x16x8192) (k0_off106 i k (BitVec.ofNat 32 (128 * r.val))) S1x16x128.size (k0_off106_inb i k r)) (k0_pay86 q0 q1 x a b) Finset.univ (View.stores_vmem h_S1x16x128 (e.h12.storeExact_slice rfl _ (k0_off106_packedbf16 i k r)) (fun _ => rfl)) (.inl rfl))

/-- Passes in a row. -/
noncomputable def passes {α : Type} (g : Fin 16 → α → Prog (TpuEff nD τ sig (Elt F) Λ₀ .tc) α) : List (Fin 16) → α → Prog (TpuEff nD τ sig (Elt F) Λ₀ .tc) α
  | [], acc => pure acc
  | r :: l, acc => g r acc >>= passes g l

set_option maxRecDepth 65536 in
/-- A trip of the first loop is sixteen passes. -/
theorem body2_eq (arg0 v3 v4 : BitVec 32) (w0 w1 : Vec F S1x8x128 .i32) (s0 s1 : Vec F S1x8x128 .f32) (k acc) :
    k0_t2_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 arg0 v3 v4 w0 w1 s0 s1 k acc
      = passes (pass2 e i (k0_pay154 w0) (k0_pay155 w1) (k0_pay156 s0) (k0_pay157 s1) k) [0, 1, 2, 3, 4, 5, 6, 7, 8, 9, 10, 11, 12, 13, 14, 15] acc := by
  rfl

set_option maxRecDepth 65536 in
/-- And so is a trip of the second. -/
theorem body3_eq (v4 : BitVec 32) (m0 m1 : FVec F S8x1 .f32) (u : F .f32) (k acc) :
    k0_t3_body (F := F) i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.a17 e.a18 e.a19 v4 m0 m1 u k acc
      = passes (fun r _ => pass3 e i (k0_pay1 m0) (k0_pay2 m1 u) k r) [0, 1, 2, 3, 4, 5, 6, 7, 8, 9, 10, 11, 12, 13, 14, 15] acc := by
  rfl

end Cert.KernelIdeal.Hand
-- ==== Proof.IPay.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IPasses
public import Idealize.ShloMosaic.Lib.Pointwise.Tactic
public import Idealize.ShloMosaic.Lib.Pointwise.Reduce
public import Idealize.ShloMosaic.Lib.ValueLayout
public import Idealize.ShloMosaic.Lib.Exec
public import Idealize.ShloMosaic.Lib.Tactic
public import Idealize.ShloMosaic.Lib.VecWindow

/-!
The elements of the vectors a trip computes, over the extended reals.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- An element: the byte its shift brings up, sign-extended, times its scale. -/
def eltOf (w sh : BitVec 32) (sc : EReal) : EReal :=
  (FloatOps.sitofp (F := Ideal) .f32 (IntOp.shrsi .vector (IntOp.shli .vector w sh) 24#32) : EReal) * sc

theorem row_half (j : S1x16x128.Idx) : (j 1).val / 2 < 8 := by
  have h : (j 1).val < 16 := (j 1).isLt
  omega

/-- Token rows alternate between the two halves. -/
theorem inter_apply {α : Type} (lo hi : S8x128.Idx → α) (j : S1x16x128.Idx) :
    interleaveRows S1x16x128 (shapeCast S1x8x128 lo shapeCasts_S8x128_S1x8x128) (shapeCast S1x8x128 hi shapeCasts_S8x128_S1x8x128) bitcasts_S1x16x128_w16_S1x8x128_w32 j
      = if (j 1).val % 2 = 0 then lo (ValueIdx.ix2 ⟨(j 1).val / 2, row_half j⟩ (j 2)) else hi (ValueIdx.ix2 ⟨(j 1).val / 2, row_half j⟩ (j 2)) := by
  have key : ∀ x : S8x128.Idx → α, ∀ k : S1x8x128.Idx, (k 1).val = (j 1).val / 2 → (k 2).val = (j 2).val →
      shapeCast S1x8x128 x shapeCasts_S8x128_S1x8x128 k = x (ValueIdx.ix2 ⟨(j 1).val / 2, row_half j⟩ (j 2)) := fun x k h1 h2 =>
    shapeCast_apply x _ _ _ (by
      rw [Shape.rowMajor_val_three, Shape.rowMajor_val_two]
      have h0 : (k 0).val < 1 := (k 0).isLt
      show (j 1).val / 2 * 128 + (j 2).val = ((k 0).val * 8 + (k 1).val) * 128 + (k 2).val
      rw [h1, h2]; omega)
  rw [interleaveRows_apply]
  rw [show (⟨3, ![1, 16, 128]⟩ : Shape).row j = (j 1).val from rfl]
  split
  · exact key _ _ rfl rfl
  · exact key _ _ rfl rfl

/-- The rows of one half of a pair of tokens. -/
theorem half_apply {α : Type} (p : Fin 2) (x : S1x16x128.Idx → α) (k : S8x128.Idx) (j : S1x16x128.Idx) (h1 : (j 1).val = 2 * (k 0).val + p.val) (h2 : (j 2).val = (k 1).val) :
    shapeCast S8x128 (rowsOfParity p S1x8x128 x bitcasts_S1x16x128_w16_S1x8x128_w32) shapeCasts_S1x8x128_S8x128 k = x j := by
  have hk0 : (k 0).val < 8 := (k 0).isLt
  have hk1 : (k 1).val < 128 := (k 1).isLt
  rw [shapeCast_apply _ _ k (ValueIdx.ix3 (0 : Fin 1) ⟨(k 0).val, hk0⟩ ⟨(k 1).val, hk1⟩) (by
    rw [Shape.rowMajor_val_three, Shape.rowMajor_val_two]
    show (0 * 8 + (k 0).val) * 128 + (k 1).val = (k 0).val * 128 + (k 1).val
    omega), rowsOfParity_apply]
  congr 1
  funext a
  apply Fin.ext
  have hj0 : (j 0).val < 1 := (j 0).isLt
  fin_cases a
  · show (0 : ℕ) = (j 0).val
    omega
  · exact h1.symm
  · exact h2.symm

theorem word_apply (x : S1x1x8x128.Idx → BitVec 32) (k : S8x128.Idx) (y : S1x1x8x128.Idx) (h1 : (y 2).val = (k 0).val) (h2 : (y 3).val = (k 1).val) :
    shapeCast S8x128 x shapeCasts_S1x1x8x128_S8x128 k = x y :=
  shapeCast_apply x _ _ _ (by
    rw [Shape.rowMajor_val_four, Shape.rowMajor_val_two]
    have h0 : (y 0).val < 1 := (y 0).isLt
    have h3 : (y 1).val < 1 := (y 1).isLt
    show (((y 0).val * 1 + (y 1).val) * 8 + (y 2).val) * 128 + (y 3).val = (k 0).val * 128 + (k 1).val
    rw [h1, h2]; omega)

theorem row_apply {α : Type} (x : S1x8x128.Idx → α) (k : S8x128.Idx) (y : S1x8x128.Idx) (h1 : (y 1).val = (k 0).val) (h2 : (y 2).val = (k 1).val) :
    shapeCast S8x128 x shapeCasts_S1x8x128_S8x128 k = x y :=
  shapeCast_apply x _ _ _ (by
    rw [Shape.rowMajor_val_three, Shape.rowMajor_val_two]
    have h0 : (y 0).val < 1 := (y 0).isLt
    show ((y 0).val * 8 + (y 1).val) * 128 + (y 2).val = (k 0).val * 128 + (k 1).val
    rw [h1, h2]; omega)

variable (sh : IVec S8x128 32) (sc : FVec Ideal S8x128 .f32) (x : Vec Ideal S1x1x8x128 .i32)

theorem pay3_apply (k : S8x128.Idx) : k0_pay3 (F := Ideal) sh sc x k = eltOf (shapeCast S8x128 x shapeCasts_S1x1x8x128_S8x128 k) (sh k) (sc k) := rfl

theorem pay4_apply (k : S8x128.Idx) : k0_pay4 (F := Ideal) sh sc x k = eltOf (shapeCast S8x128 x shapeCasts_S1x1x8x128_S8x128 k) (sh k) (sc k) := rfl

theorem pay6_apply (a : FVec Ideal S8x128 .f32) (k : S8x128.Idx) :
    k0_pay6 (F := Ideal) sh sc a x k = (a k + k0_pay3 (F := Ideal) sh sc x k * k0_pay3 (F := Ideal) sh sc x k : EReal) := rfl

theorem pay7_apply (a : FVec Ideal S8x128 .f32) (k : S8x128.Idx) :
    k0_pay7 (F := Ideal) sh sc a x k = (a k + k0_pay4 (F := Ideal) sh sc x k * k0_pay4 (F := Ideal) sh sc x k : EReal) := rfl

/-- The mean of squares of a row of sums. -/
theorem mean_apply (a : FVec Ideal S8x128 .f32) (k : S8x1.Idx) :
    k0_pay165 (F := Ideal) a k = ((∑ l : Fin 128, a (ValueIdx.ix2 ⟨(k 0).val, (k 0).isLt⟩ l)) * Ideal.ofBits .f32 0x39000000#32 : EReal) := by
  have hk0 : (k 0).val < 8 := (k 0).isLt
  have hk1 : (k 1).val < 1 := (k 1).isLt
  show (shapeCast S8x1 _ shapeCasts_S8_S8x1 k : EReal) * _ = _
  congr 1
  rw [shapeCast_apply _ _ k (ValueIdx.ix1 ⟨(k 0).val, hk0⟩) (by
    rw [Shape.rowMajor_val_one, Shape.rowMajor_val_two]
    show (k 0).val = (k 0).val * 1 + (k 1).val
    omega)]
  exact Ideal.reduceAdd_r2_a1 reduces_S8x128_S8 a _

theorem pay164_apply (a : FVec Ideal S8x128 .f32) (k : S8x1.Idx) :
    k0_pay164 (F := Ideal) a k = Ideal.rsqrt (k0_pay165 (F := Ideal) a k + Ideal.ofBits .f32 0x358637BD#32 : EReal) := rfl

theorem pay1_apply (q : FVec Ideal S8x1 .f32) (k : S8x128.Idx) :
    broadcastTo S8x128 (shapeCast S8x1 q shapeCasts_S8x1_S8x1) broadcasts_S8x1_S8x128 k = q (ValueIdx.ix2 ⟨(k 0).val, (k 0).isLt⟩ 0) := by
  refine (broadcastTo_apply _ _ k (ValueIdx.ix2 ⟨(k 0).val, (k 0).isLt⟩ 0) (fun a => by fin_cases a <;> rfl)).trans ?_
  exact shapeCast_apply q _ _ _ rfl

end Cert.KernelIdeal.Hand
-- ==== Proof.ITrip.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IPay
public import Idealize.ShloMosaic.Lib.Exec
public import Idealize.ShloMosaic.Lib.Tactic
public import Idealize.ShloMosaic.Lib.VecWindow

/-!
A trip of the first loop, element by element.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The resource algebra over the extended reals. -/
local notation "𝕄I" => MT nD τ sig Unit (Elt Ideal) ℕ (Pipeline.UD sig nD τ) ℕ

/-- The scale of token `n`. -/
def scOf (e : Env nD τ sig Ideal) (n : ℕ) : EReal := e.scales (ValueIdx.ix1 ⟨(idAt e 0 n).toNat % 32512, Nat.mod_lt _ (by decide)⟩)

/-- Element `j` of token `n`'s row. -/
def tokE (e : Env nD τ sig Ideal) (n : ℕ) (j : Fin 8192) : EReal := eltOf (tabv e (rown e n) j) (shiftOf (idAt e 0 n)) (scOf e n)

/-- Its square, the column a number. -/
def sqE (e : Env nD τ sig Ideal) (n c : ℕ) : EReal :=
  tokE e n ⟨c % 8192, Nat.mod_lt _ (by decide)⟩ * tokE e n ⟨c % 8192, Nat.mod_lt _ (by decide)⟩

/-- The running sums of block `p` after `n` groups of columns. -/
def accP (e : Env nD τ sig Ideal) (p n : ℕ) (a b : S8x128.Idx → EReal) : Prop :=
  ∀ k : S8x128.Idx, a k = ∑ g ∈ Finset.range n, sqE e (16 * p + 2 * (k 0).val) (128 * g + (k 1).val)
    ∧ b k = ∑ g ∈ Finset.range n, sqE e (16 * p + (2 * (k 0).val + 1)) (128 * g + (k 1).val)

/-- The mean of squares of token `n`, as the kernel sums it. -/
def meanE (e : Env nD τ sig Ideal) (n : ℕ) : EReal :=
  (∑ l : Fin 128, ∑ g ∈ Finset.range 64, sqE e n (128 * g + l.val)) * Ideal.ofBits .f32 0x39000000#32

/-- The reciprocal of its root. -/
def rstdE (e : Env nD τ sig Ideal) (n : ℕ) : EReal := Ideal.rsqrt (meanE e n + Ideal.ofBits .f32 0x358637BD#32)

/-- What the predicates of the launch mean. -/
structure Means (e : Env nD τ sig Ideal) (gain : Fin 8192 → EReal) : Prop where
  E : ∀ x v, e.QE x v ↔ v = tokE e (x 0).val (x 1)
  A : ∀ p k a b, e.ACC p k a b ↔ accP e p (16 * k) a b
  S : ∀ p m0 m1 u, e.SUM p m0 m1 u ↔ (∀ y : S8x1.Idx, m0 y = rstdE e (16 * p + 2 * (y 0).val))
    ∧ (∀ y : S8x1.Idx, m1 y = meanE e (16 * p + (2 * (y 0).val + 1))) ∧ u = Ideal.ofBits .f32 0x358637BD#32
  G : ∀ y v, e.QG y v ↔ v = gain (y 1)
  O : ∀ x v, e.QO x v ↔ v = tokE e (x 0).val (x 1) * rstdE e (x 0).val * gain (x 1)

variable {e : Env nD τ sig Ideal} {i : grid0.Coords} {gain : Fin 8192 → EReal}

theorem idAt_zero (p t : ℕ) : idAt e p t = idAt e 0 (16 * p + t) := by
  unfold idAt; simp only [Nat.mul_zero, Nat.zero_add]

theorem idAt_mod (n : ℕ) : idAt e 0 (n % 2048) = idAt e 0 n := by
  unfold idAt; simp only [Nat.mul_zero, Nat.zero_add, Nat.mod_mod]

theorem tokE_mod (n : ℕ) (j : Fin 8192) : tokE e (n % 2048) j = tokE e n j := by
  unfold tokE scOf rown
  simp only [idAt_mod, Nat.mod_mod]

theorem sqE_mod (n c : ℕ) : sqE e (n % 2048) c = sqE e n c := by
  unfold sqE; simp only [tokE_mod]

theorem rstdE_mod (n : ℕ) : rstdE e (n % 2048) = rstdE e n := by
  unfold rstdE meanE; simp only [sqE_mod]

/-- What a pass stores in place of a pair of tokens. -/
theorem stored (hM : Means e gain) (n : ℕ) {sh0 sh1 : IVec S8x128 32} {sc0 sc1 : FVec Ideal S8x128 .f32} {x y : Vec Ideal S1x1x8x128 .i32} {p : ℕ}
    (hn : 128 * n + 128 ≤ 8192)
    (lo : ∀ k : S8x128.Idx, k0_pay3 (F := Ideal) sh0 sc0 x k = tokE e (16 * p + 2 * (k 0).val) ⟨(128 * n + (k 1).val) % 8192, Nat.mod_lt _ (by decide)⟩)
    (hi : ∀ k : S8x128.Idx, k0_pay4 (F := Ideal) sh1 sc1 y k = tokE e (16 * p + (2 * (k 0).val + 1)) ⟨(128 * n + (k 1).val) % 8192, Nat.mod_lt _ (by decide)⟩)
    (z : OS.Idx) (j : S1x16x128.Idx) (h1 : (z 1).val = (j 1).val) (h2 : (z 2).val = 128 * n + (j 2).val) :
    blockIs e.QE p z (k0_pay5 (F := Ideal) sh0 sh1 sc0 sc1 x y j) := by
  unfold blockIs
  rw [hM.E]
  have hj2 : (j 2).val < 128 := (j 2).isLt
  have hz : ∀ t : Fin 8192, t.val = 128 * n + (j 2).val → t = z 2 := fun t ht => Fin.ext (ht.trans h2.symm)
  have hR : tokE e ((16 * p + (z 1).val) % 2048) (z 2) = tokE e (16 * p + (j 1).val) (z 2) :=
    (tokE_mod _ _).trans (congrArg (fun t => tokE e (16 * p + t) (z 2)) h1)
  refine (inter_apply (k0_pay3 (F := Ideal) sh0 sc0 x) (k0_pay4 (F := Ideal) sh1 sc1 y) j).trans (Eq.trans ?_ hR.symm)
  split <;> rename_i hp
  · refine (lo _).trans ?_
    refine (congrArg (tokE e _) (hz ⟨(128 * n + (j 2).val) % 8192, Nat.mod_lt _ (by decide)⟩ (Nat.mod_eq_of_lt (by omega)))).trans ?_
    congr 1
    show 16 * p + 2 * ((j 1).val / 2) = _
    omega
  · refine (hi _).trans ?_
    refine (congrArg (tokE e _) (hz ⟨(128 * n + (j 2).val) % 8192, Nat.mod_lt _ (by decide)⟩ (Nat.mod_eq_of_lt (by omega)))).trans ?_
    congr 1
    show 16 * p + (2 * ((j 1).val / 2) + 1) = _
    omega

/-- What a pass adds to the sums. -/
theorem added {n : ℕ} {sh0 sh1 : IVec S8x128 32} {sc0 sc1 : FVec Ideal S8x128 .f32} {x y : Vec Ideal S1x1x8x128 .i32} {p : ℕ} {a b : FVec Ideal S8x128 .f32}
    (lo : ∀ k : S8x128.Idx, k0_pay3 (F := Ideal) sh0 sc0 x k = tokE e (16 * p + 2 * (k 0).val) ⟨(128 * n + (k 1).val) % 8192, Nat.mod_lt _ (by decide)⟩)
    (hi : ∀ k : S8x128.Idx, k0_pay4 (F := Ideal) sh1 sc1 y k = tokE e (16 * p + (2 * (k 0).val + 1)) ⟨(128 * n + (k 1).val) % 8192, Nat.mod_lt _ (by decide)⟩)
    (h : accP e p n a b) : accP e p (n + 1) (k0_pay6 (F := Ideal) sh0 sc0 a x) (k0_pay7 (F := Ideal) sh1 sc1 b y) := by
  intro k
  rw [pay6_apply, pay7_apply, lo, hi, Finset.sum_range_succ, Finset.sum_range_succ, (h k).1, (h k).2]
  exact ⟨rfl, rfl⟩

/-- The words, shifts and scales of a pass give the elements. -/
theorem loaded {p n : ℕ} (h : ℕ) {sh : IVec S8x128 32} {sc : FVec Ideal S8x128 .f32} {x : Vec Ideal S1x1x8x128 .i32}
    (hsh : ∀ k : S8x128.Idx, sh k = shiftOf (idAt e 0 (16 * p + (2 * (k 0).val + h)))) (hsc : ∀ k : S8x128.Idx, sc k = scOf e (16 * p + (2 * (k 0).val + h)))
    (hx : ∀ (y : S1x1x8x128.Idx) , x y = tabv e (rown e (16 * p + (2 * (y 2).val + h))) ⟨(128 * n + (y 3).val) % 8192, Nat.mod_lt _ (by decide)⟩) (k : S8x128.Idx) :
    eltOf (shapeCast S8x128 x shapeCasts_S1x1x8x128_S8x128 k) (sh k) (sc k) = tokE e (16 * p + (2 * (k 0).val + h)) ⟨(128 * n + (k 1).val) % 8192, Nat.mod_lt _ (by decide)⟩ := by
  rw [hsh, hsc, word_apply x k (ValueIdx.ix4 0 0 (k 0) (k 1)) rfl rfl, hx]
  rfl

variable {𝒱 : Variants} {bd : Option 𝒱.V}

/-- What a pass of the first loop has done. -/
def J2 (e : Env nD τ sig Ideal) (i : grid0.Coords) (n : ℕ) (acc : FVec Ideal S8x128 .f32 × FVec Ideal S8x128 .f32) : sProp 𝕄I :=
  iprop(held e.c e.a11 (slotR ((i 0).val % 24)).set (wordsOf e (i 0).val)
    ∗ held e.c e.a13 (outR ((i 0).val % 8)).set (cols (128 * n) (blockIs e.QE (i 0).val)) ∗ ⌜accP e (i 0).val n acc.1 acc.2⌝)

theorem slot_sub {o h n : ℕ} {off : Fin 4 → ℕ} (hoff : off = ![o % 24, h, 0, n]) {inb : ∀ a, off a + S1x1x8x128.size a ≤ S24x2x8x8192.size a} :
    (Rect.unit (s := S24x2x8x8192) off S1x1x8x128.size inb).set ⊆ (slotR (o % 24)).set := by
  subst hoff
  intro x hx
  rw [Rect.mem_set_unit] at hx
  have := hx 0
  simp at this
  rw [mem_slotR, Nat.mod_mod]
  omega

theorem out_sub {o n : ℕ} {off : Fin 3 → ℕ} (hoff : off = ![o % 8, 0, n]) {inb : ∀ a, off a + S1x16x128.size a ≤ S8x16x8192.size a} :
    (Rect.unit (s := S8x16x8192) off S1x16x128.size inb).set ⊆ (outR (o % 8)).set := by
  subst hoff
  intro x hx
  rw [Rect.mem_set_unit] at hx
  have := hx 0
  simp at this
  rw [mem_outR, Nat.mod_mod]
  omega

/-- The words loaded from the ring. -/
theorem words_read {p o h n : ℕ} {off : Fin 4 → ℕ} (hoff : off = ![o, h, 0, n]) {inb : ∀ a, off a + S1x1x8x128.size a ≤ S24x2x8x8192.size a}
    {x : S1x1x8x128.Idx → BitVec 32} (hx : ∀ y, wordsOf e p ((Rect.unit (s := S24x2x8x8192) off S1x1x8x128.size inb).emb y) (x y)) (y : S1x1x8x128.Idx) :
    x y = tabv e (rown e (16 * p + (2 * (y 2).val + h))) ⟨(n + (y 3).val) % 8192, Nat.mod_lt _ (by decide)⟩ := by
  subst hoff
  rw [hx y]
  have h1 : (y 1).val < 1 := (y 1).isLt
  have h3 : (y 3).val < 128 := (y 3).isLt
  have h4 := inb 3
  simp at h4
  have e1 : (((Rect.unit (s := S24x2x8x8192) ![o, h, 0, n] S1x1x8x128.size inb).emb y) 1).val = h := by
    simp [Rect.emb_apply]; omega
  have e2 : (((Rect.unit (s := S24x2x8x8192) ![o, h, 0, n] S1x1x8x128.size inb).emb y) 2).val = (y 2).val := by
    simp [Rect.emb_apply]
  have e3 : ((Rect.unit (s := S24x2x8x8192) ![o, h, 0, n] S1x1x8x128.size inb).emb y) 3 = (⟨(n + (y 3).val) % 8192, Nat.mod_lt _ (by decide)⟩ : Fin 8192) := by
    apply Fin.ext
    simp [Rect.emb_apply]
    omega
  rw [e1, e2, e3]

theorem pass2_ok (hM : Means e gain) {sh0 sh1 : IVec S8x128 32} {sc0 sc1 : FVec Ideal S8x128 .f32}
    (h0 : ∀ k : S8x128.Idx, sh0 k = shiftOf (idAt e 0 (16 * (i 0).val + (2 * (k 0).val + 0)))) (h1 : ∀ k : S8x128.Idx, sh1 k = shiftOf (idAt e 0 (16 * (i 0).val + (2 * (k 0).val + 1))))
    (c0 : ∀ k : S8x128.Idx, sc0 k = scOf e (16 * (i 0).val + (2 * (k 0).val + 0))) (c1 : ∀ k : S8x128.Idx, sc1 k = scOf e (16 * (i 0).val + (2 * (k 0).val + 1)))
    (k : Fin k0_t2_loop.trips) (r : Fin 16) (acc) :
    (J2 e i (16 * k.val + r.val) acc : sProp 𝕄I)
      ⊢ wp frame (wpE (defs₀ (F := Ideal)) 𝒱 (e.c : Thread nD τ) bd) Set.univ (pass2 e i sh0 sh1 sc0 sc1 k r acc) (fun a => J2 e i (16 * k.val + r.val + 1) a) := by
  have hk : k.val < 4 := Nat.lt_of_lt_of_le k.isLt k0_t2_abs.2.1
  have hr := r.isLt
  have o3 := k0_off103_eq i k r
  have o4 := k0_off104_eq i k r
  have o5 := k0_off105_eq i k r
  have hcol : 2048 * k.val + 128 * r.val = 128 * (16 * k.val + r.val) := by omega
  rw [hcol] at o3 o4 o5
  unfold J2 pass2
  iintro ⟨H11, H13, %hA⟩
  iapply (held_load (defs := defs₀ (F := Ideal)) 𝒱 e.c bd (slotR ((i 0).val % 24)).set _ (slot_sub o3)) $$ H11
  iintro %x %hx H11
  iapply (held_load (defs := defs₀ (F := Ideal)) 𝒱 e.c bd (slotR ((i 0).val % 24)).set _ (slot_sub o4)) $$ H11
  iintro %y %hy H11
  iapply (held_load (defs := defs₀ (F := Ideal)) 𝒱 e.c bd (outR ((i 0).val % 8)).set _ (out_sub o5)) $$ H13
  iintro %u %hu H13
  have lo := loaded 0 h0 c0 (words_read o3 hx)
  have hi := loaded 1 h1 c1 (words_read o4 hy)
  iapply (col_store (defs := defs₀ (F := Ideal)) 𝒱 e.c bd ((i 0).val % 8) (128 * (16 * k.val + r.val)) (fun z => by rw [mem_outR, Nat.mod_mod]) _ o5
    (fun z j _ hz1 hz2 => stored hM (16 * k.val + r.val) (by omega) lo hi z j hz1 hz2)) $$ H13
  iintro H13
  sl_step
  isplitl [H11]
  · iexact H11
  isplitl [H13]
  · iexact H13
  · ipureintro
    exact added lo hi hA

/-- Passes in a row carry a statement of their number along. -/
theorem passes_ok {α : Type} (c : Dev nD) (g : Fin 16 → α → Prog (TpuEff nD τ sig (Elt Ideal) Λ₀ .tc) α) (J : ℕ → α → sProp 𝕄I) (n : ℕ)
    (h : ∀ (r : Fin 16) acc, J (n + r.val) acc ⊢ wp frame (wpE (defs₀ (F := Ideal)) 𝒱 (c : Thread nD τ) bd) Set.univ (g r acc) (J (n + r.val + 1))) :
    ∀ (l : List (Fin 16)) (m : ℕ), l.map Fin.val = List.range' m l.length → ∀ acc,
      J (n + m) acc ⊢ wp frame (wpE (defs₀ (F := Ideal)) 𝒱 (c : Thread nD τ) bd) Set.univ (passes g l acc) (J (n + m + l.length))
  | [], m, _, acc => by
    unfold passes
    iintro H
    sl_step
    iexact H
  | r :: l, m, hl, acc => by
    rw [List.map_cons, List.length_cons, List.range'_succ, List.cons.injEq] at hl
    obtain ⟨hr, hl⟩ := hl
    have ih := passes_ok c g J n h l (m + 1) hl
    have h1 := h r acc
    rw [hr] at h1
    unfold passes
    iintro H
    iapply (seq 𝒱 c bd h1) $$ H
    iintro %a H
    have h2 := ih a
    rw [show n + (m + 1) + l.length = n + m + (r :: l).length by rw [List.length_cons]; omega, show n + (m + 1) = n + m + 1 from rfl] at h2
    iapply h2 $$ H

theorem trips2 (hM : Means e gain) : Trips2 e 𝒱 bd i := by
  intro arg0 v3 v4 w0 w1 s0 s1 h0 h1 c0 c1 k acc
  rw [body2_eq]
  have hw : ∀ (h : ℕ) (hh : h < 2) (w : Vec Ideal S1x8x128 .i32) (inb : ∀ a, (![h, 0, 0] : Fin 3 → ℕ) a + S1x8x128.size a ≤ S2x8x128.size a),
      (∀ y, shiftQ e (i 0).val ((Rect.unit (s := S2x8x128) ![h, 0, 0] S1x8x128.size inb).emb y) (w y)) →
      ∀ q : S8x128.Idx, shapeCast S8x128 w shapeCasts_S1x8x128_S8x128 q = shiftOf (idAt e 0 (16 * (i 0).val + (2 * (q 0).val + h))) := by
    intro h hh w inb hq q
    refine (row_apply w q (ValueIdx.ix3 0 (q 0) (q 1)) rfl rfl).trans ((hq _).trans ?_)
    rw [idAt_zero]
    congr 3
    unfold tok
    simp [Rect.emb_apply]
  have hc : ∀ (h : ℕ) (hh : h < 2) (w : Vec Ideal S1x8x128 .f32) (inb : ∀ a, (![h, 0, 0] : Fin 3 → ℕ) a + S1x8x128.size a ≤ S2x8x128.size a),
      (∀ y, scaleQ e (i 0).val ((Rect.unit (s := S2x8x128) ![h, 0, 0] S1x8x128.size inb).emb y) (w y)) →
      ∀ q : S8x128.Idx, shapeCast S8x128 w shapeCasts_S1x8x128_S8x128 q = scOf e (16 * (i 0).val + (2 * (q 0).val + h)) := by
    intro h hh w inb hq q
    refine (row_apply w q (ValueIdx.ix3 0 (q 0) (q 1)) rfl rfl).trans ((hq _).trans ?_)
    unfold scOf
    congr 3
    rw [idAt_zero]
    congr 3
    unfold tok
    simp [Rect.emb_apply]
  have := passes_ok (𝒱 := 𝒱) (bd := bd) e.c (pass2 e i (k0_pay154 w0) (k0_pay155 w1) (k0_pay156 s0) (k0_pay157 s1) k) (J2 e i) (16 * k.val)
    (fun r a => pass2_ok hM (hw 0 (by decide) w0 _ h0) (hw 1 (by decide) w1 _ h1) (hc 0 (by decide) s0 _ c0) (hc 1 (by decide) s1 _ c1) k r a)
    [0, 1, 2, 3, 4, 5, 6, 7, 8, 9, 10, 11, 12, 13, 14, 15] 0 (by decide) acc
  have e0 : ∀ n a, (J2 e i (16 * n) a : sProp 𝕄I) = I2 e i n a := fun n a => by
    unfold J2 I2
    rw [show 128 * (16 * n) = 2048 * n by omega]
    congr 2
    exact congrArg _ (propext (hM.A _ _ _ _)).symm
  rw [Nat.add_zero, e0] at this
  refine this.trans ?_
  have e1 : J2 e i (16 * k.val + [0, 1, 2, 3, 4, 5, 6, 7, 8, 9, 10, 11, 12, 13, 14, (15 : Fin 16)].length) = I2 e i (k.val + 1) := by
    funext a
    exact e0 (k.val + 1) a
  rw [e1]

end Cert.KernelIdeal.Hand
-- ==== Proof.ITrips.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ITrip
public import Idealize.ShloMosaic.Lib.Exec
public import Idealize.ShloMosaic.Lib.Tactic
public import Idealize.ShloMosaic.Lib.VecWindow

/-!
A trip of the second loop, element by element, and the steps of the launch.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

/-- The resource algebra over the extended reals. -/
local notation "𝕄I" => MT nD τ sig Unit (Elt Ideal) ℕ (Pipeline.UD sig nD τ) ℕ

variable {e : Env nD τ sig Ideal} {i : grid0.Coords} {gain : Fin 8192 → EReal} {𝒱 : Variants} {bd : Option 𝒱.V}

/-- What a pass of the second loop stores. -/
theorem stored3 (hM : Means e gain) {p n : ℕ} {q0 q1 : FVec Ideal S8x128 .f32} {x : Vec Ideal S1x16x128 .bf16} {a b : Vec Ideal S8x128 .f32}
    (h0 : ∀ k : S8x128.Idx, q0 k = rstdE e (16 * p + 2 * (k 0).val)) (h1 : ∀ k : S8x128.Idx, q1 k = rstdE e (16 * p + (2 * (k 0).val + 1)))
    (hx : ∀ j : S1x16x128.Idx, x j = tokE e (16 * p + (j 1).val) ⟨(n + (j 2).val) % 8192, Nat.mod_lt _ (by decide)⟩)
    (ha : ∀ k : S8x128.Idx, a k = gain ⟨(n + (k 1).val) % 8192, Nat.mod_lt _ (by decide)⟩) (hb : ∀ k : S8x128.Idx, b k = gain ⟨(n + (k 1).val) % 8192, Nat.mod_lt _ (by decide)⟩)
    (hn : n + 128 ≤ 8192) (z : OS.Idx) (j : S1x16x128.Idx) (hz1 : (z 1).val = (j 1).val) (hz2 : (z 2).val = n + (j 2).val) :
    blockIs e.QO p z (k0_pay86 (F := Ideal) q0 q1 x a b j) := by
  unfold blockIs
  rw [hM.O]
  have hj2 : (j 2).val < 128 := (j 2).isLt
  have hz : z 2 = (⟨(n + (j 2).val) % 8192, Nat.mod_lt _ (by decide)⟩ : Fin 8192) := Fin.ext (hz2.trans (Nat.mod_eq_of_lt (by omega)).symm)
  have lo : ∀ k : S8x128.Idx, (k 1).val = (j 2).val → 2 * (k 0).val = (j 1).val →
      mulf (mulf (shapeCast S8x128 (rowsOfParity 0 S1x8x128 x bitcasts_S1x16x128_w16_S1x8x128_w32) shapeCasts_S1x8x128_S8x128 : FVec Ideal S8x128 .f32) q0) a k
        = (x j * rstdE e (16 * p + (j 1).val) * gain ⟨(n + (j 2).val) % 8192, Nat.mod_lt _ (by decide)⟩ : EReal) := fun k k1 k0 => by
    show ((shapeCast S8x128 (rowsOfParity 0 S1x8x128 x bitcasts_S1x16x128_w16_S1x8x128_w32) shapeCasts_S1x8x128_S8x128 k * q0 k * a k : EReal)) = _
    rw [half_apply 0 x k j k0.symm k1.symm, h0, ha, k0]
    exact congrArg (fun t => (x j * rstdE e (16 * p + (j 1).val) * gain t : EReal)) (Fin.ext (congrArg (fun t => (n + t) % 8192) k1))
  have hi : ∀ k : S8x128.Idx, (k 1).val = (j 2).val → 2 * (k 0).val + 1 = (j 1).val →
      mulf (mulf (shapeCast S8x128 (rowsOfParity 1 S1x8x128 x bitcasts_S1x16x128_w16_S1x8x128_w32) shapeCasts_S1x8x128_S8x128 : FVec Ideal S8x128 .f32) q1) b k
        = (x j * rstdE e (16 * p + (j 1).val) * gain ⟨(n + (j 2).val) % 8192, Nat.mod_lt _ (by decide)⟩ : EReal) := fun k k1 k0 => by
    show ((shapeCast S8x128 (rowsOfParity 1 S1x8x128 x bitcasts_S1x16x128_w16_S1x8x128_w32) shapeCasts_S1x8x128_S8x128 k * q1 k * b k : EReal)) = _
    rw [half_apply 1 x k j k0.symm k1.symm, h1, hb, k0]
    exact congrArg (fun t => (x j * rstdE e (16 * p + (j 1).val) * gain t : EReal)) (Fin.ext (congrArg (fun t => (n + t) % 8192) k1))
  have hR : tokE e ((16 * p + (z 1).val) % 2048) (z 2) * rstdE e ((16 * p + (z 1).val) % 2048) * gain (z 2)
      = (x j * rstdE e (16 * p + (j 1).val) * gain ⟨(n + (j 2).val) % 8192, Nat.mod_lt _ (by decide)⟩ : EReal) := by
    rw [hx j, ← hz1, rstdE_mod]
    exact congrArg₂ (· * ·) (congrArg (· * rstdE e (16 * p + (z 1).val)) ((tokE_mod _ _).trans (congrArg (tokE e _) hz))) (congrArg gain hz)
  refine Eq.trans ?_ hR.symm
  refine (inter_apply (mulf (mulf (shapeCast S8x128 (rowsOfParity 0 S1x8x128 x bitcasts_S1x16x128_w16_S1x8x128_w32) shapeCasts_S1x8x128_S8x128 : FVec Ideal S8x128 .f32) q0) a)
    (mulf (mulf (shapeCast S8x128 (rowsOfParity 1 S1x8x128 x bitcasts_S1x16x128_w16_S1x8x128_w32) shapeCasts_S1x8x128_S8x128 : FVec Ideal S8x128 .f32) q1) b) j).trans ?_
  split <;> rename_i hp
  · exact lo _ rfl (show 2 * ((j 1).val / 2) = (j 1).val by omega)
  · exact hi _ rfl (show 2 * ((j 1).val / 2) + 1 = (j 1).val by omega)

/-- What a pass of the second loop has done. -/
def J3 (e : Env nD τ sig Ideal) (i : grid0.Coords) (n : ℕ) (_ : Unit) : sProp 𝕄I :=
  iprop(held e.c e.a13 (outR ((i 0).val % 8)).set (blockIs e.QE (i 0).val) ∗ held e.c e.a10 Finset.univ e.QG
    ∗ held e.c e.a12 (outR ((i 0).val % 8)).set (cols (128 * n) (blockIs e.QO (i 0).val)))

/-- The elements loaded from the ring, -/
theorem elts_read (hM : Means e gain) {p o n : ℕ} {off : Fin 3 → ℕ} (hoff : off = ![o, 0, n]) {inb : ∀ a, off a + S1x16x128.size a ≤ S8x16x8192.size a}
    {x : S1x16x128.Idx → Elt Ideal .bf16} (hx : ∀ y, blockIs e.QE p ((Rect.unit (s := S8x16x8192) off S1x16x128.size inb).emb y) (x y)) (y : S1x16x128.Idx) :
    x y = tokE e (16 * p + (y 1).val) ⟨(n + (y 2).val) % 8192, Nat.mod_lt _ (by decide)⟩ := by
  subst hoff
  have h2 : (y 2).val < 128 := (y 2).isLt
  have h4 := inb 2
  simp at h4
  refine ((hM.E _ _).mp (hx y)).trans ((tokE_mod _ _).trans ?_)
  have e1 : (((Rect.unit (s := S8x16x8192) ![o, 0, n] S1x16x128.size inb).emb y) 1).val = (y 1).val := by
    simp [Rect.emb_apply]
  have e3 : ((Rect.unit (s := S8x16x8192) ![o, 0, n] S1x16x128.size inb).emb y) 2 = (⟨(n + (y 2).val) % 8192, Nat.mod_lt _ (by decide)⟩ : Fin 8192) := by
    apply Fin.ext
    simp [Rect.emb_apply]
    omega
  exact congrArg₂ (fun s t => tokE e (16 * p + s) t) e1 e3

/-- and the gain. -/
theorem gain_read (hM : Means e gain) {n : ℕ} {off : Fin 2 → ℕ} (hoff : off = ![0, n]) {inb : ∀ a, off a + S8x128.size a ≤ S8x8192.size a}
    {x : S8x128.Idx → Elt Ideal .f32} (hx : ∀ y, e.QG ((Rect.unit (s := S8x8192) off S8x128.size inb).emb y) (x y)) (y : S8x128.Idx) :
    x y = gain ⟨(n + (y 1).val) % 8192, Nat.mod_lt _ (by decide)⟩ := by
  subst hoff
  have h2 : (y 1).val < 128 := (y 1).isLt
  have h4 := inb 1
  simp at h4
  refine ((hM.G _ _).mp (hx y)).trans ?_
  have e3 : ((Rect.unit (s := S8x8192) ![0, n] S8x128.size inb).emb y) 1 = (⟨(n + (y 1).val) % 8192, Nat.mod_lt _ (by decide)⟩ : Fin 8192) := by
    apply Fin.ext
    simp [Rect.emb_apply]
    omega
  exact congrArg gain e3

theorem pass3_ok (hM : Means e gain) {q0 q1 : FVec Ideal S8x128 .f32}
    (h0 : ∀ k : S8x128.Idx, q0 k = rstdE e (16 * (i 0).val + 2 * (k 0).val)) (h1 : ∀ k : S8x128.Idx, q1 k = rstdE e (16 * (i 0).val + (2 * (k 0).val + 1)))
    (k : Fin k0_t3_loop.trips) (r : Fin 16) (acc) :
    (J3 e i (16 * k.val + r.val) acc : sProp 𝕄I)
      ⊢ wp frame (wpE (defs₀ (F := Ideal)) 𝒱 (e.c : Thread nD τ) bd) Set.univ (pass3 e i q0 q1 k r) (fun a => J3 e i (16 * k.val + r.val + 1) a) := by
  have hk : k.val < 4 := Nat.lt_of_lt_of_le k.isLt k0_t3_abs.2.1
  have hr := r.isLt
  have o6 := k0_off106_eq i k r
  have o7 := k0_off107_eq k r
  have hcol : 2048 * k.val + 128 * r.val = 128 * (16 * k.val + r.val) := by omega
  rw [hcol] at o6 o7
  unfold J3 pass3
  iintro ⟨H13, H10, H12⟩
  iapply (held_load (defs := defs₀ (F := Ideal)) 𝒱 e.c bd (outR ((i 0).val % 8)).set _ (out_sub o6)) $$ H13
  iintro %x %hx H13
  iapply (held_load (defs := defs₀ (F := Ideal)) 𝒱 e.c bd Finset.univ _ (Finset.subset_univ _)) $$ H10
  iintro %a %ha H10
  iapply (held_load (defs := defs₀ (F := Ideal)) 𝒱 e.c bd Finset.univ _ (Finset.subset_univ _)) $$ H10
  iintro %b %hb H10
  iapply (held_load (defs := defs₀ (F := Ideal)) 𝒱 e.c bd (outR ((i 0).val % 8)).set _ (out_sub o6)) $$ H12
  iintro %u %hu H12
  rw [← bind_pure (Prog.lift _)]
  iapply (col_store (defs := defs₀ (F := Ideal)) 𝒱 e.c bd ((i 0).val % 8) (128 * (16 * k.val + r.val)) (fun z => by rw [mem_outR, Nat.mod_mod]) _ o6
    (fun z j _ hz1 hz2 => stored3 hM h0 h1 (elts_read hM o6 hx) (gain_read hM o7 ha) (gain_read hM o7 hb) (by omega) z j hz1 hz2)) $$ H12
  iintro H12
  sl_step
  isplitl [H13]
  · iexact H13
  isplitl [H10]
  · iexact H10
  · iexact H12

theorem trips3 (hM : Means e gain) : Trips3 e 𝒱 bd i := by
  intro v4 m0 m1 u hs k acc
  obtain ⟨hs0, hs1, hu⟩ := (hM.S _ _ _ _).mp hs
  rw [body3_eq]
  have this := passes_ok (𝒱 := 𝒱) (bd := bd) e.c (fun r _ => pass3 e i (k0_pay1 m0) (k0_pay2 m1 u) k r) (J3 e i) (16 * k.val)
    (fun r a => pass3_ok hM (fun q => (pay1_apply m0 q).trans (hs0 _)) (fun q => by
      refine (pay1_apply (rsqrt (addf m1 (broadcast S8x1 u))) q).trans ?_
      show Ideal.rsqrt (m1 _ + u) = _
      rw [hs1, hu]
      rfl) k r a)
    [0, 1, 2, 3, 4, 5, 6, 7, 8, 9, 10, 11, 12, 13, 14, 15] 0 (by decide) acc
  have e0 : ∀ n a, (J3 e i (16 * n) a : sProp 𝕄I) = I3 e i n := fun n a => by
    unfold J3 I3
    rw [show 128 * (16 * n) = 2048 * n by omega]
  rw [Nat.add_zero, e0] at this
  refine this.trans ?_
  have e1 : J3 e i (16 * k.val + [0, 1, 2, 3, 4, 5, 6, 7, 8, 9, 10, 11, 12, 13, 14, (15 : Fin 16)].length) = fun _ => I3 e i (k.val + 1) := by
    funext a
    exact e0 (k.val + 1) a
  rw [e1]

/-- Every step is as the launch asks. -/
theorem good_of (hM : Means e gain) : Good e 𝒱 bd i where
  acc0 := (hM.A _ _ _ _).mpr fun k => by
    have h0 : k0_pay158 (F := Ideal) k = (0 : EReal) := Ideal.ofBits_zero_f32
    rw [h0]
    exact ⟨rfl, rfl⟩
  sum a b h := (hM.S _ _ _ _).mpr (by
    have h := (hM.A _ _ _ _).mp h
    have h1 : ∀ y : S8x1.Idx, k0_pay165 (F := Ideal) b y = meanE e (16 * (i 0).val + (2 * (y 0).val + 1)) := fun y => by
      rw [mean_apply]
      unfold meanE
      congr 1
      exact Finset.sum_congr rfl fun l _ => (h _).2
    have h0 : ∀ y : S8x1.Idx, k0_pay165 (F := Ideal) a y = meanE e (16 * (i 0).val + 2 * (y 0).val) := fun y => by
      rw [mean_apply]
      unfold meanE
      congr 1
      exact Finset.sum_congr rfl fun l _ => (h _).1
    refine ⟨fun y => ?_, h1, rfl⟩
    rw [pay164_apply, h0]
    rfl)
  t2 := trips2 hM
  t3 := trips3 hM

end Cert.KernelIdeal.Hand
-- ==== Proof.IWords.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.IPay
public import Idealize.ShloMosaic.Lib.BitcastConvert
public import Idealize.ShloMosaic.Lib.Pipeline.Value
public import Idealize.ShloMosaic.Lib.ValueLayout
public import Idealize.ShloMosaic.Lib.Exec
public import Idealize.ShloMosaic.Lib.Tactic
public import Idealize.ShloMosaic.Lib.VecWindow

/-!
The words the table is read by, and the gain as a row.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

variable (m : (ℓ : Loc nD τ sig) → Buf (Elt F) ℓ)

set_option maxHeartbeats 4000000 in
/-- The words of the table. -/
theorem V_main_v2 (c : Dev nD) : V m c main_v2 = Host.bitcastConvertWiden S8128x8192 32 (transpose S8128x8192x4 [0, 2, 1]
    (shapeCast S8128x4x8192 (m ((c : Thread nD τ).loc main_arg1) : S32512x8192.Idx → BitVec 8) shapeCasts_S32512x8192_S8128x4x8192) transposes_S8128x4x8192_S8128x8192x4_0_2_1) splits_S8128x8192_w32_S8128x8192x4_w8 := by
  show StableHlo.after (List.flatten [hostOps0]) (fun b => m (c, b)) (Proc.devRef .tc main_v2) = _
  simp only [hostOps0, List.flatten_cons, List.flatten_nil, List.append_nil, List.cons_append, List.nil_append]
  after_results_simp
  rfl

set_option maxHeartbeats 4000000 in
/-- The gain as a row. -/
theorem V_main_v3 (c : Dev nD) : V m c main_v3 = shapeCast S1x8192 (m ((c : Thread nD τ).loc main_arg3) : S8192.Idx → F .bf16) shapeCasts_S8192_S1x8192 := by
  show StableHlo.after (List.flatten [hostOps0]) (fun b => m (c, b)) (Proc.devRef .tc main_v3) = _
  simp only [hostOps0, List.flatten_cons, List.flatten_nil, List.append_nil, List.cons_append, List.nil_append]
  after_results_simp
  rfl

/-- A word moved up so that its byte `v % 4` is on top and back down is that byte with its sign. -/
theorem byte_of (w v : BitVec 32) (b : BitVec 8) (h : ∀ i, i < 8 → w.getLsbD (8 * (v.toNat % 4) + i) = b.getLsbD i) :
    IntOp.shrsi .vector (IntOp.shli .vector w (shiftOf v)) 24#32 = b.signExtend 32 := by
  have hs : (shiftOf v).toNat = 24 - 8 * (v.toNat % 4) := by
    have h3 : (v &&& 3#32).toNat = v.toNat % 4 := by
      rw [BitVec.toNat_and]
      exact Nat.and_two_pow_sub_one_eq_mod v.toNat 2
    show (24#32 - 8#32 * (v &&& 3#32)).toNat = _
    rw [BitVec.toNat_sub, BitVec.toNat_mul, h3]
    have := Nat.mod_lt v.toNat (show 0 < 4 by decide)
    show (2 ^ 32 - (8 * (v.toNat % 4)) % 2 ^ 32 + 24) % 2 ^ 32 = _
    omega
  have hlt : (shiftOf v).toNat < 32 := by omega
  have e1 : IntOp.shli .vector w (shiftOf v) = w <<< (24 - 8 * (v.toNat % 4)) := by
    unfold IntOp.shli
    rw [if_pos hlt, BitVec.shiftLeft_eq', hs]
  have e2 : ∀ x : BitVec 32, IntOp.shrsi .vector x 24#32 = x.sshiftRight 24 := fun x => by
    unfold IntOp.shrsi
    rw [if_pos (by decide)]
    rfl
  have hk := Nat.mod_lt v.toNat (show 0 < 4 by decide)
  rw [e1, e2]
  apply BitVec.eq_of_getLsbD_eq
  intro i hi
  rw [BitVec.getLsbD_sshiftRight, BitVec.getLsbD_signExtend]
  have bit : ∀ q, q < 8 → (w <<< (24 - 8 * (v.toNat % 4))).getLsbD (24 + q) = b.getLsbD q := fun q hq => by
    rw [BitVec.getLsbD_shiftLeft, ← h q hq]
    rw [show 24 + q - (24 - 8 * (v.toNat % 4)) = 8 * (v.toNat % 4) + q by omega]
    have a1 : 24 + q < 32 := by omega
    have a2 : ¬ (24 + q < 24 - 8 * (v.toNat % 4)) := by omega
    simp [a1, a2]
  have top : (w <<< (24 - 8 * (v.toNat % 4))).msb = b.msb := by
    rw [BitVec.msb_eq_getLsbD_last, BitVec.msb_eq_getLsbD_last]
    exact bit 7 (by decide)
  by_cases h8 : i < 8
  · have a1 : 24 + i < 32 := by omega
    have a2 : ¬ (32 ≤ i) := by omega
    rw [if_pos a1, if_pos h8, bit i h8]
    simp [hi, a2]
  · have a1 : ¬ (24 + i < 32) := by omega
    have a2 : ¬ (32 ≤ i) := by omega
    rw [if_neg a1, if_neg h8, top]
    simp [hi, a2]

/-- The byte of the table a word of `main_v2` has at its place. -/
theorem table_byte (T : S32512x8192.Idx → BitVec 8) (v : BitVec 32) (hv : v.toNat < 32512) (r : Fin 8128) (hr : r.val = v.toNat / 4) (j : Fin 8192) (i : ℕ) (hi : i < 8) :
    (Host.bitcastConvertWiden S8128x8192 32 (transpose S8128x8192x4 [0, 2, 1]
      (shapeCast S8128x4x8192 T shapeCasts_S32512x8192_S8128x4x8192) transposes_S8128x4x8192_S8128x8192x4_0_2_1) splits_S8128x8192_w32_S8128x8192x4_w8 (ValueIdx.ix2 r j)).getLsbD (8 * (v.toNat % 4) + i)
      = (T (ValueIdx.ix2 ⟨v.toNat, hv⟩ j)).getLsbD i := by
  have hk := Nat.mod_lt v.toNat (show 0 < 4 by decide)
  rw [Host.bitcastConvertWiden_getLsbD _ _ _ _ _ _ (by omega)]
  rw [show (8 * (v.toNat % 4) + i) % 8 = i by omega]
  refine congrArg (fun b : BitVec 8 => b.getLsbD i) ?_
  refine (transpose_apply _ _ _ _ (ValueIdx.ix3 r ⟨v.toNat % 4, hk⟩ j) (fun b => ?_)).trans ?_
  · fin_cases b
    · rfl
    · rfl
    · show v.toNat % 4 = (8 * (v.toNat % 4) + i) / 8
      omega
  · refine shapeCast_apply T _ _ (ValueIdx.ix2 ⟨v.toNat, hv⟩ j) ?_
    rw [Shape.rowMajor_val_three, Shape.rowMajor_val_two]
    show v.toNat * 8192 + j.val = (r.val * 4 + v.toNat % 4) * 8192 + j.val
    omega

end Cert.KernelIdeal.Hand
-- ==== Proof.IValue.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ILaunch
public import proofs.«01_k».proof.Proof.ITrips
public import proofs.«01_k».proof.Proof.IWords
public import Idealize.ShloMosaic.Lib.ValueLayout
public import Idealize.ShloMosaic.Lib.Exec
public import Idealize.ShloMosaic.Lib.Tactic
public import Idealize.ShloMosaic.Lib.VecWindow

/-!
The run of the kernel with the values of its two results.
-/

@[expose] public section

set_option maxRecDepth 8192
set_option maxHeartbeats 400000

noncomputable section

namespace Cert.KernelIdeal.Hand
open Cert.KernelIdeal Cert.KernelIdeal.Gen

open Cert.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄G" => MT nD τ sig Unit (Elt F) ℕ (Pipeline.UD sig nD τ) ℕ

variable (m : (ℓ : Loc nD τ sig) → Buf (Elt Ideal) ℓ) (hm : InTable m) (ρ : Dev nD → PrngReg)

/-- A step on core `c`, nothing asked of it: it has the words, the indices and the scales. -/
def base (c : Dev nD) : Env nD τ sig Ideal := env m hm (fun _ => noGoals) c

/-- The gain. -/
def gainOf (c : Dev nD) (j : Fin 8192) : EReal := (m ((c : Thread nD τ).loc main_arg3) : S8192.Idx → EReal) (ValueIdx.ix1 j)

/-- The gathered rows -/
def embOf (c : Dev nD) : Vec Ideal S2048x8192 .bf16 := fun x => tokE (base m hm c) (x 0).val (x 1)
/-- and the normalised ones. -/
def outOf (c : Dev nD) : Vec Ideal S2048x8192 .bf16 := fun x => (tokE (base m hm c) (x 0).val (x 1) * rstdE (base m hm c) (x 0).val * gainOf m c (x 1) : EReal)

/-- What the launch is to make true. -/
def goals (c : Dev nD) : Goals Ideal where
  ACC p k a b := accP (base m hm c) p (16 * k) a b
  SUM p m0 m1 u := (∀ y : S8x1.Idx, m0 y = rstdE (base m hm c) (16 * p + 2 * (y 0).val))
    ∧ (∀ y : S8x1.Idx, m1 y = meanE (base m hm c) (16 * p + (2 * (y 0).val + 1))) ∧ u = Ideal.ofBits .f32 0x358637BD#32
  QG y v := v = gainOf m c (y 1)
  QO x v := v = outOf m hm c x
  QE x v := v = embOf m hm c x

theorem means (c : Dev nD) : Means (env m hm (goals m hm) c) (gainOf m c) where
  E _ _ := Iff.rfl
  A _ _ _ _ := Iff.rfl
  S _ _ _ _ := Iff.rfl
  G _ _ := Iff.rfl
  O _ _ := Iff.rfl

/-- The widened gain, at an index. -/
theorem wide_apply (w : Vec Ideal S1x8192 .bf16) (y : S8x8192.Idx) : k0_pay118 (F := Ideal) w y = w (ValueIdx.ix2 0 (y 1)) := by
  refine (congrFun (shapeCast_self (broadcastTo S8x8192 (shapeCast S1x8192 (extf (F := Ideal) .f32 (w : FVec Ideal S1x8192 .bf16) bitsLt_bf16_f32) shapeCasts_S1x8192_S1x8192) broadcasts_S1x8192_S8x8192) shapeCasts_S8x8192_S8x8192) y).trans ?_
  rw [shapeCast_self]
  refine (broadcastTo_apply _ _ y (ValueIdx.ix2 (0 : Fin 1) (y 1)) (fun a => ?_)).trans rfl
  match a with
  | ⟨0, _⟩ => rfl
  | ⟨1, _⟩ => rfl

theorem gain_ok (c : Dev nD) (w : Vec Ideal S1x8192 .bf16) (hw : ∀ y, w y = (env m hm (goals m hm) c).a4.view.read (Elt Ideal) (env m hm (goals m hm) c).X4 y) (y : S8x8192.Idx) :
    (goals m hm c).QG y (k0_pay118 w y) := by
  show k0_pay118 w y = gainOf m c (y 1)
  refine (wide_apply w y).trans ((hw _).trans ?_)
  show (V m c main_v3 : S1x8192.Idx → EReal) (ValueIdx.ix2 0 (y 1)) = _
  rw [V_main_v3]
  exact shapeCast_apply _ _ _ (ValueIdx.ix1 (y 1)) (by
    rw [Shape.rowMajor_val_one, Shape.rowMajor_val_two]
    show (y 1).val = 0 * 8192 + (y 1).val
    omega)

theorem all_good : AllGood m hm (goals m hm) where
  good c i := good_of (means m hm c)
  gain := gain_ok m hm

/-- The two results, the rows in one batch. -/
def v5Of (c : Dev nD) : Buf (Elt Ideal) ((c.tc : Thread nD τ).loc main_v5) := shapeCast S1x2048x8192 (outOf m hm c) shapeCasts_S2048x8192_S1x2048x8192
def v6Of (c : Dev nD) : Buf (Elt Ideal) ((c.tc : Thread nD τ).loc main_v6) := shapeCast S1x2048x8192 (embOf m hm c) shapeCasts_S2048x8192_S1x2048x8192

/-- The host's lines after the launch. -/
theorem after_v5 (W : Valuation τ sig (Elt Ideal)) : StableHlo.after hostOps1 W (Proc.devRef .tc main_v5)
    = (shapeCast S1x2048x8192 (W (Proc.devRef .tc main_v4_0) : S2048x8192.Idx → EReal) shapeCasts_S2048x8192_S1x2048x8192 : S1x2048x8192.Idx → EReal) := by
  after_results_simp
  rfl

theorem after_v6 (W : Valuation τ sig (Elt Ideal)) : StableHlo.after hostOps1 W (Proc.devRef .tc main_v6)
    = (shapeCast S1x2048x8192 (W (Proc.devRef .tc main_v4_1) : S2048x8192.Idx → EReal) shapeCasts_S2048x8192_S1x2048x8192 : S1x2048x8192.Idx → EReal) := by
  after_results_simp
  rfl

/-- They write nothing else. -/
theorem after_keep (W : Valuation τ sig (Elt Ideal)) (b : Ref sig .tc) (h5 : b ≠ main_v5) (h6 : b ≠ main_v6) : StableHlo.after hostOps1 W (Proc.devRef .tc b) = W (Proc.devRef .tc b) :=
  StableHlo.after_of_forall_not_mem _ _ (List.forall_iff_forall_mem.mp (by
    simp only [hostOps1, List.Forall, StableHlo.reshape_writes, Finset.mem_singleton]
    exact ⟨fun h => h5 (Proc.devRef_injective _ h), fun h => h6 (Proc.devRef_injective _ h)⟩))

/-- What the region leaves, at a buffer it does not own and at the results. -/
theorem left_keep (c : Dev nD) (b : Ref sig .tc) (hb : b ∉ R0) :
    Pipeline.withArrays spec0 c (Pipeline.withR (V0 m c) R0 c (Gv (m := m) (outOf m hm c) (embOf m hm c) c)) (fun w => w.elim0) (Proc.devRef .tc b) = V m c b :=
  (Pipeline.withArrays_of_ne _ _ _ _ _ (fun w => w.elim0)).trans (Pipeline.withR_of_not_mem _ _ _ _ _ hb)

theorem left_out (c : Dev nD) (b : Ref sig .tc) (hb : b ∈ R0) :
    Pipeline.withArrays spec0 c (Pipeline.withR (V0 m c) R0 c (Gv (m := m) (outOf m hm c) (embOf m hm c) c)) (fun w => w.elim0) (Proc.devRef .tc b)
      = Gv (m := m) (outOf m hm c) (embOf m hm c) c b :=
  (Pipeline.withArrays_of_ne _ _ _ _ _ (fun w => w.elim0)).trans (Pipeline.withR_of_mem _ _ _ _ _ hb)

theorem arg_kept (c : Dev nD) (b : Ref sig .tc) (h5 : b ≠ main_v5) (h6 : b ≠ main_v6) (hb : b ∉ R0) :
    StableHlo.after hostOps1 (Pipeline.withArrays spec0 c (Pipeline.withR (V0 m c) R0 c (Gv (m := m) (outOf m hm c) (embOf m hm c) c)) fun w => w.elim0) (Proc.devRef .tc b) = V m c b :=
  (after_keep _ b h5 h6).trans (left_keep m hm c b hb)

/-- The run: both results, the arguments, the semaphores. -/
theorem run : θ_run defs (onTc (τ := τ) (main (F := Ideal))) ⟨m, fun _ => 0, ρ⟩ (fun r => (∀ c : Dev nD,
      r.2.mem ((c.tc : Thread nD τ).loc main_v5) = v5Of m hm c
      ∧ r.2.mem ((c.tc : Thread nD τ).loc main_v6) = v6Of m hm c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (h.1 c main_v5 (Pipeline.mem_restRefs_of main_v5 (by decide) (by decide))).trans ((after_v5 _).trans
        (congrArg (fun x : S2048x8192.Idx → EReal => shapeCast S1x2048x8192 x shapeCasts_S2048x8192_S1x2048x8192) (left_out m hm c main_v4_0 (by decide)))),
      (h.1 c main_v6 (Pipeline.mem_restRefs_of main_v6 (by decide) (by decide))).trans ((after_v6 _).trans
        (congrArg (fun x : S2048x8192.Idx → EReal => shapeCast S1x2048x8192 x shapeCasts_S2048x8192_S1x2048x8192) (left_out m hm c main_v4_1 (by decide)))),
      (h.1 c main_arg0 (Pipeline.mem_restRefs_of main_arg0 (by decide) (by decide))).trans ((arg_kept m hm c main_arg0 (by decide) (by decide) (by decide)).trans (V_main_arg0 m c)),
      (h.1 c main_arg1 (Pipeline.mem_restRefs_of main_arg1 (by decide) (by decide))).trans ((arg_kept m hm c main_arg1 (by decide) (by decide) (by decide)).trans (V_main_arg1 m c)),
      (h.1 c main_arg2 (Pipeline.mem_restRefs_of main_arg2 (by decide) (by decide))).trans ((arg_kept m hm c main_arg2 (by decide) (by decide) (by decide)).trans (V_main_arg2 m c)),
      (h.1 c main_arg3 (Pipeline.mem_restRefs_of main_arg3 (by decide) (by decide))).trans ((arg_kept m hm c main_arg3 (by decide) (by decide) (by decide)).trans (V_main_arg3 m c))⟩, h.2⟩)
    (run_main (m := m) (hm := hm) (G := goals m hm) ρ (all_good m hm) (outOf m hm) (embOf m hm) (fun _ _ _ h => h) (fun _ _ _ h => h))

end Cert.KernelIdeal.Hand
-- ==== Proof.RValue.lean ====
module

public import proofs.«01_k».proof.Proof.Gen.ReferenceIdeal
public import proofs.«01_k».proof.Proof.Gen.ReferenceIdeal.Run
public import Idealize.ShloMosaic.Lib.ValueIdxCore
public import Idealize.ShloMosaic.Lib.ReduceAll
public import Idealize.ShloMosaic.Lib.IdealHost
public import Idealize.ShloMosaic.Lib.Pipeline.Value
public import Idealize.ShloMosaic.Lib.Pointwise.Tactic
public import Idealize.ShloMosaic.Lib.Pointwise.Reduce
public import Idealize.ShloMosaic.Lib.ValueLayout

/-!
The reference, read at an index: token `t`'s row of the table, every byte widened and scaled, and that row over the root
of its mean of squares, times the gain.
-/

@[expose] public section

set_option maxRecDepth 8192
set_option maxHeartbeats 400000

noncomputable section

namespace Cert.ReferenceIdeal.Hand
open Cert.ReferenceIdeal Cert.ReferenceIdeal.Gen
open Idealize.ShloMosaic Idealize.ShloMosaic.TcCoe Idealize.ShloMosaic.ValueIdx
open Idealize.SL.Sem

variable (ids : IVec S1x2048 32) (tab : IVec S32512x8192 8) (sc : FVec Ideal S32512 .f32) (gn : FVec Ideal S8192 .bf16)

/-- The indices, a negative one counted from the end of the table. -/
def refIdx : IVec S1x2048x1 32 := broadcastInDim S1x2048x1 ![0, 1] bcast_S1x2048_S1x2048x1_0_1 (select (cmpi .slt ids (broadcastInDim S1x2048 ![] bcast_S_S1x2048 (constantI S_ 32 0#32))) (addi ids (broadcastInDim S1x2048 ![] bcast_S_S1x2048 (constantI S_ 32 32512#32))) ids)

/-- Whether each index is a row of the table. -/
def refMask : IVec S1x2048 1 := Host.reduce IntOp.andi (andi (cmpi .sge (refIdx ids) (broadcastInDim S1x2048x1 ![] bcast_S_S1x2048x1 (constantI S_ 32 0#32))) (cmpi .sle (refIdx ids) (broadcastInDim S1x2048x1 ![0, 1, 2] bcast_S1x1x1_S1x2048x1_0_1_2 (broadcastInDim S1x1x1 ![2] bcast_S1_S1x1x1_2 (constantI S1 32 32511#32))))) (constantI S_ 1 1#1) reducesTo_S1x2048x1_S1x2048_d2 h_S_

/-- The gathered rows, scaled. -/
def refEmb : FVec Ideal S1x2048x8192 .bf16 := mulf (truncf .bf16 (sitofp .f32 (extsi 32 (select (broadcastInDim S1x2048x8192 ![0, 1] bcast_S1x2048_S1x2048x8192_0_1 (refMask ids)) (Host.gather gather_S32512x8192_S1x2048x1_S1x2048x8192_2_0_n_n_0_2_18192 tab (refIdx ids)) (broadcastInDim S1x2048x8192 ![] bcast_S_S1x2048x8192 (constantI S_ 8 128#8))) natLt_8_32)) bitsLt_bf16_f32) (broadcastInDim S1x2048x8192 ![0, 1, 2] bcast_S1x2048x1_S1x2048x8192_0_1_2 (broadcastInDim S1x2048x1 ![0, 1] bcast_S1x2048_S1x2048x1_0_1 (truncf .bf16 (select (refMask ids) (Host.gather gather_S32512_S1x2048x1_S1x2048_n_0_n_n_0_2_1 sc (refIdx ids)) (broadcastInDim S1x2048 ![] bcast_S_S1x2048 (constant S_ .f32 0x7FC00000#32))) bitsLt_bf16_f32)))

/-- The normalised rows. -/
def refOut : FVec Ideal S1x2048x8192 .bf16 := truncf .bf16 (mulf (mulf (extf .f32 (refEmb ids tab sc) bitsLt_bf16_f32) (broadcastInDim S1x2048x8192 ![0, 1, 2] bcast_S1x2048x1_S1x2048x8192_0_1_2 (Host.rsqrt (addf (Host.divf (broadcastInDim S1x2048x1 ![0, 1] bcast_S1x2048_S1x2048x1_0_1 (Host.reduceAdd (mulf (extf .f32 (refEmb ids tab sc) bitsLt_bf16_f32) (extf .f32 (refEmb ids tab sc) bitsLt_bf16_f32)) (constant S_ .f32 0x00000000#32) reducesTo_S1x2048x8192_S1x2048_d2 h_S_)) (broadcastInDim S1x2048x1 ![] bcast_S_S1x2048x1 (constant S_ .f32 0x46000000#32))) (broadcastInDim S1x2048x1 ![] bcast_S_S1x2048x1 (constant S_ .f32 0x358637BD#32)))))) (broadcastInDim S1x2048x8192 ![0, 1, 2] bcast_S1x1x8192_S1x2048x8192_0_1_2 (broadcastInDim S1x1x8192 ![2] bcast_S8192_S1x1x8192_2 (extf .f32 gn bitsLt_bf16_f32)))) bitsLt_bf16_f32

theorem res_out (m : (ℓ : Loc nD τ sig) → Buf (Elt Ideal) ℓ) (c : Dev nD) : Value.res_main_v24 (F := Ideal) m c
    = refOut (m ((c.tc : Thread nD τ).loc main_arg0)) (m ((c.tc : Thread nD τ).loc main_arg1)) (m ((c.tc : Thread nD τ).loc main_arg2)) (m ((c.tc : Thread nD τ).loc main_arg3)) := by
  unfold Value.res_main_v24
  rfl

/-- The reference's run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v8) = refEmb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res_out m c), (h c).2⟩) (Value.run (F := Ideal) m ρ)

variable {ids} (hids : ∀ x, (ids x).toNat < 32512)
include hids

theorem refIdx_apply (k : S1x2048x1.Idx) : refIdx ids k = ids (ValueIdx.ix2 0 (k 1)) := by
  unfold refIdx
  refine (broadcastInDim_apply _ _ _ k (ValueIdx.ix2 0 (k 1)) (fun a => by fin_cases a <;> simp [ValueIdx.ix2])).trans ?_
  have h := hids (ValueIdx.ix2 0 (k 1))
  have hn : ¬ (ids (ValueIdx.ix2 0 (k 1))).slt 0#32 := by
    rw [BitVec.slt_iff_toInt_lt, BitVec.toInt_eq_toNat_of_lt (by omega)]
    simp
  show Scalar.select (BitVec.ofBool ((ids (ValueIdx.ix2 0 (k 1))).slt (broadcastInDim S1x2048 ![] bcast_S_S1x2048 (constantI S_ 32 0#32) (ValueIdx.ix2 0 (k 1))))) _ _ = _
  rw [show broadcastInDim S1x2048 ![] bcast_S_S1x2048 (constantI S_ 32 0#32) (ValueIdx.ix2 0 (k 1)) = 0#32 from rfl, Bool.eq_false_of_not_eq_true hn]
  rfl

theorem refMask_apply (k : S1x2048.Idx) : refMask ids k = 1#1 := by
  unfold refMask
  refine Host.reduce_andi_one _ _ _ _ _ rfl fun i => ?_
  have h := hids (ValueIdx.ix2 0 (i 1))
  have e := refIdx_apply hids i
  have ht : (ids (ValueIdx.ix2 0 (i 1))).toInt = (ids (ValueIdx.ix2 0 (i 1))).toNat := BitVec.toInt_eq_toNat_of_lt (by omega)
  have h0 : IntOp.cmpi .sge (refIdx ids i) 0#32 = 1#1 := by
    rw [e]
    have : BitVec.sle 0#32 (ids (ValueIdx.ix2 0 (i 1))) = true := by
      rw [BitVec.sle_iff_toInt_le, ht]
      simp
    exact congrArg BitVec.ofBool this
  have h1 : IntOp.cmpi .sle (refIdx ids i) 32511#32 = 1#1 := by
    rw [e]
    have : BitVec.sle (ids (ValueIdx.ix2 0 (i 1))) 32511#32 = true := by
      rw [BitVec.sle_iff_toInt_le, ht, show (32511#32 : BitVec 32).toInt = 32511 by decide]
      omega
    exact congrArg BitVec.ofBool this
  show IntOp.andi (IntOp.cmpi .sge (refIdx ids i) 0#32) (IntOp.cmpi .sle (refIdx ids i) 32511#32) = 1#1
  rw [h0, h1]
  rfl

/-- The row an index picks. -/
theorem row_of (k : S1x2048x1.Idx) (q : Fin 2048) (hq : q.val = (k 1).val) : min (refIdx ids k).toInt.toNat (32512 - 1) = (ids (ValueIdx.ix2 0 q)).toNat := by
  have e : q = k 1 := Fin.ext hq
  subst e
  have h := hids (ValueIdx.ix2 0 (k 1))
  refine (congrArg (fun w : BitVec 32 => min w.toInt.toNat (32512 - 1)) (refIdx_apply hids k)).trans ?_
  show min (ids (ValueIdx.ix2 0 (k 1))).toInt.toNat (32512 - 1) = _
  rw [BitVec.toInt_eq_toNat_of_lt (by omega)]
  omega

theorem gather_rows (k : S1x2048x8192.Idx) : Host.gather gather_S32512x8192_S1x2048x1_S1x2048x8192_2_0_n_n_0_2_18192 tab (refIdx ids) k
    = tab (ValueIdx.ix2 ⟨(ids (ValueIdx.ix2 0 (k 1))).toNat, hids _⟩ (k 2)) := by
  unfold Host.gather
  congr 1
  funext a
  refine Fin.ext ?_
  show GatherDims.start gather_S32512x8192_S1x2048x1_S1x2048x8192_2_0_n_n_0_2_18192 k (refIdx ids) a
    + GatherDims.batchCoord gather_S32512x8192_S1x2048x1_S1x2048x8192_2_0_n_n_0_2_18192 k a
    + GatherDims.offCoord gather_S32512x8192_S1x2048x1_S1x2048x8192_2_0_n_n_0_2_18192 k a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32512x8192_S1x2048x1_S1x2048x8192_2_0_n_n_0_2_18192.startIndexMap from List.mem_singleton.mpr rfl)]
    exact row_of hids _ (k 1) rfl
  · have hs : GatherDims.start gather_S32512x8192_S1x2048x1_S1x2048x8192_2_0_n_n_0_2_18192 k (refIdx ids) 1 = 0 := by
      unfold GatherDims.start
      exact dif_neg (show (1 : Fin 2) ∉ [(0 : Fin 2)] by decide)
    rw [hs]
    simp only [Nat.zero_add]
    unfold GatherDims.offCoord
    rw [dif_pos ((GatherDims.mem_sKept _ _).mpr ⟨show (1 : Fin 2) ∉ [(0 : Fin 2)] by decide, List.not_mem_nil⟩)]
    rfl

theorem gather_scales (k : S1x2048.Idx) : Host.gather gather_S32512_S1x2048x1_S1x2048_n_0_n_n_0_2_1 sc (refIdx ids) k
    = sc (ValueIdx.ix1 ⟨(ids (ValueIdx.ix2 0 (k 1))).toNat, hids _⟩) := by
  refine (gather_take_apply (R := 1) (C := 2048) (N := 32512) (by decide) _ sc (refIdx ids) k).trans ?_
  refine congrArg sc (congrArg ValueIdx.ix1 (Fin.ext ?_))
  exact row_of hids _ (k 1) rfl

omit hids in
/-- The sums of the rows. -/
theorem sum_rows (v : FVec Ideal S1x2048x8192 .f32) (t : S1x2048.Idx) :
    Host.reduceAdd v (constant S_ .f32 0x00000000#32) reducesTo_S1x2048x8192_S1x2048_d2 h_S_ t = (∑ j : Fin 8192, v (ValueIdx.ix3 (0 : Fin 1) (t 1) j) : EReal) := by
  have h0 : (t 0).val < 1 := (t 0).isLt
  refine (Ideal.hostReduceAdd_r3_a2 reducesTo_S1x2048x8192_S1x2048_d2 v _ t).trans ?_
  refine (congrArg₂ (fun x y : EReal => x + y) (show (constant (F := Ideal) S_ .f32 0x00000000#32 (Shape.Idx.first h_S_) : EReal) = 0 from Ideal.ofBits_zero_f32) rfl).trans ?_
  refine (zero_add _).trans (Finset.sum_congr rfl fun j _ => congrArg v ?_)
  funext a
  apply Fin.ext
  fin_cases a
  · show (t 0).val = 0
    omega
  · rfl
  · rfl

/-- An element of row `t` of the gathered rows. -/
def el (ids : IVec S1x2048 32) (tab : IVec S32512x8192 8) (sc : FVec Ideal S32512 .f32) (hids : ∀ x, (ids x).toNat < 32512) (t : Fin 2048) (j : Fin 8192) : EReal :=
  FloatOps.sitofp (F := Ideal) .f32 ((tab (ValueIdx.ix2 ⟨(ids (ValueIdx.ix2 0 t)).toNat, hids _⟩ j)).signExtend 32)
    * sc (ValueIdx.ix1 ⟨(ids (ValueIdx.ix2 0 t)).toNat, hids _⟩)

/-- The gathered rows, read at an index. -/
theorem refEmb_apply (k : S1x2048x8192.Idx) : refEmb ids tab sc k = el ids tab sc hids (k 1) (k 2) := by
  unfold refEmb el
  have hk0 : (k 0).val < 1 := (k 0).isLt
  refine congrArg₂ (fun x y : EReal => x * y) ?_ ?_
  · have e : (select (broadcastInDim S1x2048x8192 ![0, 1] bcast_S1x2048_S1x2048x8192_0_1 (refMask ids))
        (Host.gather gather_S32512x8192_S1x2048x1_S1x2048x8192_2_0_n_n_0_2_18192 tab (refIdx ids))
        (broadcastInDim S1x2048x8192 ![] bcast_S_S1x2048x8192 (constantI S_ 8 128#8)) k : BitVec 8)
        = tab (ValueIdx.ix2 ⟨(ids (ValueIdx.ix2 0 (k 1))).toNat, hids _⟩ (k 2)) := by
      show Scalar.select (broadcastInDim S1x2048x8192 ![0, 1] bcast_S1x2048_S1x2048x8192_0_1 (refMask ids) k) _ _ = _
      have em : broadcastInDim S1x2048x8192 ![0, 1] bcast_S1x2048_S1x2048x8192_0_1 (refMask ids) k = 1#1 :=
        (broadcastInDim_apply _ _ _ k (ValueIdx.ix2 (0 : Fin 1) (k 1)) (fun a => by fin_cases a <;> simp [ValueIdx.ix2])).trans (refMask_apply hids _)
      refine (congrArg (fun b : BitVec 1 => Scalar.select b _ _) em).trans ?_
      exact gather_rows tab hids k
    exact congrArg (fun b : BitVec 8 => (FloatOps.sitofp (F := Ideal) .f32 (b.signExtend 32) : EReal)) e
  · refine (broadcastInDim_apply _ _ _ k (ValueIdx.ix3 (0 : Fin 1) (k 1) (0 : Fin 1)) (fun a => by fin_cases a <;> simp [ValueIdx.ix3])).trans ?_
    refine (broadcastInDim_apply _ _ _ _ (ValueIdx.ix2 (0 : Fin 1) (k 1)) (fun a => by fin_cases a <;> simp [ValueIdx.ix2, ValueIdx.ix3])).trans ?_
    show Scalar.select (refMask ids (ValueIdx.ix2 (0 : Fin 1) (k 1))) _ _ = _
    rw [refMask_apply hids]
    exact gather_scales sc hids _

/-- The reference's reciprocal root of row `t`. -/
def rs (ids : IVec S1x2048 32) (tab : IVec S32512x8192 8) (sc : FVec Ideal S32512 .f32) (hids : ∀ x, (ids x).toNat < 32512) (t : Fin 2048) : EReal :=
  Ideal.rsqrt (Ideal.div (∑ j : Fin 8192, el ids tab sc hids t j * el ids tab sc hids t j) (Ideal.ofBits .f32 0x46000000#32) + Ideal.ofBits .f32 0x358637BD#32)

/-- The normalised rows, read at an index. -/
theorem refOut_apply (k : S1x2048x8192.Idx) : refOut ids tab sc gn k = (el ids tab sc hids (k 1) (k 2) * rs ids tab sc hids (k 1) * gn (ValueIdx.ix1 (k 2)) : EReal) := by
  unfold refOut
  refine congrArg₂ (fun x y : EReal => x * y) (congrArg₂ (fun x y : EReal => x * y) (refEmb_apply tab sc hids k) ?_) ?_
  · refine (broadcastInDim_apply _ _ _ k (ValueIdx.ix3 (0 : Fin 1) (k 1) (0 : Fin 1)) (fun a => by fin_cases a <;> simp [ValueIdx.ix3])).trans ?_
    unfold rs
    refine congrArg Ideal.rsqrt (congrArg₂ (fun x y : EReal => x + y) (congrArg₂ Ideal.div ?_ rfl) rfl)
    refine (broadcastInDim_apply _ _ _ _ (ValueIdx.ix2 (0 : Fin 1) (k 1)) (fun a => by fin_cases a <;> simp [ValueIdx.ix2, ValueIdx.ix3])).trans ?_
    refine (sum_rows _ _).trans (Finset.sum_congr rfl fun j _ => ?_)
    have e := refEmb_apply tab sc hids (ValueIdx.ix3 (0 : Fin 1) (k 1) j)
    exact congrArg₂ (fun x y : EReal => x * y) e e
  · refine (broadcastInDim_apply _ _ _ k (ValueIdx.ix3 (0 : Fin 1) (0 : Fin 1) (k 2)) (fun a => by fin_cases a <;> simp [ValueIdx.ix3])).trans ?_
    exact broadcastInDim_apply _ _ _ _ (ValueIdx.ix1 (k 2)) (fun a => by fin_cases a; simp [ValueIdx.ix1, ValueIdx.ix3])

end Cert.ReferenceIdeal.Hand
end
-- ==== Proof.ISame.lean ====
module

public import proofs.«01_k».proof.Proof.IValue
public import proofs.«01_k».proof.Proof.RValue

/-!
Both results of the kernel are the reference's.
-/

@[expose] public section

set_option maxRecDepth 8192
set_option maxHeartbeats 400000

noncomputable section

namespace Cert.KernelIdeal.Hand
open Cert.KernelIdeal Cert.KernelIdeal.Gen
open Cert.Hand
open Idealize.ShloMosaic Idealize.ShloMosaic.TcCoe Idealize.ShloMosaic.ValueIdx

/-- The reciprocal of the row's length -/
theorem inv_len : Ideal.ofBits .f32 0x39000000#32 = (((8192 : ℝ)⁻¹ : ℝ) : EReal) := by
  simp [Ideal.ofBits, Ideal.ieee, -EReal.coe_mul]; norm_num
/-- and the length. -/
theorem len : Ideal.ofBits .f32 0x46000000#32 = ((8192 : ℝ) : EReal) := by
  simp [Ideal.ofBits, Ideal.ieee, -EReal.coe_mul]; norm_num

/-- Times the one is over the other. -/
theorem mul_inv_len (x : EReal) : x * Ideal.ofBits .f32 0x39000000#32 = Ideal.div x (Ideal.ofBits .f32 0x46000000#32) := by
  rw [inv_len, len]
  unfold Ideal.div
  rw [if_neg (by norm_num), EReal.coe_inv]

/-- The columns by lanes and groups. -/
theorem sum_cols (f : ℕ → EReal) : (∑ l : Fin 128, ∑ g ∈ Finset.range 64, f (128 * g + l.val)) = ∑ j : Fin 8192, f j.val := by
  have e : (∑ j : Fin (64 * 128), f j.val) = ∑ q : Fin 64 × Fin 128, f (128 * q.1.val + q.2.val) :=
    (Fintype.sum_equiv finProdFinEquiv _ _ fun q => congrArg f (by
      show 128 * q.1.val + q.2.val = q.2.val + 128 * q.1.val
      omega)).symm
  refine Eq.trans ?_ e.symm
  rw [Fintype.sum_prod_type, Finset.sum_comm, Finset.sum_range]

variable (m : (ℓ : Loc nD τ sig) → Buf (Elt Ideal) ℓ) (hm : InTable m) (c : Dev nD)

/-- The arguments, as arrays. -/
abbrev idsA : S1x2048.Idx → BitVec 32 := m ((c : Thread nD τ).loc main_arg0)
abbrev tabA : S32512x8192.Idx → BitVec 8 := m ((c : Thread nD τ).loc main_arg1)
abbrev scA : S32512.Idx → EReal := m ((c : Thread nD τ).loc main_arg2)
abbrev gnA : S8192.Idx → EReal := m ((c : Thread nD τ).loc main_arg3)

include hm in
theorem ids_lt (x : S1x2048.Idx) : (idsA m c x).toNat < 32512 := by
  have h := hm c x
  rw [V_main_arg0] at h
  exact h

theorem base_id (n : ℕ) : idAt (base m hm c) 0 n = idsA m c (ValueIdx.ix2 0 ⟨n % 2048, Nat.mod_lt _ (by decide)⟩) := by
  have h : idAt (base m hm c) 0 n = (V m c main_arg0 : S1x2048.Idx → BitVec 32) (ValueIdx.ix2 0 ⟨(16 * 0 + n) % 2048, Nat.mod_lt _ (by decide)⟩) := rfl
  rw [h, V_main_arg0]
  exact congrArg (fun q => idsA m c (ValueIdx.ix2 0 q)) (Fin.ext (by show (16 * 0 + n) % 2048 = n % 2048; omega))

/-- A token's element is the reference's. -/
theorem tok_same (t : Fin 2048) (j : Fin 8192) :
    tokE (base m hm c) t.val j = Cert.ReferenceIdeal.Hand.el (idsA m c) (tabA m c) (scA m c) (ids_lt m hm c) t j := by
  have hid : idAt (base m hm c) 0 t.val = idsA m c (ValueIdx.ix2 0 t) :=
    (base_id m hm c t.val).trans (congrArg (fun q => idsA m c (ValueIdx.ix2 0 q)) (Fin.ext (Nat.mod_eq_of_lt t.isLt)))
  have hlt := ids_lt m hm c (ValueIdx.ix2 0 t)
  unfold tokE eltOf Cert.ReferenceIdeal.Hand.el
  refine congrArg₂ (fun x y : EReal => x * y) ?_ ?_
  · refine congrArg (fun b : BitVec 32 => (FloatOps.sitofp (F := Ideal) .f32 b : EReal)) ?_
    rw [hid]
    refine byte_of _ _ _ fun i hi => ?_
    have hr : rown (base m hm c) t.val = (idsA m c (ValueIdx.ix2 0 t)).toNat / 4 := by
      have h : rown (base m hm c) t.val = (idAt (base m hm c) 0 t.val >>> (2#32)).toNat := by
        unfold rown idAt
        simp only [Nat.mul_zero, Nat.zero_add]
      rw [h, hid]
      simp [Nat.shiftRight_eq_div_pow]
    have hw : tabv (base m hm c) (rown (base m hm c) t.val) j
        = (V m c main_v2 : S8128x8192.Idx → BitVec 32) (ValueIdx.ix2 ⟨rown (base m hm c) t.val % 8128, Nat.mod_lt _ (by decide)⟩ j) := rfl
    rw [hw, V_main_v2]
    exact table_byte (tabA m c) _ hlt _ (by
      show rown (base m hm c) t.val % 8128 = _
      rw [hr]
      omega) j i hi
  · have h : scOf (base m hm c) t.val = (V m c main_arg2 : S32512.Idx → EReal) (ValueIdx.ix1 ⟨(idAt (base m hm c) 0 t.val).toNat % 32512, Nat.mod_lt _ (by decide)⟩) := rfl
    rw [h, V_main_arg2]
    refine congrArg (fun q => scA m c (ValueIdx.ix1 q)) (Fin.ext ?_)
    show (idAt (base m hm c) 0 t.val).toNat % 32512 = _
    rw [hid]
    exact Nat.mod_eq_of_lt hlt

/-- A token's reciprocal root is the reference's. -/
theorem rstd_same (t : Fin 2048) :
    rstdE (base m hm c) t.val = Cert.ReferenceIdeal.Hand.rs (idsA m c) (tabA m c) (scA m c) (ids_lt m hm c) t := by
  unfold rstdE meanE Cert.ReferenceIdeal.Hand.rs
  rw [sum_cols (sqE (base m hm c) t.val), mul_inv_len]
  refine congrArg (fun s : EReal => Ideal.rsqrt (Ideal.div s (Ideal.ofBits .f32 0x46000000#32) + Ideal.ofBits .f32 0x358637BD#32)) (Finset.sum_congr rfl fun j _ => ?_)
  have e : tokE (base m hm c) t.val ⟨j.val % 8192, Nat.mod_lt _ (by decide)⟩ = Cert.ReferenceIdeal.Hand.el (idsA m c) (tabA m c) (scA m c) (ids_lt m hm c) t j :=
    (congrArg (tokE (base m hm c) t.val) (Fin.ext (Nat.mod_eq_of_lt j.isLt))).trans (tok_same m hm c t j)
  unfold sqE
  exact congrArg₂ (fun x y : EReal => x * y) e e

/-- The rows in one batch, at an index. -/
theorem batch_apply (x : S2048x8192.Idx → EReal) (k : S1x2048x8192.Idx) :
    shapeCast S1x2048x8192 x shapeCasts_S2048x8192_S1x2048x8192 k = x (ValueIdx.ix2 (k 1) (k 2)) := by
  have h0 : (k 0).val < 1 := (k 0).isLt
  exact shapeCast_apply x _ k _ (by
    rw [Shape.rowMajor_val_three, Shape.rowMajor_val_two]
    show (k 1).val * 8192 + (k 2).val = ((k 0).val * 2048 + (k 1).val) * 8192 + (k 2).val
    omega)

/-- The gathered rows are the reference's, -/
theorem emb_same : v6Of m hm c = Cert.ReferenceIdeal.Hand.refEmb (idsA m c) (tabA m c) (scA m c) := by
  funext k
  refine (batch_apply (embOf m hm c) k).trans (Eq.trans ?_ (Cert.ReferenceIdeal.Hand.refEmb_apply (tabA m c) (scA m c) (ids_lt m hm c) k).symm)
  exact tok_same m hm c (k 1) (k 2)

/-- and so are the normalised ones. -/
theorem out_same : v5Of m hm c = Cert.ReferenceIdeal.Hand.refOut (idsA m c) (tabA m c) (scA m c) (gnA m c) := by
  funext k
  refine (batch_apply (outOf m hm c) k).trans (Eq.trans ?_ (Cert.ReferenceIdeal.Hand.refOut_apply (tabA m c) (scA m c) (gnA m c) (ids_lt m hm c) k).symm)
  exact congrArg₂ (fun x y : EReal => x * y) (congrArg₂ (fun x y : EReal => x * y) (tok_same m hm c (k 1) (k 2)) (rstd_same m hm c (k 1))) rfl

end Cert.KernelIdeal.Hand
end
-- ==== Proof.Bound.lean ====
module

public import proofs.«01_k».proof.Proof.Gen.Pre_ids_in_table
public import Idealize.ShloMosaic.Lib.WordArith
public import Idealize.ShloMosaic.PureOps.BitExact

/-!
What the precondition says of the indices: each is a row of the table.
-/

@[expose] public section

namespace Cert.Hand

open Cert.Pre_ids_in_table
open Idealize.ShloMosaic Idealize.ShloMosaic.WordArith

theorem lt_of_ids_in_table {F : FTy → Type} [FloatOps F] (a : IVec S1x2048 32) (b : IVec S32512x8192 8) (c : FVec F S32512 .f32) (d : FVec F S8192 .bf16)
    (h : fn (F := F) a b c d = fun _ => 1#1) (y : S1x2048.Idx) : (a y).toNat < 32512 := by
  have e := congrFun h y
  simp only [fn, andi, cmpi, broadcastInDim, constantI, IntOp.cmpi, andi_ofBool, ofBool_eq_one_iff, Bool.and_eq_true] at e
  obtain ⟨hge, hlt⟩ := e
  simp only [BitVec.sle, BitVec.slt, decide_eq_true_eq, BitVec.toInt, BitVec.toNat_ofNat] at hge hlt
  omega

end Cert.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_table
public import proofs.«01_k».proof.Proof.KGood
public import proofs.«01_k».proof.Proof.ISame
public import proofs.«01_k».proof.Proof.Bound
public import Idealize.ShloMosaic.Lib.Bf16Pair
public import Idealize.ShloMosaic.Adequacy
public import Idealize.ShloMosaic.Init

/-!
The claims: both programs and the reference run and leave their arguments, the rewrites of the idealization keep what they
rewrite, and both results of the idealized kernel are the reference's.
-/

@[expose] public section

noncomputable section

namespace Cert.Proof

open Idealize.ShloMosaic Idealize.ShloMosaic.TcCoe Idealize.SL.Sem

theorem table_Kernel (m : (ℓ : Loc Kernel.nD Kernel.τ Kernel.sig) → Buf (Elt Bits) ℓ) (h : Pre_Kernel m) : Kernel.Hand.InTable m := fun c x => by
  rw [Kernel.Gen.V_main_arg0]
  exact Hand.lt_of_ids_in_table _ _ _ _ (h c) x

theorem table_KernelIdeal (m : (ℓ : Loc KernelIdeal.nD KernelIdeal.τ KernelIdeal.sig) → Buf (Elt Ideal) ℓ) (h : Pre_KernelIdeal m) : KernelIdeal.Hand.InTable m := fun c x => by
  rw [KernelIdeal.Gen.V_main_arg0]
  exact Hand.lt_of_ids_in_table _ _ _ _ (h c) x

theorem frame_ReferenceIdeal (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2.2, sem_eq_zero_of_no_sems (by decide) r.2⟩)
    (ReferenceIdeal.Value.run (F := Ideal) m g)

theorem frame_KernelIdeal (m : (ℓ : Loc KernelIdeal.nD KernelIdeal.τ KernelIdeal.sig) → Buf (Elt Ideal) ℓ) (g : Dev KernelIdeal.nD → PrngReg) (h : Pre_KernelIdeal m) :
    θ_run (KernelIdeal.defs (F := Ideal)) (onTc (τ := KernelIdeal.τ) (KernelIdeal.main (F := Ideal))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run KernelIdeal.defs _ _).mono (fun r h => ⟨fun c => (h.1 c).2.2, h.2⟩) (KernelIdeal.Hand.run m (table_KernelIdeal m h) g)

/-- Both results of the kernel are the reference's. -/
theorem same : Cert.algebraic_KernelIdeal_ReferenceIdeal := fun m g m' g' h harg =>
  ⟨fun c => KernelIdeal.Hand.v5Of m (table_KernelIdeal m h) c, fun c => KernelIdeal.Hand.v6Of m (table_KernelIdeal m h) c,
    (θ_run KernelIdeal.defs _ _).mono (fun r h => h.1) (KernelIdeal.Hand.run m (table_KernelIdeal m h) g),
    (θ_run ReferenceIdeal.defs _ _).mono (fun r hr c => by
      obtain ⟨a0, a1, a2, a3⟩ := harg c
      obtain ⟨r0, r1, rest⟩ := hr c
      refine ⟨r0.trans ?_, r1.trans ?_, rest⟩
      · rw [a0, a1, a2, a3]
        exact (KernelIdeal.Hand.out_same m (table_KernelIdeal m h) c).symm
      · rw [a0, a1, a2]
        exact (KernelIdeal.Hand.emb_same m (table_KernelIdeal m h) c).symm) (ReferenceIdeal.Hand.run m' g')⟩

theorem claim : Cert.Claim := ⟨Cert.Kernel.Gen.facts, Cert.KernelIdeal.Gen.facts, Cert.ReferenceIdeal.Gen.facts, Cert.Pre_ids_in_table.Gen.facts,
  fun m g h => Kernel.Hand.frame g (Kernel.Hand.all_good (table_Kernel m h)),
  fun m g h => frame_KernelIdeal m g h,
  fun m g _ => frame_ReferenceIdeal m g,
  fun m g _ => frame_ReferenceIdeal m g,
  ⟨IdealRules.bf16_pair.packStatement _, IdealRules.bf16_pair.statement _ _, IdealRules.bf16_pair.statement _ _⟩,
  same⟩

end Cert.Proof

end
